-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14)
      ∧ r.2.mem ((c.tc : Thread Cert.Kernel4.nD Cert.Kernel4.τ).loc Cert.Kernel4.main_arg15) = m ((c.tc : Thread Cert.Kernel4.nD Cert.Kernel4.τ).loc Cert.Kernel4.main_arg15))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
      ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14)
      ∧ r.2.mem ((c.tc : Thread Cert.Reference4Ideal.nD Cert.Reference4Ideal.τ).loc Cert.Reference4Ideal.main_arg15) = m ((c.tc : Thread Cert.Reference4Ideal.nD Cert.Reference4Ideal.τ).loc Cert.Reference4Ideal.main_arg15))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v17)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v20_0)) (v1 : (c : Dev Cert.Kernel3Ideal.nD) → Buf (Elt Ideal) ((c.tc : Thread Cert.Kernel3Ideal.nD Cert.Kernel3Ideal.τ).loc Cert.Kernel3Ideal.main_v27)) (v2 : (c : Dev Cert.Kernel3Ideal.nD) → Buf (Elt Ideal) ((c.tc : Thread Cert.Kernel3Ideal.nD Cert.Kernel3Ideal.τ).loc Cert.Kernel3Ideal.main_v20_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20_0) = v0 c
          ∧ r.2.mem ((c.tc : Thread Cert.Kernel3Ideal.nD Cert.Kernel3Ideal.τ).loc Cert.Kernel3Ideal.main_v27) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v63) = v0 c
          ∧ r.2.mem ((c.tc : Thread Cert.Reference3Ideal.nD Cert.Reference3Ideal.τ).loc Cert.Reference3Ideal.main_v40) = v1 c
          ∧ r.2.mem ((c.tc : Thread Cert.Reference3Ideal.nD Cert.Reference3Ideal.τ).loc Cert.Reference3Ideal.main_v48) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)
      ∧ m' ((c.tc : Thread Cert.Reference4Ideal.nD Cert.Reference4Ideal.τ).loc Cert.Reference4Ideal.main_arg15) = m ((c.tc : Thread Cert.Kernel4Ideal.nD Cert.Kernel4Ideal.τ).loc Cert.Kernel4Ideal.main_arg15)) →
    ∃ (v0 : (c : Dev Cert.Kernel4Ideal.nD) → Buf (Elt Ideal) ((c.tc : Thread Cert.Kernel4Ideal.nD Cert.Kernel4Ideal.τ).loc Cert.Kernel4Ideal.main_v37_0)) (v1 : (c : Dev Cert.Kernel4Ideal.nD) → Buf (Elt Ideal) ((c.tc : Thread Cert.Kernel4Ideal.nD Cert.Kernel4Ideal.τ).loc Cert.Kernel4Ideal.main_v42)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v37_0) = v0 c
          ∧ r.2.mem ((c.tc : Thread Cert.Kernel4Ideal.nD Cert.Kernel4Ideal.τ).loc Cert.Kernel4Ideal.main_v42) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14)
          ∧ r.2.mem ((c.tc : Thread Cert.Kernel4Ideal.nD Cert.Kernel4Ideal.τ).loc Cert.Kernel4Ideal.main_arg15) = m ((c.tc : Thread Cert.Kernel4Ideal.nD Cert.Kernel4Ideal.τ).loc Cert.Kernel4Ideal.main_arg15))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_v14) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14)
          ∧ r.2.mem ((c.tc : Thread Cert.Reference4Ideal.nD Cert.Reference4Ideal.τ).loc Cert.Reference4Ideal.main_arg15) = m' ((c.tc : Thread Cert.Reference4Ideal.nD Cert.Reference4Ideal.τ).loc Cert.Reference4Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
-- ==== Pre_finite.lean ====
abbrev S4x2048x1024 : Shape := ⟨3, ![4, 2048, 1024]⟩
abbrev S4x2048x512 : Shape := ⟨3, ![4, 2048, 512]⟩
abbrev S_ : Shape := ⟨0, ![]⟩

class Facts : Prop where
  bitsLt_bf16_f32 : FTy.bits .bf16 < FTy.bits .f32
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn_part1 {F : FTy → Type} [FloatOps F] (main_v16 : IVec S_ 1) (main_v17 : FVec F S4x2048x512 .f32) : IVec S_ 1 :=
  let main_cst_4 : FVec F S_ .f32 := constant S_ .f32 0x7F800000#32
  let main_v18 : FVec F S4x2048x512 .f32 := broadcastInDim S4x2048x512 ![] bcast_S_S4x2048x512 main_cst_4
  let main_v19 : IVec S4x2048x512 1 := cmpf .olt main_v17 main_v18
  let main_c_5 : IVec S_ 1 := constantI S_ 1 1#1
  let main_v20 : IVec S_ 1 := (fun x v => Host.reduce IntOp.andi x v reducesTo_S4x2048x512_S_d0_1_2 h_S_) main_v19 main_c_5
  let main_v21 : IVec S_ 1 := andi main_v16 main_v20
  main_v21

def fn {F : FTy → Type} [FloatOps F] (main_arg0 : FVec F S4x2048x1024 .bf16) (main_arg1 : FVec F S4x2048x1024 .bf16) (main_arg2 : FVec F S4x2048x512 .bf16) (main_arg3 : FVec F S4x2048x512 .f32) : IVec S_ 1 :=
  let main_v0 : FVec F S4x2048x1024 .f32 := (extf .f32 · bitsLt_bf16_f32) main_arg0
  let main_v1 : FVec F S4x2048x1024 .f32 := Host.absf main_v0
  let main_cst : FVec F S_ .f32 := constant S_ .f32 0x7F800000#32
  let main_v2 : FVec F S4x2048x1024 .f32 := broadcastInDim S4x2048x1024 ![] bcast_S_S4x2048x1024 main_cst
  let main_v3 : IVec S4x2048x1024 1 := cmpf .olt main_v1 main_v2
  let main_c : IVec S_ 1 := constantI S_ 1 1#1
  let main_v4 : IVec S_ 1 := (fun x v => Host.reduce IntOp.andi x v reducesTo_S4x2048x1024_S_d0_1_2 h_S_) main_v3 main_c
  let main_v5 : FVec F S4x2048x1024 .f32 := (extf .f32 · bitsLt_bf16_f32) main_arg1
  let main_v6 : FVec F S4x2048x1024 .f32 := Host.absf main_v5
  let main_cst_0 : FVec F S_ .f32 := constant S_ .f32 0x7F800000#32
  let main_v7 : FVec F S4x2048x1024 .f32 := broadcastInDim S4x2048x1024 ![] bcast_S_S4x2048x1024 main_cst_0
  let main_v8 : IVec S4x2048x1024 1 := cmpf .olt main_v6 main_v7
  let main_c_1 : IVec S_ 1 := constantI S_ 1 1#1
  let main_v9 : IVec S_ 1 := (fun x v => Host.reduce IntOp.andi x v reducesTo_S4x2048x1024_S_d0_1_2 h_S_) main_v8 main_c_1
  let main_v10 : IVec S_ 1 := andi main_v4 main_v9
  let main_v11 : FVec F S4x2048x512 .f32 := (extf .f32 · bitsLt_bf16_f32) main_arg2
  let main_v12 : FVec F S4x2048x512 .f32 := Host.absf main_v11
  let main_cst_2 : FVec F S_ .f32 := constant S_ .f32 0x7F800000#32
  let main_v13 : FVec F S4x2048x512 .f32 := broadcastInDim S4x2048x512 ![] bcast_S_S4x2048x512 main_cst_2
  let main_v14 : IVec S4x2048x512 1 := cmpf .olt main_v12 main_v13
  let main_c_3 : IVec S_ 1 := constantI S_ 1 1#1
  let main_v15 : IVec S_ 1 := (fun x v => Host.reduce IntOp.andi x v reducesTo_S4x2048x512_S_d0_1_2 h_S_) main_v14 main_c_3
  let main_v16 : IVec S_ 1 := andi main_v10 main_v15
  let main_v17 : FVec F S4x2048x512 .f32 := Host.absf main_arg3
  fn_part1 (F := F) main_v16 main_v17
-- ==== Pre_finite3.lean ====
abbrev S4x2048x1024 : Shape := ⟨3, ![4, 2048, 1024]⟩
abbrev S1x1024 : Shape := ⟨2, ![1, 1024]⟩
abbrev S1024x3136 : Shape := ⟨2, ![1024, 3136]⟩
abbrev S1x1664 : Shape := ⟨2, ![1, 1664]⟩
abbrev S4x2048x448 : Shape := ⟨3, ![4, 2048, 448]⟩
abbrev S4x2048x1664 : Shape := ⟨3, ![4, 2048, 1664]⟩
abbrev S_ : Shape := ⟨0, ![]⟩

class Facts : Prop where
  bcast_S_S4x2048x1664 : S_.BroadcastsInDim S4x2048x1664 (![] : Fin 0 → Fin S4x2048x1664.rank)
  reducesTo_S4x2048x1664_S_d0_1_2 : S4x2048x1664.ReducesTo [0, 1, 2] S_
  h_S_ : 0 < S_.numel

variable [Facts]

def fn {F : FTy → Type} [FloatOps F] (main_arg0 : FVec F S4x2048x1024 .f32) (main_arg1 : FVec F S1x1024 .f32) (main_arg2 : FVec F S1024x3136 .f32) (main_arg3 : FVec F S1x1664 .f32) (main_arg4 : FVec F S4x2048x1024 .f32) (main_arg5 : FVec F S4x2048x448 .f32) (main_arg6 : FVec F S4x2048x1664 .f32) (main_arg7 : FVec F S4x2048x1024 .f32) : IVec S_ 1 :=
  let main_v0 : FVec F S4x2048x1664 .f32 := Host.absf main_arg6
  let main_cst : FVec F S_ .f32 := constant S_ .f32 0x7F800000#32
  let main_v1 : FVec F S4x2048x1664 .f32 := broadcastInDim S4x2048x1664 ![] bcast_S_S4x2048x1664 main_cst
  let main_v2 : IVec S4x2048x1664 1 := cmpf .olt main_v0 main_v1
  let main_c : IVec S_ 1 := constantI S_ 1 1#1
  let main_v3 : IVec S_ 1 := (fun x v => Host.reduce IntOp.andi x v reducesTo_S4x2048x1664_S_d0_1_2 h_S_) main_v2 main_c
  main_v3
-- ==== Kernel.lean ====
abbrev S4x2048x1024 : Shape := ⟨3, ![4, 2048, 1024]⟩
abbrev S4x2048x512 : Shape := ⟨3, ![4, 2048, 512]⟩
abbrev S4x2048x4x256 : Shape := ⟨4, ![4, 2048, 4, 256]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x4x2048x128 : Shape := ⟨4, ![4, 4, 2048, 128]⟩
abbrev S4x2048x4x128 : Shape := ⟨4, ![4, 2048, 4, 128]⟩
abbrev S4x4x128x2048 : Shape := ⟨4, ![4, 4, 128, 2048]⟩
abbrev S1x2048x512 : Shape := ⟨3, ![1, 2048, 512]⟩
abbrev S1x512x512 : Shape := ⟨3, ![1, 512, 512]⟩
abbrev S1x512x256 : Shape := ⟨3, ![1, 512, 256]⟩
abbrev S1x2048x256 : Shape := ⟨3, ![1, 2048, 256]⟩
abbrev S1x2x2048x128 : Shape := ⟨4, ![1, 2, 2048, 128]⟩
abbrev S2x2048x128 : Shape := ⟨3, ![2, 2048, 128]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S2048x512 : Shape := ⟨2, ![2048, 512]⟩
abbrev S512x256 : Shape := ⟨2, ![512, 256]⟩
abbrev S512x512 : Shape := ⟨2, ![512, 512]⟩
abbrev S1x1x512x128 : Shape := ⟨4, ![1, 1, 512, 128]⟩

abbrev nBuf : Space → Nat
  | .hbm => 49
  | .vmem => 19
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S4x2048x512, .f32⟩
  | .hbm, ⟨4, _⟩ => ⟨S4x2048x1024, .f32⟩
  | .hbm, ⟨5, _⟩ => ⟨S4x2048x4x256, .f32⟩
  | .hbm, ⟨6, _⟩ => ⟨S4x2048x1024, .f32⟩
  | .hbm, ⟨7, _⟩ => ⟨S4x2048x4x256, .f32⟩
  | .hbm, ⟨8, _⟩ => ⟨S4x4x2048x2048, .f32⟩
  | .hbm, ⟨9, _⟩ => ⟨S_, .f32⟩
  | .hbm, ⟨10, _⟩ => ⟨S4x4x2048x2048, .f32⟩
  | .hbm, ⟨11, _⟩ => ⟨S4x4x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x4x2048x2048, .i1⟩
  | .hbm, ⟨22, _⟩ => ⟨S4x4x2048x2048, .f32⟩
  | .hbm, ⟨23, _⟩ => ⟨S4x4x2048x2048, .f32⟩
  | .hbm, ⟨24, _⟩ => ⟨S_, .f32⟩
  | .hbm, ⟨25, _⟩ => ⟨S4x4x2048, .f32⟩
  | .hbm, ⟨26, _⟩ => ⟨S4x4x2048x1, .f32⟩
  | .hbm, ⟨27, _⟩ => ⟨S4x4x2048x2048, .f32⟩
  | .hbm, ⟨28, _⟩ => ⟨S4x4x2048x2048, .f32⟩
  | .hbm, ⟨29, _⟩ => ⟨S4x4x2048x2048, .f32⟩
  | .hbm, ⟨30, _⟩ => ⟨S_, .f32⟩
  | .hbm, ⟨31, _⟩ => ⟨S4x4x2048, .f32⟩
  | .hbm, ⟨32, _⟩ => ⟨S4x4x2048x1, .f32⟩
  | .hbm, ⟨33, _⟩ => ⟨S4x4x2048x1, .f32⟩
  | .hbm, ⟨34, _⟩ => ⟨S4x4x2048x1, .f32⟩
  | .hbm, ⟨35, _⟩ => ⟨S4x4x2048x128, .f32⟩
  | .hbm, ⟨36, _⟩ => ⟨S4x4x2048x2048, .f32⟩
  | .hbm, ⟨37, _⟩ => ⟨S4x4x2048x2048, .f32⟩
  | .hbm, ⟨38, _⟩ => ⟨S4x4x2048x2048, .f32⟩
  | .hbm, ⟨39, _⟩ => ⟨S4x4x2048x2048, .f32⟩
  | .hbm, ⟨40, _⟩ => ⟨S4x4x2048x2048, .f32⟩
  | .hbm, ⟨41, _⟩ => ⟨S4x2048x512, .f32⟩
  | .hbm, ⟨42, _⟩ => ⟨S4x2048x4x128, .f32⟩
  | .hbm, ⟨43, _⟩ => ⟨S4x4x128x2048, .f32⟩
  | .hbm, ⟨44, _⟩ => ⟨S4x2048x4x128, .f32⟩
  | .hbm, ⟨45, _⟩ => ⟨S4x2048x512, .f32⟩
  | .hbm, ⟨46, _⟩ => ⟨S4x2048x1024, .f32⟩
  | .hbm, ⟨47, _⟩ => ⟨S4x2048x1024, .f32⟩
  | .hbm, ⟨48, _⟩ => ⟨S4x2048x512, .f32⟩
  | .local _ .vmem, ⟨0, _⟩ => ⟨S1x2048x512, .bf16⟩
  | .local _ .vmem, ⟨1, _⟩ => ⟨S1x2048x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x2048x256, .f32⟩
  | .local _ .vmem, ⟨7, _⟩ => ⟨S1x2048x256, .f32⟩
  | .local _ .vmem, ⟨8, _⟩ => ⟨S1x2x2048x128, .f32⟩
  | .local _ .vmem, ⟨9, _⟩ => ⟨S1x2x2048x128, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x512, .f32⟩
  | .local _ .vmem, ⟨13, _⟩ => ⟨S1x2048x512, .f32⟩
  | .local _ .vmem, ⟨14, _⟩ => ⟨S1x512x512, .f32⟩
  | .local _ .vmem, ⟨15, _⟩ => ⟨S1x512x512, .f32⟩
  | .local _ .vmem, ⟨16, _⟩ => ⟨S1x512x256, .f32⟩
  | .local _ .vmem, ⟨17, _⟩ => ⟨S1x512x256, .f32⟩
  | .local _ .vmem, ⟨18, _⟩ => ⟨S2x2048x128, .f32⟩
  | _, _ => ⟨S4x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

def k0_cond1 (i : grid0.Coords) : BitVec 1 :=
  let arg2 : BitVec 32 := BitVec.ofNat 32 (i 2).val
  let c0_i32 : BitVec 32 := 0#32
  let v1 : BitVec 1 := Scalar.cmpi .eq arg2 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_67 : BitVec 32 := 0#32
  let c4_i32_68 : BitVec 32 := 4#32
  let v130 : BitVec 32 := Scalar.addi c0_i32_67 c4_i32_68
  let c1_i32_69 : BitVec 32 := 1#32
  ⟨c0_i32_67, v130, c1_i32_69⟩
def k0_mult1 (k0_t1 : Fin k0_t1_loop.trips) : BitVec 32 :=
  let c0_i32_67 : BitVec 32 := 0#32
  let c1_i32_69 : BitVec 32 := 1#32
  let arg13 : BitVec 32 := Scf.iv c0_i32_67 c1_i32_69 k0_t1
  let c512_i32_75 : BitVec 32 := 512#32
  let v135 : BitVec 32 := Scalar.muli arg13 c512_i32_75
  v135
def k0_off1 (k0_t1 : Fin k0_t1_loop.trips) : Fin 3 → Nat :=
  let c0_76 : Index := 0#32
  let c0_i32_67 : BitVec 32 := 0#32
  let c1_i32_69 : BitVec 32 := 1#32
  let arg13 : BitVec 32 := Scf.iv c0_i32_67 c1_i32_69 k0_t1
  let c512_i32_75 : BitVec 32 := 512#32
  let v135 : BitVec 32 := Scalar.muli arg13 c512_i32_75
  let v136 : BitVec 32 := v135
  let v137 : Index := Scalar.indexCast v136
  let c0_77 : Index := 0#32
  ![0, v137.toNat, 0]
def k0_off2 (k0_t1 : Fin k0_t1_loop.trips) : Fin 3 → Nat :=
  let c0_81 : Index := 0#32
  let c0_i32_67 : BitVec 32 := 0#32
  let c1_i32_69 : BitVec 32 := 1#32
  let arg13 : BitVec 32 := Scf.iv c0_i32_67 c1_i32_69 k0_t1
  let c512_i32_75 : BitVec 32 := 512#32
  let v135 : BitVec 32 := Scalar.muli arg13 c512_i32_75
  let v136 : BitVec 32 := v135
  let v148 : Index := Scalar.indexCast v136
  let c0_82 : Index := 0#32
  ![0, v148.toNat, 0]
def k0_off3 (k0_t1 : Fin k0_t1_loop.trips) : Fin 3 → Nat :=
  let c0_83 : Index := 0#32
  let c0_i32_67 : BitVec 32 := 0#32
  let c1_i32_69 : BitVec 32 := 1#32
  let arg13 : BitVec 32 := Scf.iv c0_i32_67 c1_i32_69 k0_t1
  let c512_i32_75 : BitVec 32 := 512#32
  let v135 : BitVec 32 := Scalar.muli arg13 c512_i32_75
  let v136 : BitVec 32 := v135
  let v152 : Index := Scalar.indexCast v136
  let c128_84 : Index := 128#32
  ![0, v152.toNat, 128]
def k0_off4 (k0_t1 : Fin k0_t1_loop.trips) : Fin 3 → Nat :=
  let c1_88 : Index := 1#32
  let c0_i32_67 : BitVec 32 := 0#32
  let c1_i32_69 : BitVec 32 := 1#32
  let arg13 : BitVec 32 := Scf.iv c0_i32_67 c1_i32_69 k0_t1
  let c512_i32_75 : BitVec 32 := 512#32
  let v135 : BitVec 32 := Scalar.muli arg13 c512_i32_75
  let v136 : BitVec 32 := v135
  let v163 : Index := Scalar.indexCast v136
  let c0_89 : Index := 0#32
  ![1, v163.toNat, 0]
def k0_mult2 (i : grid0.Coords) : BitVec 32 :=
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  v6
def k0_off5 (i : grid0.Coords) : Fin 3 → Nat :=
  let c0 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v8 : Index := Scalar.indexCast v7
  let c0_2 : Index := 0#32
  ![0, v8.toNat, 0]
def k0_off6 (i : grid0.Coords) : Fin 3 → Nat :=
  let c0_9 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v15 : Index := Scalar.indexCast v7
  let c0_10 : Index := 0#32
  ![0, v15.toNat, 0]
def k0_off7 (i : grid0.Coords) : Fin 4 → Nat :=
  let c0_14 : Index := 0#32
  let c0_15 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v27 : Index := Scalar.indexCast v7
  let c0_16 : Index := 0#32
  ![0, 0, v27.toNat, 0]
def k0_off8 (i : grid0.Coords) : Fin 3 → Nat :=
  let c0_19 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v38 : Index := Scalar.indexCast v7
  let c0_20 : Index := 0#32
  ![0, v38.toNat, 0]
def k0_off9 (i : grid0.Coords) : Fin 3 → Nat :=
  let c0_28 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v59 : Index := Scalar.indexCast v7
  let c256 : Index := 256#32
  ![0, v59.toNat, 256]
def k0_off10 (i : grid0.Coords) : Fin 3 → Nat :=
  let c0_34 : Index := 0#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v66 : Index := Scalar.indexCast v7
  let c128_35 : Index := 128#32
  ![0, v66.toNat, 128]
def k0_off11 (i : grid0.Coords) : Fin 4 → Nat :=
  let c0_39 : Index := 0#32
  let c1 : Index := 1#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v78 : Index := Scalar.indexCast v7
  let c0_40 : Index := 0#32
  ![0, 1, v78.toNat, 0]
def k0_off12 (i : grid0.Coords) : Fin 3 → Nat :=
  let c1_43 : Index := 1#32
  let c3_i32 : BitVec 32 := 3#32
  let arg2 : BitVec 32 := BitVec.ofNat 32 (i 2).val
  let v0 : BitVec 32 := Scalar.subi c3_i32 arg2
  let c512_i32 : BitVec 32 := 512#32
  let v6 : BitVec 32 := Scalar.muli v0 c512_i32
  let v7 : BitVec 32 := v6
  let v89 : Index := Scalar.indexCast v7
  let c0_44 : Index := 0#32
  ![1, v89.toNat, 0]
@[reducible] def k0_t2_loop (i : grid0.Coords) : Scf.Loop 32 :=
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_53 : BitVec 32 := 1#32
  ⟨v110, v115, c1_i32_53⟩
def k0_mult3 (i : grid0.Coords) (k0_t2 : Fin (k0_t2_loop i).trips) : BitVec 32 :=
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  v130
def k0_off13 (i : grid0.Coords) (k0_t2 : Fin (k0_t2_loop i).trips) : Fin 3 → Nat :=
  let c0_68 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v132 : Index := Scalar.indexCast v131
  let c0_69 : Index := 0#32
  ![0, v132.toNat, 0]
def k0_off14 (i : grid0.Coords) (k0_t2 : Fin (k0_t2_loop i).trips) : Fin 3 → Nat :=
  let c0_76 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v139 : Index := Scalar.indexCast v131
  let c0_77 : Index := 0#32
  ![0, v139.toNat, 0]
def k0_off15 (i : grid0.Coords) (k0_t2 : Fin (k0_t2_loop i).trips) : Fin 4 → Nat :=
  let c0_80 : Index := 0#32
  let c0_81 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v146 : Index := Scalar.indexCast v131
  let c0_82 : Index := 0#32
  ![0, 0, v146.toNat, 0]
def k0_off16 (i : grid0.Coords) (k0_t2 : Fin (k0_t2_loop i).trips) : Fin 3 → Nat :=
  let c0_85 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v157 : Index := Scalar.indexCast v131
  let c0_86 : Index := 0#32
  ![0, v157.toNat, 0]
def k0_off17 (i : grid0.Coords) (k0_t2 : Fin (k0_t2_loop i).trips) : Fin 3 → Nat :=
  let c0_94 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v178 : Index := Scalar.indexCast v131
  let c256_95 : Index := 256#32
  ![0, v178.toNat, 256]
def k0_off18 (i : grid0.Coords) (k0_t2 : Fin (k0_t2_loop i).trips) : Fin 3 → Nat :=
  let c0_102 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v185 : Index := Scalar.indexCast v131
  let c128_103 : Index := 128#32
  ![0, v185.toNat, 128]
def k0_off19 (i : grid0.Coords) (k0_t2 : Fin (k0_t2_loop i).trips) : Fin 4 → Nat :=
  let c0_106 : Index := 0#32
  let c1_107 : Index := 1#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v192 : Index := Scalar.indexCast v131
  let c0_108 : Index := 0#32
  ![0, 1, v192.toNat, 0]
def k0_off20 (i : grid0.Coords) (k0_t2 : Fin (k0_t2_loop i).trips) : Fin 3 → Nat :=
  let c1_111 : Index := 1#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c1_i32_53 : BitVec 32 := 1#32
  let arg13 : BitVec 32 := Scf.iv v110 c1_i32_53 k0_t2
  let c512_i32_67 : BitVec 32 := 512#32
  let v130 : BitVec 32 := Scalar.muli arg13 c512_i32_67
  let v131 : BitVec 32 := v130
  let v203 : Index := Scalar.indexCast v131
  let c0_112 : Index := 0#32
  ![1, v203.toNat, 0]
@[reducible] def k0_t3_loop (i : grid0.Coords) : Scf.Loop 32 :=
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let v112 : BitVec 32 := Scalar.addi v110 v111
  let c1_i32_54 : BitVec 32 := 1#32
  ⟨v115, v112, c1_i32_54⟩
def k0_mult4 (i : grid0.Coords) (k0_t3 : Fin (k0_t3_loop i).trips) : BitVec 32 :=
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  v130
def k0_off21 (i : grid0.Coords) (k0_t3 : Fin (k0_t3_loop i).trips) : Fin 3 → Nat :=
  let c0_68 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v132 : Index := Scalar.indexCast v131
  let c0_69 : Index := 0#32
  ![0, v132.toNat, 0]
def k0_off22 (i : grid0.Coords) (k0_t3 : Fin (k0_t3_loop i).trips) : Fin 3 → Nat :=
  let c0_76 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v139 : Index := Scalar.indexCast v131
  let c0_77 : Index := 0#32
  ![0, v139.toNat, 0]
def k0_off23 (i : grid0.Coords) (k0_t3 : Fin (k0_t3_loop i).trips) : Fin 4 → Nat :=
  let c0_80 : Index := 0#32
  let c0_81 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v146 : Index := Scalar.indexCast v131
  let c0_82 : Index := 0#32
  ![0, 0, v146.toNat, 0]
def k0_off24 (i : grid0.Coords) (k0_t3 : Fin (k0_t3_loop i).trips) : Fin 3 → Nat :=
  let c0_85 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v157 : Index := Scalar.indexCast v131
  let c0_86 : Index := 0#32
  ![0, v157.toNat, 0]
def k0_off25 (i : grid0.Coords) (k0_t3 : Fin (k0_t3_loop i).trips) : Fin 3 → Nat :=
  let c0_94 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v178 : Index := Scalar.indexCast v131
  let c256_95 : Index := 256#32
  ![0, v178.toNat, 256]
def k0_off26 (i : grid0.Coords) (k0_t3 : Fin (k0_t3_loop i).trips) : Fin 3 → Nat :=
  let c0_102 : Index := 0#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v185 : Index := Scalar.indexCast v131
  let c128_103 : Index := 128#32
  ![0, v185.toNat, 128]
def k0_off27 (i : grid0.Coords) (k0_t3 : Fin (k0_t3_loop i).trips) : Fin 4 → Nat :=
  let c0_106 : Index := 0#32
  let c1_107 : Index := 1#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v192 : Index := Scalar.indexCast v131
  let c0_108 : Index := 0#32
  ![0, 1, v192.toNat, 0]
def k0_off28 (i : grid0.Coords) (k0_t3 : Fin (k0_t3_loop i).trips) : Fin 3 → Nat :=
  let c1_111 : Index := 1#32
  let c3_i32 : BitVec 32 := 3#32
  let arg2 : BitVec 32 := BitVec.ofNat 32 (i 2).val
  let v0 : BitVec 32 := Scalar.subi c3_i32 arg2
  let c1_i32 : BitVec 32 := 1#32
  let v110 : BitVec 32 := Scalar.addi v0 c1_i32
  let c4_i32 : BitVec 32 := 4#32
  let v111 : BitVec 32 := Scalar.subi c4_i32 v110
  let c1_i32_52 : BitVec 32 := 1#32
  let v113 : BitVec 32 := Scalar.divsi v111 c1_i32_52
  let v114 : BitVec 32 := Scalar.muli v113 c1_i32_52
  let v115 : BitVec 32 := Scalar.addi v110 v114
  let c1_i32_54 : BitVec 32 := 1#32
  let arg13 : BitVec 32 := Scf.iv v115 c1_i32_54 k0_t3
  let c512_i32_67 : BitVec 32 := 512#32
  let v130 : BitVec 32 := Scalar.muli arg13 c512_i32_67
  let v131 : BitVec 32 := v130
  let v203 : Index := Scalar.indexCast v131
  let c0_112 : Index := 0#32
  ![1, v203.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  ![arg0.toNat, v0.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x2048x1024 : Shape := ⟨3, ![4, 2048, 1024]⟩
abbrev S4x2048x512 : Shape := ⟨3, ![4, 2048, 512]⟩
abbrev S4x2048x4x256 : Shape := ⟨4, ![4, 2048, 4, 256]⟩
abbrev S4x4x2048x2048 : Shape := ⟨4, ![4, 4, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S4x4x2048 : Shape := ⟨3, ![4, 4, 2048]⟩
abbrev S4x4x2048x1 : Shape := ⟨4, ![4, 4, 2048, 1]⟩
abbrev S4x2048x4x128 : Shape := ⟨4, ![4, 2048, 4, 128]⟩
abbrev S4x4x128x2048 : Shape := ⟨4, ![4, 4, 128, 2048]⟩
abbrev S4x4x2048x256 : Shape := ⟨4, ![4, 4, 2048, 256]⟩

abbrev nBuf : Space → Nat
  | .hbm => 101
  | .vmem => 0
  | .smem => 0
  | _ => 0

abbrev bufTy : (tb : Table) → Fin (tcTables nBuf tb) → BufTy
  | .hbm, ⟨0, _⟩ => ⟨S4x2048x1024, .bf16⟩
  | .hbm, ⟨1, _⟩ => ⟨S4x2048x1024, .bf16⟩
  | .hbm, ⟨2, _⟩ => ⟨S4x2048x512, .bf16⟩
  | .hbm, ⟨3, _⟩ => ⟨S4x2048x512, .f32⟩
  | .hbm, ⟨4, _⟩ => ⟨S4x2048x1024, .f32⟩
  | .hbm, ⟨5, _⟩ => ⟨S4x2048x1024, .f32⟩
  | .hbm, ⟨6, _⟩ => ⟨S4x2048x512, .f32⟩
  | .hbm, ⟨7, _⟩ => ⟨S4x2048x4x256, .f32⟩
  | .hbm, ⟨8, _⟩ => ⟨S4x2048x4x256, .f32⟩
  | .hbm, ⟨9, _⟩ => ⟨S4x4x2048x2048, .f32⟩
  | .hbm, ⟨10, _⟩ => ⟨S_, .f32⟩
  | .hbm, ⟨11, _⟩ => ⟨S4x4x2048x2048, .f32⟩
  | .hbm, ⟨12, _⟩ => ⟨S4x4x2048x2048, .f32⟩
  | .hbm, ⟨13, _⟩ => ⟨S2048, .i32⟩
  | .hbm, ⟨14, _⟩ => ⟨S2048x1, .i32⟩
  | .hbm, ⟨15, _⟩ => ⟨S2048, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .f32⟩
  | .hbm, ⟨21, _⟩ => ⟨S_, .f32⟩
  | .hbm, ⟨22, _⟩ => ⟨S4x4x2048x2048, .i1⟩
  | .hbm, ⟨23, _⟩ => ⟨S4x4x2048x2048, .f32⟩
  | .hbm, ⟨24, _⟩ => ⟨S4x4x2048x2048, .f32⟩
  | .hbm, ⟨25, _⟩ => ⟨S_, .f32⟩
  | .hbm, ⟨26, _⟩ => ⟨S4x4x2048x2048, .f32⟩
  | .hbm, ⟨27, _⟩ => ⟨S_, .f32⟩
  | .hbm, ⟨28, _⟩ => ⟨S4x4x2048, .f32⟩
  | .hbm, ⟨29, _⟩ => ⟨S4x4x2048x1, .f32⟩
  | .hbm, ⟨30, _⟩ => ⟨S4x4x2048x2048, .f32⟩
  | .hbm, ⟨31, _⟩ => ⟨S4x4x2048x2048, .i1⟩
  | .hbm, ⟨32, _⟩ => ⟨S4x4x2048x2048, .f32⟩
  | .hbm, ⟨33, _⟩ => ⟨S_, .f32⟩
  | .hbm, ⟨34, _⟩ => ⟨S4x4x2048, .f32⟩
  | .hbm, ⟨35, _⟩ => ⟨S_, .f32⟩
  | .hbm, ⟨36, _⟩ => ⟨S4x4x2048, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S4x4x2048, .i1⟩
  | .hbm, ⟨41, _⟩ => ⟨S_, .f32⟩
  | .hbm, ⟨42, _⟩ => ⟨S4x4x2048, .f32⟩
  | .hbm, ⟨43, _⟩ => ⟨S4x4x2048, .i1⟩
  | .hbm, ⟨44, _⟩ => ⟨S_, .f32⟩
  | .hbm, ⟨45, _⟩ => ⟨S4x4x2048, .f32⟩
  | .hbm, ⟨46, _⟩ => ⟨S_, .f32⟩
  | .hbm, ⟨47, _⟩ => ⟨S4x4x2048, .f32⟩
  | .hbm, ⟨48, _⟩ => ⟨S_, .f32⟩
  | .hbm, ⟨49, _⟩ => ⟨S4x4x2048, .f32⟩
  | .hbm, ⟨50, _⟩ => ⟨S4x4x2048, .f32⟩
  | .hbm, ⟨51, _⟩ => ⟨S4x4x2048, .f32⟩
  | .hbm, ⟨52, _⟩ => ⟨S4x4x2048x1, .f32⟩
  | .hbm, ⟨53, _⟩ => ⟨S4x4x2048x2048, .f32⟩
  | .hbm, ⟨54, _⟩ => ⟨S4x4x2048x2048, .f32⟩
  | .hbm, ⟨55, _⟩ => ⟨S4x4x2048x2048, .f32⟩
  | .hbm, ⟨56, _⟩ => ⟨S_, .f32⟩
  | .hbm, ⟨57, _⟩ => ⟨S4x4x2048, .f32⟩
  | .hbm, ⟨58, _⟩ => ⟨S4x4x2048x1, .f32⟩
  | .hbm, ⟨59, _⟩ => ⟨S4x4x2048x2048, .f32⟩
  | .hbm, ⟨60, _⟩ => ⟨S4x4x2048x2048, .f32⟩
  | .hbm, ⟨61, _⟩ => ⟨S4x4x2048x1, .f32⟩
  | .hbm, ⟨62, _⟩ => ⟨S_, .f32⟩
  | .hbm, ⟨63, _⟩ => ⟨S4x4x2048x1, .f32⟩
  | .hbm, ⟨64, _⟩ => ⟨S4x4x2048x1, .f32⟩
  | .hbm, ⟨65, _⟩ => ⟨S4x2048x4x128, .f32⟩
  | .hbm, ⟨66, _⟩ => ⟨S4x4x128x2048, .f32⟩
  | .hbm, ⟨67, _⟩ => ⟨S4x2048x4x128, .f32⟩
  | .hbm, ⟨68, _⟩ => ⟨S4x2048x512, .f32⟩
  | .hbm, ⟨69, _⟩ => ⟨S4x2048x4x128, .f32⟩
  | .hbm, ⟨70, _⟩ => ⟨S4x4x128x2048, .f32⟩
  | .hbm, ⟨71, _⟩ => ⟨S4x4x2048x2048, .f32⟩
  | .hbm, ⟨72, _⟩ => ⟨S4x4x128x2048, .f32⟩
  | .hbm, ⟨73, _⟩ => ⟨S4x2048x4x128, .f32⟩
  | .hbm, ⟨74, _⟩ => ⟨S4x2048x512, .f32⟩
  | .hbm, ⟨75, _⟩ => ⟨S4x4x2048x2048, .f32⟩
  | .hbm, ⟨76, _⟩ => ⟨S4x4x2048x2048, .f32⟩
  | .hbm, ⟨77, _⟩ => ⟨S4x4x2048x2048, .f32⟩
  | .hbm, ⟨78, _⟩ => ⟨S_, .f32⟩
  | .hbm, ⟨79, _⟩ => ⟨S4x4x2048, .f32⟩
  | .hbm, ⟨80, _⟩ => ⟨S4x4x2048x1, .f32⟩
  | .hbm, ⟨81, _⟩ => ⟨S4x4x2048x1, .f32⟩
  | .hbm, ⟨82, _⟩ => ⟨S4x4x2048x2048, .f32⟩
  | .hbm, ⟨83, _⟩ => ⟨S4x4x2048x2048, .f32⟩
  | .hbm, ⟨84, _⟩ => ⟨S_, .f32⟩
  | .hbm, ⟨85, _⟩ => ⟨S4x4x2048, .f32⟩
  | .hbm, ⟨86, _⟩ => ⟨S4x4x2048x2048, .f32⟩
  | .hbm, ⟨87, _⟩ => ⟨S4x4x2048x2048, .f32⟩
  | .hbm, ⟨88, _⟩ => ⟨S4x4x2048x2048, .f32⟩
  | .hbm, ⟨89, _⟩ => ⟨S_, .f32⟩
  | .hbm, ⟨90, _⟩ => ⟨S4x4x2048x2048, .f32⟩
  | .hbm, ⟨91, _⟩ => ⟨S4x4x2048x2048, .f32⟩
  | .hbm, ⟨92, _⟩ => ⟨S_, .f32⟩
  | .hbm, ⟨93, _⟩ => ⟨S4x4x2048x2048, .f32⟩
  | .hbm, ⟨94, _⟩ => ⟨S4x4x2048x2048, .f32⟩
  | .hbm, ⟨95, _⟩ => ⟨S4x4x2048x256, .f32⟩
  | .hbm, ⟨96, _⟩ => ⟨S4x2048x4x256, .f32⟩
  | .hbm, ⟨97, _⟩ => ⟨S4x4x2048x256, .f32⟩
  | .hbm, ⟨98, _⟩ => ⟨S4x2048x4x256, .f32⟩
  | .hbm, ⟨99, _⟩ => ⟨S4x2048x1024, .f32⟩
  | .hbm, ⟨100, _⟩ => ⟨S4x2048x1024, .f32⟩
  | _, _ => ⟨S4x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_call0_v0 : Ref sig .tc := ⟨.hbm, 21, rfl⟩
abbrev main_v15_1 : Ref sig .tc := ⟨.hbm, 22, rfl⟩
abbrev main_call0_v2 : Ref sig .tc := ⟨.hbm, 23, rfl⟩
abbrev main_v15_0 : Ref sig .tc := ⟨.hbm, 24, rfl⟩
abbrev main_call0_cst : Ref sig .tc := ⟨.hbm, 25, rfl⟩
abbrev main_v15_2 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_12 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call1_cst : Ref sig .tc := ⟨.hbm, 89, rfl⟩
abbrev main_call1_v0 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩

abbrev nD : Nat := 1
abbrev τ : Topo := Topo.v7x

variable {F : FTy → Type} [FloatOps F]
-- ==== Kernel2.lean ====
abbrev S4x2048x1024 : Shape := ⟨3, ![4, 2048, 1024]⟩
abbrev S4x2048x3136 : Shape := ⟨3, ![4, 2048, 3136]⟩
abbrev S4x2048x384 : Shape := ⟨3, ![4, 2048, 384]⟩
abbrev S4x2048x1536 : Shape := ⟨3, ![4, 2048, 1536]⟩
abbrev S4x2048x64 : Shape := ⟨3, ![4, 2048, 64]⟩
abbrev S4x2048x128 : Shape := ⟨3, ![4, 2048, 128]⟩
abbrev S_ : Shape := ⟨0, ![]⟩
abbrev S4x2048x3200 : Shape := ⟨3, ![4, 2048, 3200]⟩
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x384 : Shape := ⟨2, ![1024, 384]⟩
abbrev S1024x64 : Shape := ⟨2, ![1024, 64]⟩
abbrev S1024x1536 : Shape := ⟨2, ![1024, 1536]⟩
abbrev S1024x128 : Shape := ⟨2, ![1024, 128]⟩
abbrev S1024x3136 : Shape := ⟨2, ![1024, 3136]⟩

abbrev nBuf : Space → Nat
  | .hbm => 21
  | .vmem => 5
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3136, .f32⟩
  | .hbm, ⟨2, _⟩ => ⟨S4x2048x1024, .f32⟩
  | .hbm, ⟨3, _⟩ => ⟨S4x2048x384, .f32⟩
  | .hbm, ⟨4, _⟩ => ⟨S4x2048x1536, .f32⟩
  | .hbm, ⟨5, _⟩ => ⟨S4x2048x64, .f32⟩
  | .hbm, ⟨6, _⟩ => ⟨S4x2048x128, .f32⟩
  | .hbm, ⟨7, _⟩ => ⟨S_, .f32⟩
  | .hbm, ⟨8, _⟩ => ⟨S4x2048x64, .f32⟩
  | .hbm, ⟨9, _⟩ => ⟨S4x2048x3200, .f32⟩
  | .hbm, ⟨10, _⟩ => ⟨S4x2048x3200, .bf16⟩
  | .hbm, ⟨11, _⟩ => ⟨S4x2048x1024, .bf16⟩
  | .hbm, ⟨12, _⟩ => ⟨S8192x1024, .bf16⟩
  | .hbm, ⟨13, _⟩ => ⟨S8192x3200, .bf16⟩
  | .hbm, ⟨14, _⟩ => ⟨S1024x3200, .f32⟩
  | .hbm, ⟨15, _⟩ => ⟨S1024x384, .f32⟩
  | .hbm, ⟨16, _⟩ => ⟨S1024x64, .f32⟩
  | .hbm, ⟨17, _⟩ => ⟨S1024x1536, .f32⟩
  | .hbm, ⟨18, _⟩ => ⟨S1024x128, .f32⟩
  | .hbm, ⟨19, _⟩ => ⟨S1024x1024, .f32⟩
  | .hbm, ⟨20, _⟩ => ⟨S1024x3136, .f32⟩
  | .local _ .vmem, ⟨0, _⟩ => ⟨S1024x1024, .bf16⟩
  | .local _ .vmem, ⟨1, _⟩ => ⟨S1024x1024, .bf16⟩
  | .local _ .vmem, ⟨2, _⟩ => ⟨S1024x3200, .bf16⟩
  | .local _ .vmem, ⟨3, _⟩ => ⟨S1024x3200, .bf16⟩
  | .local _ .vmem, ⟨4, _⟩ => ⟨S1024x3200, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3200 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x3200 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference2Ideal.lean ====
abbrev S4x2048x1024 : Shape := ⟨3, ![4, 2048, 1024]⟩
abbrev S4x2048x3136 : Shape := ⟨3, ![4, 2048, 3136]⟩
abbrev S_ : Shape := ⟨0, ![]⟩
abbrev S1024x3136 : Shape := ⟨2, ![1024, 3136]⟩
abbrev S3136x1024 : Shape := ⟨2, ![3136, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x3136, .f32⟩
  | .hbm, ⟨2, _⟩ => ⟨S_, .f32⟩
  | .hbm, ⟨3, _⟩ => ⟨S1024x3136, .f32⟩
  | .hbm, ⟨4, _⟩ => ⟨S4x2048x3136, .f32⟩
  | .hbm, ⟨5, _⟩ => ⟨S3136x1024, .f32⟩
  | .hbm, ⟨6, _⟩ => ⟨S1024x3136, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4x2048x1024 : Shape := ⟨3, ![4, 2048, 1024]⟩
abbrev S1x1024 : Shape := ⟨2, ![1, 1024]⟩
abbrev S1024x3136 : Shape := ⟨2, ![1024, 3136]⟩
abbrev S1x1664 : Shape := ⟨2, ![1, 1664]⟩
abbrev S4x2048x448 : Shape := ⟨3, ![4, 2048, 448]⟩
abbrev S4x2048x1664 : Shape := ⟨3, ![4, 2048, 1664]⟩
abbrev S1024x1024 : Shape := ⟨2, ![1024, 1024]⟩
abbrev S1024x384 : Shape := ⟨2, ![1024, 384]⟩
abbrev S1024x1536 : Shape := ⟨2, ![1024, 1536]⟩
abbrev S1024x64 : Shape := ⟨2, ![1024, 64]⟩
abbrev S1024x128 : Shape := ⟨2, ![1024, 128]⟩
abbrev S_ : Shape := ⟨0, ![]⟩
abbrev S1024x3200 : Shape := ⟨2, ![1024, 3200]⟩
abbrev S3200x1024 : Shape := ⟨2, ![3200, 1024]⟩
abbrev S1x1536 : Shape := ⟨2, ![1, 1536]⟩
abbrev S1x64 : Shape := ⟨2, ![1, 64]⟩
abbrev S1x128 : Shape := ⟨2, ![1, 128]⟩
abbrev S1x1792 : Shape := ⟨2, ![1, 1792]⟩
abbrev S4x2048x384 : Shape := ⟨3, ![4, 2048, 384]⟩
abbrev S4x2048x1536 : Shape := ⟨3, ![4, 2048, 1536]⟩
abbrev S4x2048x64 : Shape := ⟨3, ![4, 2048, 64]⟩
abbrev S4x2048x128 : Shape := ⟨3, ![4, 2048, 128]⟩
abbrev S4x2048x2176 : Shape := ⟨3, ![4, 2048, 2176]⟩
abbrev S4x2048x3200 : Shape := ⟨3, ![4, 2048, 3200]⟩
abbrev S1x512x1024 : Shape := ⟨3, ![1, 512, 1024]⟩
abbrev S1x512x2176 : Shape := ⟨3, ![1, 512, 2176]⟩
abbrev S1x8x2176 : Shape := ⟨3, ![1, 8, 2176]⟩
abbrev S1x512x3200 : Shape := ⟨3, ![1, 512, 3200]⟩
abbrev S1x512x1792 : Shape := ⟨3, ![1, 512, 1792]⟩
abbrev S512x1792 : Shape := ⟨2, ![512, 1792]⟩
abbrev S1x1x1792 : Shape := ⟨3, ![1, 1, 1792]⟩
abbrev S512x1024 : Shape := ⟨2, ![512, 1024]⟩
abbrev S1x512x384 : Shape := ⟨3, ![1, 512, 384]⟩
abbrev S512x384 : Shape := ⟨2, ![512, 384]⟩
abbrev S512x3200 : Shape := ⟨2, ![512, 3200]⟩
abbrev S512 : Shape := ⟨1, ![512]⟩
abbrev S512x1 : Shape := ⟨2, ![512, 1]⟩
abbrev S1024 : Shape := ⟨1, ![1024]⟩
abbrev S4x2048x3136 : Shape := ⟨3, ![4, 2048, 3136]⟩

abbrev nBuf : Space → Nat
  | .hbm => 42
  | .vmem => 18
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x3136, .f32⟩
  | .hbm, ⟨3, _⟩ => ⟨S1x1664, .f32⟩
  | .hbm, ⟨4, _⟩ => ⟨S4x2048x1024, .f32⟩
  | .hbm, ⟨5, _⟩ => ⟨S4x2048x448, .f32⟩
  | .hbm, ⟨6, _⟩ => ⟨S4x2048x1664, .f32⟩
  | .hbm, ⟨7, _⟩ => ⟨S4x2048x1024, .f32⟩
  | .hbm, ⟨8, _⟩ => ⟨S1024x1024, .f32⟩
  | .hbm, ⟨9, _⟩ => ⟨S1024x384, .f32⟩
  | .hbm, ⟨10, _⟩ => ⟨S1024x1536, .f32⟩
  | .hbm, ⟨11, _⟩ => ⟨S1024x64, .f32⟩
  | .hbm, ⟨12, _⟩ => ⟨S1024x128, .f32⟩
  | .hbm, ⟨13, _⟩ => ⟨S_, .f32⟩
  | .hbm, ⟨14, _⟩ => ⟨S1024x64, .f32⟩
  | .hbm, ⟨15, _⟩ => ⟨S1024x3200, .f32⟩
  | .hbm, ⟨16, _⟩ => ⟨S1024x3200, .bf16⟩
  | .hbm, ⟨17, _⟩ => ⟨S3200x1024, .bf16⟩
  | .hbm, ⟨18, _⟩ => ⟨S1x1536, .f32⟩
  | .hbm, ⟨19, _⟩ => ⟨S_, .f32⟩
  | .hbm, ⟨20, _⟩ => ⟨S1x64, .f32⟩
  | .hbm, ⟨21, _⟩ => ⟨S1x128, .f32⟩
  | .hbm, ⟨22, _⟩ => ⟨S_, .f32⟩
  | .hbm, ⟨23, _⟩ => ⟨S1x64, .f32⟩
  | .hbm, ⟨24, _⟩ => ⟨S1x1792, .f32⟩
  | .hbm, ⟨25, _⟩ => ⟨S4x2048x384, .f32⟩
  | .hbm, ⟨26, _⟩ => ⟨S4x2048x1536, .f32⟩
  | .hbm, ⟨27, _⟩ => ⟨S4x2048x64, .f32⟩
  | .hbm, ⟨28, _⟩ => ⟨S4x2048x128, .f32⟩
  | .hbm, ⟨29, _⟩ => ⟨S_, .f32⟩
  | .hbm, ⟨30, _⟩ => ⟨S4x2048x64, .f32⟩
  | .hbm, ⟨31, _⟩ => ⟨S4x2048x2176, .f32⟩
  | .hbm, ⟨32, _⟩ => ⟨S4x2048x1024, .f32⟩
  | .hbm, ⟨33, _⟩ => ⟨S4x2048x3200, .bf16⟩
  | .hbm, ⟨34, _⟩ => ⟨S1x1024, .f32⟩
  | .hbm, ⟨35, _⟩ => ⟨S4x2048x3200, .f32⟩
  | .hbm, ⟨36, _⟩ => ⟨S4x2048x384, .f32⟩
  | .hbm, ⟨37, _⟩ => ⟨S4x2048x64, .f32⟩
  | .hbm, ⟨38, _⟩ => ⟨S4x2048x1536, .f32⟩
  | .hbm, ⟨39, _⟩ => ⟨S4x2048x128, .f32⟩
  | .hbm, ⟨40, _⟩ => ⟨S4x2048x1024, .f32⟩
  | .hbm, ⟨41, _⟩ => ⟨S4x2048x3136, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1x512x2176, .f32⟩
  | .local _ .vmem, ⟨7, _⟩ => ⟨S1x512x2176, .f32⟩
  | .local _ .vmem, ⟨8, _⟩ => ⟨S1x8x2176, .f32⟩
  | .local _ .vmem, ⟨9, _⟩ => ⟨S1x8x2176, .f32⟩
  | .local _ .vmem, ⟨10, _⟩ => ⟨S1x1792, .f32⟩
  | .local _ .vmem, ⟨11, _⟩ => ⟨S3200x1024, .bf16⟩
  | .local _ .vmem, ⟨12, _⟩ => ⟨S1x1024, .f32⟩
  | .local _ .vmem, ⟨13, _⟩ => ⟨S1x512x1024, .f32⟩
  | .local _ .vmem, ⟨14, _⟩ => ⟨S1x512x1024, .f32⟩
  | .local _ .vmem, ⟨15, _⟩ => ⟨S1x512x3200, .bf16⟩
  | .local _ .vmem, ⟨16, _⟩ => ⟨S1x512x3200, .bf16⟩
  | .local _ .vmem, ⟨17, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20_0 : Ref sig .tc := ⟨.hbm, 32, rfl⟩
abbrev main_v20_1 : Ref sig .tc := ⟨.hbm, 33, rfl⟩
abbrev main_v20_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2176 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x2176 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1792 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3200x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x3200 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference3Ideal.lean ====
abbrev S4x2048x1024 : Shape := ⟨3, ![4, 2048, 1024]⟩
abbrev S1x1024 : Shape := ⟨2, ![1, 1024]⟩
abbrev S1024x3136 : Shape := ⟨2, ![1024, 3136]⟩
abbrev S1x1664 : Shape := ⟨2, ![1, 1664]⟩
abbrev S4x2048x448 : Shape := ⟨3, ![4, 2048, 448]⟩
abbrev S4x2048x1664 : Shape := ⟨3, ![4, 2048, 1664]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x3136 : Shape := ⟨3, ![4, 2048, 3136]⟩
abbrev S4x1x1664 : Shape := ⟨3, ![4, 1, 1664]⟩
abbrev S4x2047x1664 : Shape := ⟨3, ![4, 2047, 1664]⟩
abbrev S1x1x1664 : Shape := ⟨3, ![1, 1, 1664]⟩
abbrev S1024 : Shape := ⟨1, ![1024]⟩

abbrev nBuf : Space → Nat
  | .hbm => 84
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1x1024, .f32⟩
  | .hbm, ⟨2, _⟩ => ⟨S1024x3136, .f32⟩
  | .hbm, ⟨3, _⟩ => ⟨S1x1664, .f32⟩
  | .hbm, ⟨4, _⟩ => ⟨S4x2048x1024, .f32⟩
  | .hbm, ⟨5, _⟩ => ⟨S4x2048x448, .f32⟩
  | .hbm, ⟨6, _⟩ => ⟨S4x2048x1664, .f32⟩
  | .hbm, ⟨7, _⟩ => ⟨S4x2048x1024, .f32⟩
  | .hbm, ⟨8, _⟩ => ⟨S4x2048x1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x1, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1024, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x3136, .f32⟩
  | .hbm, ⟨29, _⟩ => ⟨S4x2048x448, .f32⟩
  | .hbm, ⟨30, _⟩ => ⟨S4x2048x1664, .f32⟩
  | .hbm, ⟨31, _⟩ => ⟨S4x2048x1024, .f32⟩
  | .hbm, ⟨32, _⟩ => ⟨S4x1x1664, .f32⟩
  | .hbm, ⟨33, _⟩ => ⟨S_, .f32⟩
  | .hbm, ⟨34, _⟩ => ⟨S4x1x1664, .f32⟩
  | .hbm, ⟨35, _⟩ => ⟨S4x2047x1664, .f32⟩
  | .hbm, ⟨36, _⟩ => ⟨S4x2048x1664, .f32⟩
  | .hbm, ⟨37, _⟩ => ⟨S_, .f32⟩
  | .hbm, ⟨38, _⟩ => ⟨S4x1x1664, .f32⟩
  | .hbm, ⟨39, _⟩ => ⟨S4x2048x1664, .f32⟩
  | .hbm, ⟨40, _⟩ => ⟨S1x1x1664, .f32⟩
  | .hbm, ⟨41, _⟩ => ⟨S4x2048x1664, .f32⟩
  | .hbm, ⟨42, _⟩ => ⟨S4x2048x1664, .f32⟩
  | .hbm, ⟨43, _⟩ => ⟨S4x2048x1664, .f32⟩
  | .hbm, ⟨44, _⟩ => ⟨S4x2048x1664, .f32⟩
  | .hbm, ⟨45, _⟩ => ⟨S4x2048x1664, .f32⟩
  | .hbm, ⟨46, _⟩ => ⟨S4x2048x1664, .f32⟩
  | .hbm, ⟨47, _⟩ => ⟨S4x2048x1664, .f32⟩
  | .hbm, ⟨48, _⟩ => ⟨S4x2048x1664, .f32⟩
  | .hbm, ⟨49, _⟩ => ⟨S4x2048x1664, .f32⟩
  | .hbm, ⟨50, _⟩ => ⟨S4x1x1664, .f32⟩
  | .hbm, ⟨51, _⟩ => ⟨S4x2047x1664, .f32⟩
  | .hbm, ⟨52, _⟩ => ⟨S_, .f32⟩
  | .hbm, ⟨53, _⟩ => ⟨S4x2048x1664, .f32⟩
  | .hbm, ⟨54, _⟩ => ⟨S4x2048x1664, .f32⟩
  | .hbm, ⟨55, _⟩ => ⟨S4x2048x3136, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S4x2048x1024, .f32⟩
  | .hbm, ⟨67, _⟩ => ⟨S_, .f32⟩
  | .hbm, ⟨68, _⟩ => ⟨S4x2048, .f32⟩
  | .hbm, ⟨69, _⟩ => ⟨S4x2048x1, .f32⟩
  | .hbm, ⟨70, _⟩ => ⟨S4x2048x1024, .f32⟩
  | .hbm, ⟨71, _⟩ => ⟨S4x2048x1024, .f32⟩
  | .hbm, ⟨72, _⟩ => ⟨S4x2048x1, .f32⟩
  | .hbm, ⟨73, _⟩ => ⟨S_, .f32⟩
  | .hbm, ⟨74, _⟩ => ⟨S4x2048x1, .f32⟩
  | .hbm, ⟨75, _⟩ => ⟨S4x2048x1, .f32⟩
  | .hbm, ⟨76, _⟩ => ⟨S_, .f32⟩
  | .hbm, ⟨77, _⟩ => ⟨S4x2048, .f32⟩
  | .hbm, ⟨78, _⟩ => ⟨S4x2048x1024, .f32⟩
  | .hbm, ⟨79, _⟩ => ⟨S4x2048x1024, .f32⟩
  | .hbm, ⟨80, _⟩ => ⟨S4x2048x1024, .f32⟩
  | .hbm, ⟨81, _⟩ => ⟨S4x2048x1024, .f32⟩
  | .hbm, ⟨82, _⟩ => ⟨S4x2048x1024, .f32⟩
  | .hbm, ⟨83, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_cst_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩

abbrev nD : Nat := 1
abbrev τ : Topo := Topo.v7x

variable {F : FTy → Type} [FloatOps F]
-- ==== Kernel4.lean ====
abbrev S4x2048x1024 : Shape := ⟨3, ![4, 2048, 1024]⟩
abbrev S4x2048 : Shape := ⟨2, ![4, 2048]⟩
abbrev S1x32 : Shape := ⟨2, ![1, 32]⟩
abbrev S1x1024 : Shape := ⟨2, ![1, 1024]⟩
abbrev S1024x3136 : Shape := ⟨2, ![1024, 3136]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x1664 : Shape := ⟨2, ![1, 1664]⟩
abbrev S1x512 : Shape := ⟨2, ![1, 512]⟩
abbrev S64x512 : Shape := ⟨2, ![64, 512]⟩
abbrev S128 : Shape := ⟨1, ![128]⟩
abbrev S_ : Shape := ⟨0, ![]⟩
abbrev S128x1 : Shape := ⟨2, ![128, 1]⟩
abbrev S128x128 : Shape := ⟨2, ![128, 128]⟩
abbrev S1x64 : Shape := ⟨2, ![1, 64]⟩
abbrev S1024x1024 : Shape := ⟨2, ![1024, 1024]⟩
abbrev S1024x384 : Shape := ⟨2, ![1024, 384]⟩
abbrev S1024x1536 : Shape := ⟨2, ![1024, 1536]⟩
abbrev S1024x64 : Shape := ⟨2, ![1024, 64]⟩
abbrev S1024x128 : Shape := ⟨2, ![1024, 128]⟩
abbrev S1024x3200 : Shape := ⟨2, ![1024, 3200]⟩
abbrev S256x4x192 : Shape := ⟨3, ![256, 4, 192]⟩
abbrev S256x4x256 : Shape := ⟨3, ![256, 4, 256]⟩
abbrev S256x1024 : Shape := ⟨2, ![256, 1024]⟩
abbrev S128x4x2x128 : Shape := ⟨4, ![128, 4, 2, 128]⟩
abbrev S128x2x4x128 : Shape := ⟨4, ![128, 2, 4, 128]⟩
abbrev S1x1536 : Shape := ⟨2, ![1, 1536]⟩
abbrev S1x1792 : Shape := ⟨2, ![1, 1792]⟩
abbrev S256x512 : Shape := ⟨2, ![256, 512]⟩
abbrev S4x2048x1 : Shape := ⟨3, ![4, 2048, 1]⟩
abbrev S4x2048x2176 : Shape := ⟨3, ![4, 2048, 2176]⟩
abbrev S4x2048x512 : Shape := ⟨3, ![4, 2048, 512]⟩
abbrev S1x512x1024 : Shape := ⟨3, ![1, 512, 1024]⟩
abbrev S1x512x1 : Shape := ⟨3, ![1, 512, 1]⟩
abbrev S1x512x2176 : Shape := ⟨3, ![1, 512, 2176]⟩
abbrev S1x512x512 : Shape := ⟨3, ![1, 512, 512]⟩
abbrev S8x1792 : Shape := ⟨2, ![8, 1792]⟩
abbrev S512x1024 : Shape := ⟨2, ![512, 1024]⟩
abbrev S512 : Shape := ⟨1, ![512]⟩
abbrev S512x1 : Shape := ⟨2, ![512, 1]⟩
abbrev S512x3200 : Shape := ⟨2, ![512, 3200]⟩
abbrev S512x2176 : Shape := ⟨2, ![512, 2176]⟩
abbrev S512x1792 : Shape := ⟨2, ![512, 1792]⟩
abbrev S512x512 : Shape := ⟨2, ![512, 512]⟩
abbrev S512x256 : Shape := ⟨2, ![512, 256]⟩
abbrev S512x128 : Shape := ⟨2, ![512, 128]⟩
abbrev S6144x128 : Shape := ⟨2, ![6144, 128]⟩
abbrev S1x512x128 : Shape := ⟨3, ![1, 512, 128]⟩
abbrev S4x2048x384 : Shape := ⟨3, ![4, 2048, 384]⟩
abbrev S4x2048x64 : Shape := ⟨3, ![4, 2048, 64]⟩
abbrev S4x2048x1536 : Shape := ⟨3, ![4, 2048, 1536]⟩
abbrev S4x2048x128 : Shape := ⟨3, ![4, 2048, 128]⟩
abbrev S4x2048x3136 : Shape := ⟨3, ![4, 2048, 3136]⟩

abbrev nBuf : Space → Nat
  | .hbm => 97
  | .vmem => 44
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S1x32, .f32⟩
  | .hbm, ⟨3, _⟩ => ⟨S1x1024, .f32⟩
  | .hbm, ⟨4, _⟩ => ⟨S1024x3136, .f32⟩
  | .hbm, ⟨5, _⟩ => ⟨S1x256, .f32⟩
  | .hbm, ⟨6, _⟩ => ⟨S256x768, .f32⟩
  | .hbm, ⟨7, _⟩ => ⟨S1x128, .f32⟩
  | .hbm, ⟨8, _⟩ => ⟨S128x1024, .f32⟩
  | .hbm, ⟨9, _⟩ => ⟨S1x1664, .f32⟩
  | .hbm, ⟨10, _⟩ => ⟨S1x512, .f32⟩
  | .hbm, ⟨11, _⟩ => ⟨S64x512, .f32⟩
  | .hbm, ⟨12, _⟩ => ⟨S1x512, .f32⟩
  | .hbm, ⟨13, _⟩ => ⟨S64x512, .f32⟩
  | .hbm, ⟨14, _⟩ => ⟨S1x512, .f32⟩
  | .hbm, ⟨15, _⟩ => ⟨S1x512, .f32⟩
  | .hbm, ⟨16, _⟩ => ⟨S128, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S128, .i32⟩
  | .hbm, ⟨21, _⟩ => ⟨S128, .i32⟩
  | .hbm, ⟨22, _⟩ => ⟨S_, .i32⟩
  | .hbm, ⟨23, _⟩ => ⟨S128, .i32⟩
  | .hbm, ⟨24, _⟩ => ⟨S128, .i1⟩
  | .hbm, ⟨25, _⟩ => ⟨S128, .i32⟩
  | .hbm, ⟨26, _⟩ => ⟨S128, .i32⟩
  | .hbm, ⟨27, _⟩ => ⟨S_, .i32⟩
  | .hbm, ⟨28, _⟩ => ⟨S128, .i32⟩
  | .hbm, ⟨29, _⟩ => ⟨S128, .i1⟩
  | .hbm, ⟨30, _⟩ => ⟨S128, .i1⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S128, .i32⟩
  | .hbm, ⟨35, _⟩ => ⟨S128x1, .i32⟩
  | .hbm, ⟨36, _⟩ => ⟨S1x128, .i32⟩
  | .hbm, ⟨37, _⟩ => ⟨S128x128, .i32⟩
  | .hbm, ⟨38, _⟩ => ⟨S128x128, .i32⟩
  | .hbm, ⟨39, _⟩ => ⟨S128x128, .i1⟩
  | .hbm, ⟨40, _⟩ => ⟨S128x128, .bf16⟩
  | .hbm, ⟨41, _⟩ => ⟨S_, .f32⟩
  | .hbm, ⟨42, _⟩ => ⟨S1x64, .f32⟩
  | .hbm, ⟨43, _⟩ => ⟨S1x128, .f32⟩
  | .hbm, ⟨44, _⟩ => ⟨S1024x1024, .f32⟩
  | .hbm, ⟨45, _⟩ => ⟨S1024x384, .f32⟩
  | .hbm, ⟨46, _⟩ => ⟨S1024x1536, .f32⟩
  | .hbm, ⟨47, _⟩ => ⟨S1024x64, .f32⟩
  | .hbm, ⟨48, _⟩ => ⟨S1024x128, .f32⟩
  | .hbm, ⟨49, _⟩ => ⟨S_, .f32⟩
  | .hbm, ⟨50, _⟩ => ⟨S1024x64, .f32⟩
  | .hbm, ⟨51, _⟩ => ⟨S1024x3200, .f32⟩
  | .hbm, ⟨52, _⟩ => ⟨S1024x3200, .bf16⟩
  | .hbm, ⟨53, _⟩ => ⟨S256x768, .bf16⟩
  | .hbm, ⟨54, _⟩ => ⟨S256x4x192, .bf16⟩
  | .hbm, ⟨55, _⟩ => ⟨S_, .i32⟩
  | .hbm, ⟨56, _⟩ => ⟨S_, .bf16⟩
  | .hbm, ⟨57, _⟩ => ⟨S256x4x256, .bf16⟩
  | .hbm, ⟨58, _⟩ => ⟨S256x1024, .bf16⟩
  | .hbm, ⟨59, _⟩ => ⟨S128x1024, .bf16⟩
  | .hbm, ⟨60, _⟩ => ⟨S128x4x2x128, .bf16⟩
  | .hbm, ⟨61, _⟩ => ⟨S128x2x4x128, .bf16⟩
  | .hbm, ⟨62, _⟩ => ⟨S128x1024, .bf16⟩
  | .hbm, ⟨63, _⟩ => ⟨S1x1536, .f32⟩
  | .hbm, ⟨64, _⟩ => ⟨S_, .f32⟩
  | .hbm, ⟨65, _⟩ => ⟨S1x64, .f32⟩
  | .hbm, ⟨66, _⟩ => ⟨S1x128, .f32⟩
  | .hbm, ⟨67, _⟩ => ⟨S_, .f32⟩
  | .hbm, ⟨68, _⟩ => ⟨S1x64, .f32⟩
  | .hbm, ⟨69, _⟩ => ⟨S1x1792, .f32⟩
  | .hbm, ⟨70, _⟩ => ⟨S64x512, .bf16⟩
  | .hbm, ⟨71, _⟩ => ⟨S_, .i32⟩
  | .hbm, ⟨72, _⟩ => ⟨S_, .bf16⟩
  | .hbm, ⟨73, _⟩ => ⟨S256x512, .bf16⟩
  | .hbm, ⟨74, _⟩ => ⟨S64x512, .bf16⟩
  | .hbm, ⟨75, _⟩ => ⟨S_, .i32⟩
  | .hbm, ⟨76, _⟩ => ⟨S_, .bf16⟩
  | .hbm, ⟨77, _⟩ => ⟨S256x512, .bf16⟩
  | .hbm, ⟨78, _⟩ => ⟨S4x2048, .f32⟩
  | .hbm, ⟨79, _⟩ => ⟨S4x2048x1, .f32⟩
  | .hbm, ⟨80, _⟩ => ⟨S4x2048x1024, .bf16⟩
  | .hbm, ⟨81, _⟩ => ⟨S4x2048x1024, .f32⟩
  | .hbm, ⟨82, _⟩ => ⟨S4x2048x2176, .f32⟩
  | .hbm, ⟨83, _⟩ => ⟨S4x2048x1024, .bf16⟩
  | .hbm, ⟨84, _⟩ => ⟨S4x2048x1024, .bf16⟩
  | .hbm, ⟨85, _⟩ => ⟨S4x2048x512, .bf16⟩
  | .hbm, ⟨86, _⟩ => ⟨S4x2048x512, .f32⟩
  | .hbm, ⟨87, _⟩ => ⟨S4x2048x512, .f32⟩
  | .hbm, ⟨88, _⟩ => ⟨S4x2048x512, .f32⟩
  | .hbm, ⟨89, _⟩ => ⟨S4x2048x512, .f32⟩
  | .hbm, ⟨90, _⟩ => ⟨S4x2048x512, .f32⟩
  | .hbm, ⟨91, _⟩ => ⟨S4x2048x512, .f32⟩
  | .hbm, ⟨92, _⟩ => ⟨S4x2048x384, .f32⟩
  | .hbm, ⟨93, _⟩ => ⟨S4x2048x64, .f32⟩
  | .hbm, ⟨94, _⟩ => ⟨S4x2048x1536, .f32⟩
  | .hbm, ⟨95, _⟩ => ⟨S4x2048x128, .f32⟩
  | .hbm, ⟨96, _⟩ => ⟨S4x2048x3136, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1, .f32⟩
  | .local _ .vmem, ⟨3, _⟩ => ⟨S1x512x1, .f32⟩
  | .local _ .vmem, ⟨4, _⟩ => ⟨S1x128, .f32⟩
  | .local _ .vmem, ⟨5, _⟩ => ⟨S1x1024, .f32⟩
  | .local _ .vmem, ⟨6, _⟩ => ⟨S1024x3200, .bf16⟩
  | .local _ .vmem, ⟨7, _⟩ => ⟨S1x256, .f32⟩
  | .local _ .vmem, ⟨8, _⟩ => ⟨S256x1024, .bf16⟩
  | .local _ .vmem, ⟨9, _⟩ => ⟨S1x128, .f32⟩
  | .local _ .vmem, ⟨10, _⟩ => ⟨S128x1024, .bf16⟩
  | .local _ .vmem, ⟨11, _⟩ => ⟨S1x1792, .f32⟩
  | .local _ .vmem, ⟨12, _⟩ => ⟨S1x512, .f32⟩
  | .local _ .vmem, ⟨13, _⟩ => ⟨S256x512, .bf16⟩
  | .local _ .vmem, ⟨14, _⟩ => ⟨S1x512, .f32⟩
  | .local _ .vmem, ⟨15, _⟩ => ⟨S256x512, .bf16⟩
  | .local _ .vmem, ⟨16, _⟩ => ⟨S1x512, .f32⟩
  | .local _ .vmem, ⟨17, _⟩ => ⟨S1x512, .f32⟩
  | .local _ .vmem, ⟨18, _⟩ => ⟨S128x128, .bf16⟩
  | .local _ .vmem, ⟨19, _⟩ => ⟨S1x512x1024, .bf16⟩
  | .local _ .vmem, ⟨20, _⟩ => ⟨S1x512x1024, .bf16⟩
  | .local _ .vmem, ⟨21, _⟩ => ⟨S1x512x1024, .f32⟩
  | .local _ .vmem, ⟨22, _⟩ => ⟨S1x512x1024, .f32⟩
  | .local _ .vmem, ⟨23, _⟩ => ⟨S1x512x2176, .f32⟩
  | .local _ .vmem, ⟨24, _⟩ => ⟨S1x512x2176, .f32⟩
  | .local _ .vmem, ⟨25, _⟩ => ⟨S1x512x1024, .bf16⟩
  | .local _ .vmem, ⟨26, _⟩ => ⟨S1x512x1024, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .f32⟩
  | .local _ .vmem, ⟨32, _⟩ => ⟨S1x512x512, .f32⟩
  | .local _ .vmem, ⟨33, _⟩ => ⟨S1x512x512, .f32⟩
  | .local _ .vmem, ⟨34, _⟩ => ⟨S1x512x512, .f32⟩
  | .local _ .vmem, ⟨35, _⟩ => ⟨S1x512x512, .f32⟩
  | .local _ .vmem, ⟨36, _⟩ => ⟨S1x512x512, .f32⟩
  | .local _ .vmem, ⟨37, _⟩ => ⟨S1x512x512, .f32⟩
  | .local _ .vmem, ⟨38, _⟩ => ⟨S1x512x512, .f32⟩
  | .local _ .vmem, ⟨39, _⟩ => ⟨S1x512x512, .f32⟩
  | .local _ .vmem, ⟨40, _⟩ => ⟨S1x512x512, .f32⟩
  | .local _ .vmem, ⟨41, _⟩ => ⟨S1x512x512, .f32⟩
  | .local _ .vmem, ⟨42, _⟩ => ⟨S1x512x512, .f32⟩
  | .local _ .vmem, ⟨43, _⟩ => ⟨S8x1792, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_c_1 : Ref sig .tc := ⟨.hbm, 55, rfl⟩
abbrev main_call1_v0 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_2 : Ref sig .tc := ⟨.hbm, 64, rfl⟩
abbrev main_v27 : Ref sig .tc := ⟨.hbm, 65, rfl⟩
abbrev main_v28 : Ref sig .tc := ⟨.hbm, 66, rfl⟩
abbrev main_cst_3 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_c_4 : Ref sig .tc := ⟨.hbm, 71, rfl⟩
abbrev main_call2_v0 : Ref sig .tc := ⟨.hbm, 72, rfl⟩
abbrev main_v32 : Ref sig .tc := ⟨.hbm, 73, rfl⟩
abbrev main_v33 : Ref sig .tc := ⟨.hbm, 74, rfl⟩
abbrev main_c_5 : Ref sig .tc := ⟨.hbm, 75, rfl⟩
abbrev main_call3_v0 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37_0 : Ref sig .tc := ⟨.hbm, 80, rfl⟩
abbrev main_v37_1 : Ref sig .tc := ⟨.hbm, 81, rfl⟩
abbrev main_v37_2 : Ref sig .tc := ⟨.hbm, 82, rfl⟩
abbrev main_v37_3 : Ref sig .tc := ⟨.hbm, 83, rfl⟩
abbrev main_v37_4 : Ref sig .tc := ⟨.hbm, 84, rfl⟩
abbrev main_v37_5 : Ref sig .tc := ⟨.hbm, 85, rfl⟩
abbrev main_v37_6 : Ref sig .tc := ⟨.hbm, 86, rfl⟩
abbrev main_v37_7 : Ref sig .tc := ⟨.hbm, 87, rfl⟩
abbrev main_v37_8 : Ref sig .tc := ⟨.hbm, 88, rfl⟩
abbrev main_v37_9 : Ref sig .tc := ⟨.hbm, 89, rfl⟩
abbrev main_v37_10 : Ref sig .tc := ⟨.hbm, 90, rfl⟩
abbrev main_v37_11 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v42 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_stg20_0 : Ref sig .tc := ⟨.vmem, 25, rfl⟩
abbrev cc0_stg20_1 : Ref sig .tc := ⟨.vmem, 26, rfl⟩
abbrev cc0_stg21_0 : Ref sig .tc := ⟨.vmem, 27, rfl⟩
abbrev cc0_stg21_1 : Ref sig .tc := ⟨.vmem, 28, rfl⟩
abbrev cc0_stg22_0 : Ref sig .tc := ⟨.vmem, 29, rfl⟩
abbrev cc0_stg22_1 : Ref sig .tc := ⟨.vmem, 30, rfl⟩
abbrev cc0_stg23_0 : Ref sig .tc := ⟨.vmem, 31, rfl⟩
abbrev cc0_stg23_1 : Ref sig .tc := ⟨.vmem, 32, rfl⟩
abbrev cc0_stg24_0 : Ref sig .tc := ⟨.vmem, 33, rfl⟩
abbrev cc0_stg24_1 : Ref sig .tc := ⟨.vmem, 34, rfl⟩
abbrev cc0_stg25_0 : Ref sig .tc := ⟨.vmem, 35, rfl⟩
abbrev cc0_stg25_1 : Ref sig .tc := ⟨.vmem, 36, rfl⟩
abbrev cc0_stg26_0 : Ref sig .tc := ⟨.vmem, 37, rfl⟩
abbrev cc0_stg26_1 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24
abbrev cc0_sem20_0 : DmaSem sig := 25
abbrev cc0_sem20_1 : DmaSem sig := 26
abbrev cc0_sem21_0 : DmaSem sig := 27
abbrev cc0_sem21_1 : DmaSem sig := 28
abbrev cc0_sem22_0 : DmaSem sig := 29
abbrev cc0_sem22_1 : DmaSem sig := 30
abbrev cc0_sem23_0 : DmaSem sig := 31
abbrev cc0_sem23_1 : DmaSem sig := 32
abbrev cc0_sem24_0 : DmaSem sig := 33
abbrev cc0_sem24_1 : DmaSem sig := 34
abbrev cc0_sem25_0 : DmaSem sig := 35
abbrev cc0_sem25_1 : DmaSem sig := 36
abbrev cc0_sem26_0 : DmaSem sig := 37
abbrev cc0_sem26_1 : DmaSem sig := 38
abbrev cc0_sem27_0 : DmaSem sig := 39
abbrev cc0_sem27_1 : DmaSem sig := 40
abbrev cc0_sem28_0 : DmaSem sig := 41
abbrev cc0_sem28_1 : DmaSem sig := 42

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_28 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3200 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1792 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x2176 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x512x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x512x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x512x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x512x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x512x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x512x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]
-- ==== Reference4Ideal.lean ====
abbrev S4x2048x1024 : Shape := ⟨3, ![4, 2048, 1024]⟩
abbrev S4x2048 : Shape := ⟨2, ![4, 2048]⟩
abbrev S1x32 : Shape := ⟨2, ![1, 32]⟩
abbrev S1x1024 : Shape := ⟨2, ![1, 1024]⟩
abbrev S1024x3136 : Shape := ⟨2, ![1024, 3136]⟩
abbrev S1x256 : Shape := ⟨2, ![1, 256]⟩
abbrev S256x768 : Shape := ⟨2, ![256, 768]⟩
abbrev S1x128 : Shape := ⟨2, ![1, 128]⟩
abbrev S128x1024 : Shape := ⟨2, ![128, 1024]⟩
abbrev S1x1664 : Shape := ⟨2, ![1, 1664]⟩
abbrev S1x512 : Shape := ⟨2, ![1, 512]⟩
abbrev S64x512 : Shape := ⟨2, ![64, 512]⟩
abbrev S_ : Shape := ⟨0, ![]⟩
abbrev S4x2048x1 : Shape := ⟨3, ![4, 2048, 1]⟩
abbrev S1x1x1024 : Shape := ⟨3, ![1, 1, 1024]⟩
abbrev S4x2048x3136 : Shape := ⟨3, ![4, 2048, 3136]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S1x32, .f32⟩
  | .hbm, ⟨3, _⟩ => ⟨S1x1024, .f32⟩
  | .hbm, ⟨4, _⟩ => ⟨S1024x3136, .f32⟩
  | .hbm, ⟨5, _⟩ => ⟨S1x256, .f32⟩
  | .hbm, ⟨6, _⟩ => ⟨S256x768, .f32⟩
  | .hbm, ⟨7, _⟩ => ⟨S1x128, .f32⟩
  | .hbm, ⟨8, _⟩ => ⟨S128x1024, .f32⟩
  | .hbm, ⟨9, _⟩ => ⟨S1x1664, .f32⟩
  | .hbm, ⟨10, _⟩ => ⟨S1x512, .f32⟩
  | .hbm, ⟨11, _⟩ => ⟨S64x512, .f32⟩
  | .hbm, ⟨12, _⟩ => ⟨S1x512, .f32⟩
  | .hbm, ⟨13, _⟩ => ⟨S64x512, .f32⟩
  | .hbm, ⟨14, _⟩ => ⟨S1x512, .f32⟩
  | .hbm, ⟨15, _⟩ => ⟨S1x512, .f32⟩
  | .hbm, ⟨16, _⟩ => ⟨S4x2048x1024, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S1x1x1024, .f32⟩
  | .hbm, ⟨30, _⟩ => ⟨S4x2048x1024, .f32⟩
  | .hbm, ⟨31, _⟩ => ⟨S4x2048x1024, .f32⟩
  | .hbm, ⟨32, _⟩ => ⟨S4x2048x1024, .bf16⟩
  | .hbm, ⟨33, _⟩ => ⟨S4x2048x3136, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩

abbrev nD : Nat := 1
abbrev τ : Topo := Topo.v7x

variable {F : FTy → Type} [FloatOps F]
-- ==== Proof.Plain.lean ====
module

public import proofs.«01_k».proof.Proof.Gen.Kernel.Frame
public import proofs.«01_k».proof.Proof.Gen.Kernel.Loops

/-! The frame of the kernel as it runs on floats: the program ends, its arguments are as launched and every counter is at zero.
    Nothing is said of what the three gradients hold. -/

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

set_option maxHeartbeats 8000000 in
/-- The body at any grid point, on any whole memrefs: it gives back its inputs as found and its outputs and scratch at some contents. -/
theorem body_runs (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S1x2048x256 .f32) (harg6 : arg6.IsWhole) (arg7 : Memref sig .tc .vmem S1x2x2048x128 .f32) (harg7 : arg7.IsWhole) (arg8 : Memref sig .tc .vmem S1x2048x256 .f32) (harg8 : arg8.IsWhole) (arg9 : Memref sig .tc .vmem S1x2048x512 .f32) (harg9 : arg9.IsWhole) (arg10 : Memref sig .tc .vmem S1x512x512 .f32) (harg10 : arg10.IsWhole) (arg11 : Memref sig .tc .vmem S1x512x256 .f32) (harg11 : arg11.IsWhole) (arg12 : Memref sig .tc .vmem S2x2048x128 .f32) (harg12 : arg12.IsWhole)
    (x0 : Vec F S1x2048x512 .bf16) (x1 : Vec F S1x512x512 .bf16) (x2 : Vec F S1x512x256 .bf16) (x3 : Vec F S1x2048x256 .f32) (x4 : Vec F S1x2x2048x128 .f32) (x5 : Vec F S1x2048x256 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K := by
  simp only [cc0_attn_bwd_eq_skeleton]; unfold cc0_attn_bwd_skel
  simp only [k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  by_cases hc0 : k0_cond1 i = 1#1
  · sl_exec (disch := first | sl_exact hc0)
    sl_step
    iapply Hk
    isplitl [H0]
    · iexists _; isplitr
      swap; · iexact H0
      ipureintro; first | exact harg3.read_unread _ | rfl
    isplitl [H1]
    · iexists _; isplitr
      swap; · iexact H1
      ipureintro; first | exact harg4.read_unread _ | rfl
    isplitl [H2]
    · iexists _; isplitr
      swap; · iexact H2
      ipureintro; first | exact harg5.read_unread _ | rfl
    isplitl [H3]
    · iexists _; isplitr
      swap; · iexact H3
      ipureintro; first | exact harg6.read_unread _ | rfl
    isplitl [H4]
    · iexists _; isplitr
      swap; · iexact H4
      ipureintro; first | exact harg7.read_unread _ | rfl
    isplitl [H5]
    · iexists _; isplitr
      swap; · iexact H5
      ipureintro; first | exact harg8.read_unread _ | rfl
    isplitl [H6]
    · iexists _, _; isplitr
      swap; · iexact H6
      ipureintro; rfl
    isplitl [H7]
    · iexists _, _; isplitr
      swap; · iexact H7
      ipureintro; rfl
    isplitl [H8]
    · iexists _, _; isplitr
      swap; · iexact H8
      ipureintro; rfl
    iexists _, _; isplitr
    swap; · iexact HS
    ipureintro; rfl
  · sl_exec (disch := first | sl_exact hc0)
    sl_step
    iapply Hk
    isplitl [H0]
    · iexists _; isplitr
      swap; · iexact H0
      ipureintro; first | exact harg3.read_unread _ | rfl
    isplitl [H1]
    · iexists _; isplitr
      swap; · iexact H1
      ipureintro; first | exact harg4.read_unread _ | rfl
    isplitl [H2]
    · iexists _; isplitr
      swap; · iexact H2
      ipureintro; first | exact harg5.read_unread _ | rfl
    isplitl [H3]
    · iexists _; isplitr
      swap; · iexact H3
      ipureintro; first | exact harg6.read_unread _ | rfl
    isplitl [H4]
    · iexists _; isplitr
      swap; · iexact H4
      ipureintro; first | exact harg7.read_unread _ | rfl
    isplitl [H5]
    · iexists _; isplitr
      swap; · iexact H5
      ipureintro; first | exact harg8.read_unread _ | rfl
    isplitl [H6]
    · iexists _, _; isplitr
      swap; · iexact H6
      ipureintro; rfl
    isplitl [H7]
    · iexists _, _; isplitr
      swap; · iexact H7
      ipureintro; rfl
    isplitl [H8]
    · iexists _, _; isplitr
      swap; · iexact H8
      ipureintro; rfl
    iexists _, _; isplitr
    swap; · iexact HS
    ipureintro; rfl

variable (m : (ℓ : Loc nD τ sig) → Buf (Elt F) ℓ) (ρ : Dev nD → PrngReg)

/-- The windows of which nothing is said: the three gradients. -/
def unsaid : Fin 9 → Bool := fun w => w.val == 6 || w.val == 7 || w.val == 8

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
abbrev hs8 (t : Fin cfg0.N) : (st0_8 t).IsWhole := hstage0_8 ((cfg0.slots t 8).cast nbuf0_8)

abbrev scM : Memref sig .tc .vmem S2x2048x128 .f32 := Memref.whole cc0_scratch0

theorem inv_eq (c : Dev nD) : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
  Φ _ := Pipeline.ΦA spec0 c
  q _ := fullShare
  owed _ := 0

theorem arr_entry (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem before_0 (c : Dev nD) (t : Fin cfg0.N) (d) : (dats m 0 c).before 0 t d = iblk m c 0 t :=
  before0_0_of m (dats m 0 c) (arr_entry m c 0) (after_0 m c) t d
theorem before_1 (c : Dev nD) (t : Fin cfg0.N) (d) : (dats m 0 c).before 1 t d = iblk m c 1 t :=
  before0_1_of m (dats m 0 c) (arr_entry m c 1) (after_1 m c) t d
theorem before_2 (c : Dev nD) (t : Fin cfg0.N) (d) : (dats m 0 c).before 2 t d = iblk m c 2 t :=
  before0_2_of m (dats m 0 c) (arr_entry m c 2) (after_2 m c) t d
theorem before_3 (c : Dev nD) (t : Fin cfg0.N) (d) : (dats m 0 c).before 3 t d = iblk m c 3 t :=
  before0_3_of m (dats m 0 c) (arr_entry m c 3) (after_3 m c) t d
theorem before_4 (c : Dev nD) (t : Fin cfg0.N) (d) : (dats m 0 c).before 4 t d = iblk m c 4 t :=
  before0_4_of m (dats m 0 c) (arr_entry m c 4) (after_4 m c) t d
theorem before_5 (c : Dev nD) (t : Fin cfg0.N) (d) : (dats m 0 c).before 5 t d = iblk m c 5 t :=
  before0_5_of m (dats m 0 c) (arr_entry m c 5) (after_5 m c) t d

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X)
    ∗ (∃ X, owns (c : Thread nD τ) (st0_7 t) fullShare X)
    ∗ (∃ X, owns (c : Thread nD τ) (st0_8 t) fullShare X))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X)
    ∗ (∃ X, owns (c : Thread nD τ) (st0_7 t) fullShare X)
    ∗ (∃ X, owns (c : Thread nD τ) (st0_8 t) fullShare X))

theorem body_sound (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5,
    show (dats m 0 c).Φ t.succ = Pipeline.ΦA spec0 c from rfl, show (dats m 0 c).Φ t.castSucc = Pipeline.ΦA spec0 c from rfl, inv_eq]
  iintro ⟨⟨HS, Hg⟩, Ho, ⟨%d0, H0⟩, ⟨%d1, H1⟩, ⟨%d2, H2⟩, ⟨%d3, H3⟩, ⟨%d4, H4⟩, ⟨%d5, H5⟩, H6, H7, H8⟩
  iapply (body_runs c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM (Memref.isWhole_whole _) (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS]; · iexact HS
  iintro ⟨H0, H1, H2, H3, H4, H5, H6, H7, H8, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ unsaid := fun t => by
  rw [bigSep_W0, bigSep_W0, row_eq]
  exact triple_restated (body_sound m c t) rfl .rfl fun _ => .rfl

-- the launch theorem's implicit arguments are found in this statement through plain definitions
set_option backward.isDefEq.respectTransparency.types false in
/-- The run of the program: the staged inputs as at the launch of the pipeline, every counter at zero. -/
theorem run_all : θ_run defs (onTc (τ := τ) (main (F := F))) (s₀ m ρ)
    (fun r => Pipeline.RDat.FramePost (cfgs 0) (fun c => (dats m 0 c).toRForget unsaid) (V m) r ∧ r.2.sem = fun _ => 0) :=
  Pipeline.θ_run_frame_track_forget (Q' := _) cfgs (dats m) (0 : Fin 1) launch0 defs₀ Variants.none unsaid m ρ main
    (hbody := fun c => (obligation m c).loose) (hshare := fun c => (dats m 0 c).share_full fun _ => rfl)
    (howed := fun _ _ => rfl) (V := V m) (hmain := hmain m Variants.none) (hA := arr_entry m)
    (hin := fun _ => .rfl) (hout := fun _ => .rfl)

/-- The frame at any floats. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c =>
    ⟨(Pipeline.RDat.FramePost.arr_in h.1 c 0 rfl).trans ((arr_entry m c 0).trans (V_main_arg0 m c)),
     (Pipeline.RDat.FramePost.arr_in h.1 c 1 rfl).trans ((arr_entry m c 1).trans (V_main_arg1 m c)),
     (Pipeline.RDat.FramePost.arr_in h.1 c 2 rfl).trans ((arr_entry m c 2).trans (V_main_arg2 m c)),
     (Pipeline.RDat.FramePost.arr_in h.1 c 5 rfl).trans ((arr_entry m c 5).trans (V_main_arg3 m c))⟩, h.2⟩) (run_all m ρ)

end Cert.Kernel.Attn

end
-- ==== Proof.Tile.lean ====
module

public import proofs.«01_k».proof.Proof.Gen.KernelIdeal.Skeleton
public import Idealize.ShloMosaic.Lib.Pointwise
public import Idealize.ShloMosaic.Lib.WritesUnit
public import Idealize.ShloMosaic.Lib.WordCmp

/-! One tile of the backward attention kernel over the extended reals: its payloads, read at an index, as the masked
    scores, the weights, and the score gradients of a block of query rows against a block of keys. -/

@[expose] public section

set_option maxRecDepth 16384

noncomputable section

namespace Cert.KernelIdeal.Attn

open Cert.KernelIdeal Cert.KernelIdeal.Gen Idealize.ShloMosaic

/-- The scale of the scores. -/
def scl : EReal := Ideal.ofBits .f32 0x3D93CD3A#32

/-- Column `d` of head `h` among the two heads of a query or key block. -/
def col (h : Fin 2) (d : Fin 256) : Fin 512 := ⟨256 * h.val + d.val, by have := h.isLt; have := d.isLt; omega⟩

/-- Column `d` of head `h` among the two heads of a value block. -/
def colv (h : Fin 2) (d : Fin 128) : Fin 256 := ⟨128 * h.val + d.val, by have := h.isLt; have := d.isLt; omega⟩

/-- Row `r` of block `n` of the 2048 query rows. -/
def row (n : ℕ) (hn : n < 4) (r : Fin 512) : Fin 2048 := ⟨512 * n + r.val, by have := r.isLt; omega⟩

section Spec

variable (x0 : Vec Ideal S1x2048x512 .bf16) (x1 : Vec Ideal S1x512x512 .bf16) (x2 : Vec Ideal S1x512x256 .bf16)
  (x4 : Vec Ideal S1x2x2048x128 .f32) (x5 : Vec Ideal S1x2048x256 .f32) (dl : Vec Ideal S2x2048x128 .f32) (j : ℕ)

/-- The masked, scaled score of query row `r` against key `512 j + kk`, in head `h` of the block. -/
def sc (h : Fin 2) (r : Fin 2048) (kk : Fin 512) : EReal :=
  if 512 * j + kk.val ≤ r.val then (∑ d : Fin 256, x0 (ix3 0 r (col h d)) * x1 (ix3 0 kk (col h d))) * scl else ⊥

/-- The attention weight: the exponential of the score less the row's logarithm of a sum. -/
def pr (h : Fin 2) (r : Fin 2048) (kk : Fin 512) : EReal := Ideal.exp (sc x0 x1 j h r kk - x4 (ix4 0 h r 0))

/-- The gradient of the score before scaling, scaled. -/
def dsc (h : Fin 2) (r : Fin 2048) (kk : Fin 512) : EReal :=
  pr x0 x1 x4 j h r kk * ((∑ d : Fin 128, x5 (ix3 0 r (colv h d)) * x2 (ix3 0 kk (colv h d))) - dl (ix3 h r 0)) * scl

/-- What a tile of loaded blocks is: block `n` of the query rows, in head `h`. -/
structure IsTile (h : Fin 2) (n : ℕ) (hn : n < 4) (q : Vec Ideal S1x512x256 .bf16) (k : Vec Ideal S1x512x256 .bf16)
    (v : Vec Ideal S1x512x128 .bf16) (g : Vec Ideal S1x512x128 .f32) (l : Vec Ideal S1x1x512x128 .f32)
    (dd : Vec Ideal S1x512x128 .f32) : Prop where
  q : ∀ r d, q (ix3 0 r d) = x0 (ix3 0 (row n hn r) (col h d))
  k : ∀ r d, k (ix3 0 r d) = x1 (ix3 0 r (col h d))
  v : ∀ r d, v (ix3 0 r d) = x2 (ix3 0 r (colv h d))
  g : ∀ r d, g (ix3 0 r d) = x5 (ix3 0 (row n hn r) (colv h d))
  l : ∀ r, l (ix4 0 0 r 0) = x4 (ix4 0 h (row n hn r) 0)
  d : ∀ r, dd (ix3 0 r 0) = dl (ix3 h (row n hn r) 0)

variable {x0 x1 x2 x4 x5 dl j} {h : Fin 2} {n : ℕ} {hn : n < 4} {q k : Vec Ideal S1x512x256 .bf16}
    {v : Vec Ideal S1x512x128 .bf16} {g : Vec Ideal S1x512x128 .f32} {l : Vec Ideal S1x1x512x128 .f32}
    {dd : Vec Ideal S1x512x128 .f32} (T : IsTile x0 x1 x2 x4 x5 dl h n hn q k v g l dd)
include T

/-! The tiles below the diagonal: every key is visible. -/

theorem pay14_eq (hj : j < n) (r kk : Fin 512) :
    k0_pay14 (F := Ideal) q k l (ix2 r kk) = pr x0 x1 x4 j h (row n hn r) kk := by
  pointwise [k0_pay14, k0_pay11, k0_pay12]
  have hle : 512 * j + kk.val ≤ (row n hn r).val := by have := kk.isLt; simp only [row]; omega
  rw [pr, sc, if_pos hle, T.l]
  simp only [T.q, T.k]
  rfl

theorem pay22_eq (hj : j < n) (r kk : Fin 512) :
    k0_pay22 (F := Ideal) q k l (ix2 r kk) = pr x0 x1 x4 j h (row n hn r) kk := pay14_eq T hj r kk

theorem pay16_eq (hj : j < n) (r kk : Fin 512) :
    k0_pay16 (F := Ideal) q k v g l dd (ix2 r kk) = dsc x0 x1 x2 x4 x5 dl j h (row n hn r) kk := by
  pointwise [k0_pay16, k0_pay13]
  rw [pay14_eq T hj, dsc, T.d]
  simp only [T.g, T.v]
  rfl

theorem pay1_eq (hj : j < n) (r kk : Fin 512) :
    k0_pay1 (F := Ideal) (k0_pay22 q k l) (k0_pay24 v g) dd (ix2 r kk) = dsc x0 x1 x2 x4 x5 dl j h (row n hn r) kk :=
  pay16_eq T hj r kk

/-- The value gradient's step. -/
theorem pay15_eq (hj : j < n) (acc : FVec Ideal S512x128 .f32) (kk : Fin 512) (d : Fin 128) :
    k0_pay15 (F := Ideal) acc q k g l (ix2 kk d)
      = acc (ix2 kk d) + ∑ r : Fin 512, pr x0 x1 x4 j h (row n hn r) kk * x5 (ix3 0 (row n hn r) (colv h d)) := by
  pointwise [k0_pay15, k0_pay13]
  simp only [pay14_eq T hj, T.g]

theorem pay23_eq (hj : j < n) (acc : FVec Ideal S512x128 .f32) (kk : Fin 512) (d : Fin 128) :
    k0_pay23 (F := Ideal) acc q k g l (ix2 kk d)
      = acc (ix2 kk d) + ∑ r : Fin 512, pr x0 x1 x4 j h (row n hn r) kk * x5 (ix3 0 (row n hn r) (colv h d)) :=
  pay15_eq T hj acc kk d

/-- The key gradient's step. -/
theorem pay17_eq (hj : j < n) (acc : FVec Ideal S512x256 .f32) (kk : Fin 512) (d : Fin 256) :
    k0_pay17 (F := Ideal) acc (k0_pay11 q) (k0_pay16 q k v g l dd) (constant S512x256 .f32 0x00000000#32) (ix2 kk d)
      = acc (ix2 kk d) + ∑ r : Fin 512, dsc x0 x1 x2 x4 x5 dl j h (row n hn r) kk * x0 (ix3 0 (row n hn r) (col h d)) := by
  pointwise [k0_pay17, k0_pay11]
  simp only [pay16_eq T hj, T.q]

theorem pay2_eq (hj : j < n) (acc : FVec Ideal S512x256 .f32) (kk : Fin 512) (d : Fin 256) :
    k0_pay2 (F := Ideal) acc (k0_pay19 q) (k0_pay22 q k l) (k0_pay24 v g) dd (ix2 kk d)
      = acc (ix2 kk d) + ∑ r : Fin 512, dsc x0 x1 x2 x4 x5 dl j h (row n hn r) kk * x0 (ix3 0 (row n hn r) (col h d)) :=
  pay17_eq T hj acc kk d

/-- The query gradient's step. -/
theorem pay18_eq (hj : j < n) (acc : Vec Ideal S1x512x256 .f32) (r : Fin 512) (d : Fin 256) :
    k0_pay18 (F := Ideal) (k0_pay12 k) (k0_pay16 q k v g l dd) acc (ix3 0 r d)
      = acc (ix3 0 r d) + ∑ kk : Fin 512, dsc x0 x1 x2 x4 x5 dl j h (row n hn r) kk * x1 (ix3 0 kk (col h d)) := by
  pointwise [k0_pay18, k0_pay12]
  simp only [pay16_eq T hj, T.k]

theorem pay3_eq (hj : j < n) (acc : Vec Ideal S1x512x256 .f32) (r : Fin 512) (d : Fin 256) :
    k0_pay3 (F := Ideal) (k0_pay20 k) (k0_pay22 q k l) (k0_pay24 v g) dd acc (ix3 0 r d)
      = acc (ix3 0 r d) + ∑ kk : Fin 512, dsc x0 x1 x2 x4 x5 dl j h (row n hn r) kk * x1 (ix3 0 kk (col h d)) :=
  pay18_eq T hj acc r d

/-! The tile on the diagonal: key `kk` is visible from row `r` where `kk ≤ r`. -/

theorem pay48_eq (hj : j = n) (r kk : Fin 512) :
    k0_pay48 (F := Ideal) q k l (ix2 r kk) = pr x0 x1 x4 j h (row n hn r) kk := by
  pointwise [k0_pay48, k0_pay44, k0_pay45]
  have hw : IntOp.cmpi CmpIPredicate.sle (BitVec.ofNat 32 kk.val) (BitVec.ofNat 32 r.val) = 1#1 ↔ kk.val ≤ r.val := by
    have := kk.isLt; have := r.isLt
    word_cmp
  have hm : (Named.named (F := Ideal) (φ := .f32) κ "mask" 0xF149F2CA#32 : EReal) = ⊥ := rfl
  rw [pr, sc, T.l]
  simp only [T.q, T.k]
  by_cases hle : kk.val ≤ r.val
  · rw [if_pos (by simp only [row]; omega), hw.mpr hle]; rfl
  · rw [if_neg (by simp only [row]; omega), ValueIdx.eq_zero_of_ne_one (fun hh => hle (hw.mp hh))]
    exact congrArg (fun z => Ideal.exp (z - _)) hm

theorem pay58_eq (hj : j = n) (r kk : Fin 512) :
    k0_pay58 (F := Ideal) (k0_pay57 q k) l (ix2 r kk) = pr x0 x1 x4 j h (row n hn r) kk := pay48_eq T hj r kk

theorem pay50_eq (hj : j = n) (r kk : Fin 512) :
    k0_pay50 (F := Ideal) (k0_pay46 v) (k0_pay47 g) (k0_pay48 q k l) dd (ix2 r kk)
      = dsc x0 x1 x2 x4 x5 dl j h (row n hn r) kk := by
  pointwise [k0_pay50, k0_pay46, k0_pay47]
  rw [pay48_eq T hj, dsc, T.d]
  simp only [T.g, T.v]
  rfl

theorem pay60_eq (hj : j = n) (r kk : Fin 512) :
    k0_pay60 (F := Ideal) (k0_pay55 v) (k0_pay56 g) (k0_pay57 q k) l dd (ix2 r kk)
      = dsc x0 x1 x2 x4 x5 dl j h (row n hn r) kk := pay50_eq T hj r kk

theorem pay49_eq (hj : j = n) (kk : Fin 512) (d : Fin 128) :
    k0_pay49 (F := Ideal) k0_pay43 (k0_pay47 g) (k0_pay48 q k l) (ix2 kk d)
      = ∑ r : Fin 512, pr x0 x1 x4 j h (row n hn r) kk * x5 (ix3 0 (row n hn r) (colv h d)) := by
  pointwise [k0_pay49, k0_pay43, k0_pay47]
  simp only [pay48_eq T hj, T.g]

theorem pay59_eq (hj : j = n) (kk : Fin 512) (d : Fin 128) :
    k0_pay59 (F := Ideal) k0_pay43 (k0_pay56 g) (k0_pay57 q k) l (ix2 kk d)
      = ∑ r : Fin 512, pr x0 x1 x4 j h (row n hn r) kk * x5 (ix3 0 (row n hn r) (colv h d)) := pay49_eq T hj kk d

theorem pay51_eq (hj : j = n) (kk : Fin 512) (d : Fin 256) :
    k0_pay51 (F := Ideal) k0_pay42 (k0_pay44 q) (k0_pay46 v) (k0_pay47 g) (k0_pay48 q k l) dd (ix2 kk d)
      = ∑ r : Fin 512, dsc x0 x1 x2 x4 x5 dl j h (row n hn r) kk * x0 (ix3 0 (row n hn r) (col h d)) := by
  pointwise [k0_pay51, k0_pay42, k0_pay44]
  simp only [pay50_eq T hj, T.q]

theorem pay61_eq (hj : j = n) (kk : Fin 512) (d : Fin 256) :
    k0_pay61 (F := Ideal) k0_pay42 (k0_pay53 q) (k0_pay55 v) (k0_pay56 g) (k0_pay57 q k) l dd (ix2 kk d)
      = ∑ r : Fin 512, dsc x0 x1 x2 x4 x5 dl j h (row n hn r) kk * x0 (ix3 0 (row n hn r) (col h d)) :=
  pay51_eq T hj kk d

theorem pay52_eq (hj : j = n) (acc : Vec Ideal S1x512x256 .f32) (r : Fin 512) (d : Fin 256) :
    k0_pay52 (F := Ideal) (k0_pay45 k) (k0_pay46 v) (k0_pay47 g) (k0_pay48 q k l) dd acc (ix3 0 r d)
      = acc (ix3 0 r d) + ∑ kk : Fin 512, dsc x0 x1 x2 x4 x5 dl j h (row n hn r) kk * x1 (ix3 0 kk (col h d)) := by
  pointwise [k0_pay52, k0_pay45]
  simp only [pay50_eq T hj, T.k]

theorem pay62_eq (hj : j = n) (acc : Vec Ideal S1x512x256 .f32) (r : Fin 512) (d : Fin 256) :
    k0_pay62 (F := Ideal) (k0_pay54 k) (k0_pay55 v) (k0_pay56 g) (k0_pay57 q k) l dd acc (ix3 0 r d)
      = acc (ix3 0 r d) + ∑ kk : Fin 512, dsc x0 x1 x2 x4 x5 dl j h (row n hn r) kk * x1 (ix3 0 kk (col h d)) :=
  pay52_eq T hj acc r d

end Spec

/-- A row's sum of products, spread over the lanes. -/
theorem pay39_eq (a b : Vec Ideal S1x512x128 .f32) (r : Fin 512) (e : Fin 128) :
    k0_pay39 (F := Ideal) a b (ix3 0 r e) = ∑ d : Fin 128, a (ix3 0 r d) * b (ix3 0 r d) := by
  pointwise [k0_pay39]

theorem pay40_eq (a b : Vec Ideal S1x512x128 .f32) (r : Fin 512) (e : Fin 128) :
    k0_pay40 (F := Ideal) a b (ix3 0 r e) = ∑ d : Fin 128, a (ix3 0 r d) * b (ix3 0 r d) := pay39_eq a b r e

theorem pay41_eq (r : Fin 2048) (d : Fin 512) : k0_pay41 (F := Ideal) (ix3 0 r d) = 0 := by
  pointwise [k0_pay41]

end Cert.KernelIdeal.Attn

end
-- ==== Proof.Off.lean ====
module

public import proofs.«01_k».proof.Proof.Gen.KernelIdeal.Points

/-! Where the body of the backward attention kernel reads and writes at a grid point: its offsets and trip counts in
    closed form. Point `t` is key tile `3 - t % 4`. -/

@[expose] public section

set_option maxRecDepth 16384

noncomputable section

namespace Cert.KernelIdeal.Attn

open Cert.KernelIdeal Cert.KernelIdeal.Gen Idealize.ShloMosaic

theorem trips1 : k0_t1_loop.trips = 4 := by decide +kernel
theorem trips2 : ∀ t : Fin grid0.N, (k0_t2_loop (grid0.coords t)).trips = t.val % 4 := by decide +kernel
theorem trips3 : ∀ t : Fin grid0.N, (k0_t3_loop (grid0.coords t)).trips = 0 := by decide +kernel
theorem cond_iff : ∀ t : Fin grid0.N, k0_cond1 (grid0.coords t) = 1#1 ↔ t.val % 4 = 0 := by decide +kernel

theorem off1_eq : ∀ k : Fin k0_t1_loop.trips, k0_off1 k = ![0, 512 * k.val, 0] := by decide +kernel
theorem off2_eq : ∀ k : Fin k0_t1_loop.trips, k0_off2 k = ![0, 512 * k.val, 0] := by decide +kernel
theorem off3_eq : ∀ k : Fin k0_t1_loop.trips, k0_off3 k = ![0, 512 * k.val, 128] := by decide +kernel
theorem off4_eq : ∀ k : Fin k0_t1_loop.trips, k0_off4 k = ![1, 512 * k.val, 0] := by decide +kernel
theorem off5_eq : ∀ t : Fin grid0.N, k0_off5 (grid0.coords t) = ![0, 512 * (3 - t.val % 4), 0] := by decide +kernel
theorem off6_eq : ∀ t : Fin grid0.N, k0_off6 (grid0.coords t) = ![0, 512 * (3 - t.val % 4), 0] := by decide +kernel
theorem off7_eq : ∀ t : Fin grid0.N, k0_off7 (grid0.coords t) = ![0, 0, 512 * (3 - t.val % 4), 0] := by decide +kernel
theorem off8_eq : ∀ t : Fin grid0.N, k0_off8 (grid0.coords t) = ![0, 512 * (3 - t.val % 4), 0] := by decide +kernel
theorem off9_eq : ∀ t : Fin grid0.N, k0_off9 (grid0.coords t) = ![0, 512 * (3 - t.val % 4), 256] := by decide +kernel
theorem off10_eq : ∀ t : Fin grid0.N, k0_off10 (grid0.coords t) = ![0, 512 * (3 - t.val % 4), 128] := by decide +kernel
theorem off11_eq : ∀ t : Fin grid0.N, k0_off11 (grid0.coords t) = ![0, 1, 512 * (3 - t.val % 4), 0] := by decide +kernel
theorem off12_eq : ∀ t : Fin grid0.N, k0_off12 (grid0.coords t) = ![1, 512 * (3 - t.val % 4), 0] := by decide +kernel
theorem off13_eq : ∀ t : Fin grid0.N, ∀ k : Fin (k0_t2_loop (grid0.coords t)).trips, k0_off13 (grid0.coords t) k = ![0, 512 * (4 - t.val % 4 + k.val), 0] := by decide +kernel
theorem off14_eq : ∀ t : Fin grid0.N, ∀ k : Fin (k0_t2_loop (grid0.coords t)).trips, k0_off14 (grid0.coords t) k = ![0, 512 * (4 - t.val % 4 + k.val), 0] := by decide +kernel
theorem off15_eq : ∀ t : Fin grid0.N, ∀ k : Fin (k0_t2_loop (grid0.coords t)).trips, k0_off15 (grid0.coords t) k = ![0, 0, 512 * (4 - t.val % 4 + k.val), 0] := by decide +kernel
theorem off16_eq : ∀ t : Fin grid0.N, ∀ k : Fin (k0_t2_loop (grid0.coords t)).trips, k0_off16 (grid0.coords t) k = ![0, 512 * (4 - t.val % 4 + k.val), 0] := by decide +kernel
theorem off17_eq : ∀ t : Fin grid0.N, ∀ k : Fin (k0_t2_loop (grid0.coords t)).trips, k0_off17 (grid0.coords t) k = ![0, 512 * (4 - t.val % 4 + k.val), 256] := by decide +kernel
theorem off18_eq : ∀ t : Fin grid0.N, ∀ k : Fin (k0_t2_loop (grid0.coords t)).trips, k0_off18 (grid0.coords t) k = ![0, 512 * (4 - t.val % 4 + k.val), 128] := by decide +kernel
theorem off19_eq : ∀ t : Fin grid0.N, ∀ k : Fin (k0_t2_loop (grid0.coords t)).trips, k0_off19 (grid0.coords t) k = ![0, 1, 512 * (4 - t.val % 4 + k.val), 0] := by decide +kernel
theorem off20_eq : ∀ t : Fin grid0.N, ∀ k : Fin (k0_t2_loop (grid0.coords t)).trips, k0_off20 (grid0.coords t) k = ![1, 512 * (4 - t.val % 4 + k.val), 0] := by decide +kernel

end Cert.KernelIdeal.Attn

end
-- ==== Proof.RunA.lean ====
module

public import proofs.«01_k».proof.Proof.Gen.KernelIdeal.Frame
public import proofs.«01_k».proof.Proof.Gen.KernelIdeal.Loops

/-! The body of the backward attention kernel at one grid point, run on any whole memrefs: what its stores leave in
    the query-gradient window, the key- and value-gradient tiles and the carried row sums, as lists of pieces. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The branch condition of the body: the first key tile of a group of heads. -/
abbrev first (i : grid0.Coords) : Prop := k0_cond1 i = 1#1

set_option maxHeartbeats 4000000 in
/-- The body run where the branch is taken: the pieces it leaves, given the contents it finds. -/
def runA (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S1x2048x256 .f32) (harg6 : arg6.IsWhole) (arg7 : Memref sig .tc .vmem S1x2x2048x128 .f32) (harg7 : arg7.IsWhole) (arg8 : Memref sig .tc .vmem S1x2048x256 .f32) (harg8 : arg8.IsWhole) (arg9 : Memref sig .tc .vmem S1x2048x512 .f32) (harg9 : arg9.IsWhole) (arg10 : Memref sig .tc .vmem S1x512x512 .f32) (harg10 : arg10.IsWhole) (arg11 : Memref sig .tc .vmem S1x512x256 .f32) (harg11 : arg11.IsWhole) (arg12 : Memref sig .tc .vmem S2x2048x128 .f32) (harg12 : arg12.IsWhole) (hc0 : first i)
    (x0 : Vec F S1x2048x512 .bf16) (x1 : Vec F S1x512x512 .bf16) (x2 : Vec F S1x512x256 .bf16) (x3 : Vec F S1x2048x256 .f32) (x4 : Vec F S1x2x2048x128 .f32) (x5 : Vec F S1x2048x256 .f32) (y : Vec F S1x2048x512 .f32) (s : Vec F S2x2048x128 .f32) :
    Σ' (L6 : List (View.Piece (Elt F) S1x2048x512 .f32)) (L7 : List (View.Piece (Elt F) S1x512x512 .f32)) (L8 : List (View.Piece (Elt F) S1x512x256 .f32)),
    { LS : List (View.Piece (Elt F) S2x2048x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y ∗ (∃ d, owns (c : Thread nD τ) arg10 fullShare d) ∗ (∃ d, owns (c : Thread nD τ) arg11 fullShare d) ∗ owns (c : Thread nD τ) arg12 fullShare s
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} arg12.view.writes (Elt F) (harg12.unread s) LS)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfs
    sl_exec (disch := first | sl_exact hc0)
    sl_step
    iapply Hk
    sl_close

end Cert.KernelIdeal.Attn

end
-- ==== Proof.RunB.lean ====
module

public import proofs.«01_k».proof.Proof.Gen.KernelIdeal.Frame
public import proofs.«01_k».proof.Proof.RunA

/-! The body of the backward attention kernel at one grid point, run on any whole memrefs: what its stores leave in
    the query-gradient window, the key- and value-gradient tiles and the carried row sums, as lists of pieces. -/

@[expose] public section

set_option maxRecDepth 16384

noncomputable section

namespace Cert.KernelIdeal.Attn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 4000000 in
/-- The body run where the branch is not taken: the pieces it leaves, given the contents it finds. -/
def runB (c : Dev nD) (i : grid0.Coords) (arg3 : Memref sig .tc .vmem S1x2048x512 .bf16) (harg3 : arg3.IsWhole) (arg4 : Memref sig .tc .vmem S1x512x512 .bf16) (harg4 : arg4.IsWhole) (arg5 : Memref sig .tc .vmem S1x512x256 .bf16) (harg5 : arg5.IsWhole) (arg6 : Memref sig .tc .vmem S1x2048x256 .f32) (harg6 : arg6.IsWhole) (arg7 : Memref sig .tc .vmem S1x2x2048x128 .f32) (harg7 : arg7.IsWhole) (arg8 : Memref sig .tc .vmem S1x2048x256 .f32) (harg8 : arg8.IsWhole) (arg9 : Memref sig .tc .vmem S1x2048x512 .f32) (harg9 : arg9.IsWhole) (arg10 : Memref sig .tc .vmem S1x512x512 .f32) (harg10 : arg10.IsWhole) (arg11 : Memref sig .tc .vmem S1x512x256 .f32) (harg11 : arg11.IsWhole) (arg12 : Memref sig .tc .vmem S2x2048x128 .f32) (harg12 : arg12.IsWhole) (hc0 : ¬ first i)
    (x0 : Vec F S1x2048x512 .bf16) (x1 : Vec F S1x512x512 .bf16) (x2 : Vec F S1x512x256 .bf16) (x3 : Vec F S1x2048x256 .f32) (x4 : Vec F S1x2x2048x128 .f32) (x5 : Vec F S1x2048x256 .f32) (y : Vec F S1x2048x512 .f32) (s : Vec F S2x2048x128 .f32) :
    Σ' (L6 : List (View.Piece (Elt F) S1x2048x512 .f32)) (L7 : List (View.Piece (Elt F) S1x512x512 .f32)),
    { L8 : List (View.Piece (Elt F) S1x512x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare y ∗ (∃ d, owns (c : Thread nD τ) arg10 fullShare d) ∗ (∃ d, owns (c : Thread nD τ) arg11 fullShare d) ∗ owns (c : Thread nD τ) arg12 fullShare s
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (arg9.view.loc (c : Thread nD τ) ↦[arg9.view.set]{fullShare} arg9.view.writes (Elt F) (harg9.unread y) L6) ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (arg12.view.loc (c : Thread nD τ) ↦[arg12.view.set]{fullShare} harg12.unread s)) -∗ K ⟨⟩))
          ⊢ wp frame (wpE (defs₀ (F := F)) Variants.none c none) E (cc0_attn_bwd i arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_attn_bwd_eq_skeleton]; unfold cc0_attn_bwd_skel
    simp only [k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg12.eq_unread hfs
    sl_exec (disch := first | sl_exact hc0)
    sl_step
    iapply Hk
    sl_close

end Cert.KernelIdeal.Attn

end
-- ==== Proof.Trip.lean ====
module

public import proofs.«01_k».proof.Proof.Tile
public import proofs.«01_k».proof.Proof.Off
public import proofs.«01_k».proof.Proof.RunB
public import Idealize.ShloMosaic.Lib.WholeRead

/-! The loop of the backward attention kernel over the query blocks below the diagonal, read at an index: what a trip
    adds to the carried gradients and to the query gradient in memory, and what all the trips do. -/

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-- A load of a whole staging buffer's contents, at an index. -/
theorem load_unit {sp : Space} {s : Shape} {e : EltTy} {m : Memref sig .tc sp s e} (hm : m.IsWhole)
    (X : s.Idx → Elt Ideal e) {off off' size : Fin s.rank → ℕ} (inb : ∀ a, off a + size a ≤ s.size a) (heq : off = off')
    (y : (Rect.unit off size inb).toLoadRect.shape.Idx) (z : s.Idx) (hz : ∀ a, (z a).val = off' a + (y a).val) :
    m.view.readAt (Elt Ideal) (Rect.unit off size inb).toLoadRect (hm.unread X) y = X z := by
  rw [hm.readAt_unread]
  subst heq
  refine congrArg X (funext fun a => Fin.ext ?_)
  show off a + 1 * (y a).val = (z a).val
  rw [hz a, Nat.one_mul]

/-- A load of any contents, at an index. -/
theorem load_unit' {sp : Space} {s : Shape} {e : EltTy} (m : Memref sig .tc sp s e)
    (f : m.view.ty.Contents (Elt Ideal)) {off off' size : Fin s.rank → ℕ} (inb : ∀ a, off a + size a ≤ s.size a)
    (heq : off = off') (y : (Rect.unit off size inb).toLoadRect.shape.Idx) (z : s.Idx)
    (hz : ∀ a, (z a).val = off' a + (y a).val) :
    m.view.readAt (Elt Ideal) (Rect.unit off size inb).toLoadRect f y = m.view.read (Elt Ideal) f z := by
  subst heq
  refine congrArg (m.view.read (Elt Ideal) f) (funext fun a => Fin.ext ?_)
  show off a + 1 * (y a).val = (z a).val
  rw [hz a, Nat.one_mul]

section Loads

variable {arg3 : Memref sig .tc .vmem S1x2048x512 .bf16} (harg3 : arg3.IsWhole)
  {arg4 : Memref sig .tc .vmem S1x512x512 .bf16} (harg4 : arg4.IsWhole)
  {arg5 : Memref sig .tc .vmem S1x512x256 .bf16} (harg5 : arg5.IsWhole)
  {arg7 : Memref sig .tc .vmem S1x2x2048x128 .f32} (harg7 : arg7.IsWhole)
  {arg8 : Memref sig .tc .vmem S1x2048x256 .f32} (harg8 : arg8.IsWhole)
  {arg12 : Memref sig .tc .vmem S2x2048x128 .f32} (harg12 : arg12.IsWhole)
  (x0 : Vec Ideal S1x2048x512 .bf16) (x1 : Vec Ideal S1x512x512 .bf16) (x2 : Vec Ideal S1x512x256 .bf16)
  (x4 : Vec Ideal S1x2x2048x128 .f32) (x5 : Vec Ideal S1x2048x256 .f32) (dl : Vec Ideal S2x2048x128 .f32)

/-- The loads of a tile of head `h`, block `n`, are that tile. -/
theorem tile_of_loads (h : Fin 2) (n : ℕ) (hn : n < 4) {oq ok ov : Fin 3 → ℕ} {og : Fin 3 → ℕ} {ol : Fin 4 → ℕ}
    {od : Fin 3 → ℕ} (bq : ∀ a, oq a + S1x512x256.size a ≤ S1x2048x512.size a)
    (bk : ∀ a, ok a + S1x512x256.size a ≤ S1x512x512.size a) (bv : ∀ a, ov a + S1x512x128.size a ≤ S1x512x256.size a)
    (bg : ∀ a, og a + S1x512x128.size a ≤ S1x2048x256.size a)
    (bl : ∀ a, ol a + S1x1x512x128.size a ≤ S1x2x2048x128.size a)
    (bd : ∀ a, od a + S1x512x128.size a ≤ S2x2048x128.size a)
    (hq : oq = ![0, 512 * n, 256 * h.val]) (hk : ok = ![0, 0, 256 * h.val]) (hv : ov = ![0, 0, 128 * h.val])
    (hg : og = ![0, 512 * n, 128 * h.val]) (hl : ol = ![0, h.val, 512 * n, 0]) (hd : od = ![h.val, 512 * n, 0]) :
    IsTile x0 x1 x2 x4 x5 dl h n hn
      (arg3.view.readAt (Elt Ideal) (Rect.unit (s := S1x2048x512) oq S1x512x256.size bq).toLoadRect (harg3.unread x0))
      (arg4.view.readAt (Elt Ideal) (Rect.unit (s := S1x512x512) ok S1x512x256.size bk).toLoadRect (harg4.unread x1))
      (arg5.view.readAt (Elt Ideal) (Rect.unit (s := S1x512x256) ov S1x512x128.size bv).toLoadRect (harg5.unread x2))
      (arg8.view.readAt (Elt Ideal) (Rect.unit (s := S1x2048x256) og S1x512x128.size bg).toLoadRect (harg8.unread x5))
      (arg7.view.readAt (Elt Ideal) (Rect.unit (s := S1x2x2048x128) ol S1x1x512x128.size bl).toLoadRect (harg7.unread x4))
      (arg12.view.readAt (Elt Ideal) (Rect.unit (s := S2x2048x128) od S1x512x128.size bd).toLoadRect (harg12.unread dl)) where
  q r d := load_unit harg3 x0 bq hq _ _ (by intro a; fin_cases a <;> rfl)
  k r d := load_unit harg4 x1 bk hk _ _ (by
    intro a; fin_cases a
    · rfl
    · exact (Nat.zero_add _).symm
    · rfl)
  v r d := load_unit harg5 x2 bv hv _ _ (by
    intro a; fin_cases a
    · rfl
    · exact (Nat.zero_add _).symm
    · rfl)
  g r d := load_unit harg8 x5 bg hg _ _ (by intro a; fin_cases a <;> rfl)
  l r := load_unit harg7 x4 bl hl _ _ (by intro a; fin_cases a <;> rfl)
  d r := load_unit harg12 dl bd hd _ _ (by intro a; fin_cases a <;> rfl)

end Loads

/-- The sum of `g` over block `n` of the 2048 rows. -/
def blk (g : Fin 2048 → EReal) (n : ℕ) : EReal := if hn : n < 4 then ∑ r : Fin 512, g (row n hn r) else 0

section Trip

variable (c : Dev nD)
  (arg3 : Memref sig .tc .vmem S1x2048x512 .bf16) (harg3 : arg3.IsWhole)
  (arg4 : Memref sig .tc .vmem S1x512x512 .bf16) (harg4 : arg4.IsWhole)
  (arg5 : Memref sig .tc .vmem S1x512x256 .bf16) (harg5 : arg5.IsWhole)
  (arg6 : Memref sig .tc .vmem S1x2048x256 .f32) (harg6 : arg6.IsWhole)
  (arg7 : Memref sig .tc .vmem S1x2x2048x128 .f32) (harg7 : arg7.IsWhole)
  (arg8 : Memref sig .tc .vmem S1x2048x256 .f32) (harg8 : arg8.IsWhole)
  (arg9 : Memref sig .tc .vmem S1x2048x512 .f32) (harg9 : arg9.IsWhole)
  (arg10 : Memref sig .tc .vmem S1x512x512 .f32) (harg10 : arg10.IsWhole)
  (arg11 : Memref sig .tc .vmem S1x512x256 .f32) (harg11 : arg11.IsWhole)
  (arg12 : Memref sig .tc .vmem S2x2048x128 .f32) (harg12 : arg12.IsWhole)
  (x0 : Vec Ideal S1x2048x512 .bf16) (x1 : Vec Ideal S1x512x512 .bf16) (x2 : Vec Ideal S1x512x256 .bf16)
  (x4 : Vec Ideal S1x2x2048x128 .f32) (x5 : Vec Ideal S1x2048x256 .f32) (dl : Vec Ideal S2x2048x128 .f32)
  (t : Fin grid0.N) (w : BitVec 32)

/-- What the loop carries: the gradients of the keys and of the values, of the first head and of the second. -/
abbrev Acc : Type := FVec Ideal S512x256 .f32 × FVec Ideal S512x128 .f32 × FVec Ideal S512x256 .f32 × FVec Ideal S512x128 .f32

/-- What trip `k` yields. -/
abbrev tripVal (k : Fin (k0_t2_loop (grid0.coords t)).trips) (acc : Acc) (f : arg9.view.ty.Contents (Elt Ideal)) : Acc :=
  tripR_k0_t2 (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) (harg12.unread dl) k acc f

/-- What trip `k` writes. -/
abbrev tripOut (k : Fin (k0_t2_loop (grid0.coords t)).trips) (acc : Acc) (f : arg9.view.ty.Contents (Elt Ideal)) :
    List (View.Piece (Elt Ideal) S1x2048x512 .f32) :=
  tripL_k0_t2 (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) (harg12.unread dl) k acc f

theorem blk_lt (k : Fin (k0_t2_loop (grid0.coords t)).trips) : 4 - t.val % 4 + k.val < 4 := by
  have h1 := k.isLt
  have h2 := trips2 t
  omega

theorem trip_val (k : Fin (k0_t2_loop (grid0.coords t)).trips) (acc : Acc) (f : arg9.view.ty.Contents (Elt Ideal)) :
    (∀ kk d, (tripVal c arg3 harg3 arg4 harg4 arg5 harg5 arg6 harg6 arg7 harg7 arg8 harg8 arg9 harg9 arg10 harg10 arg11 harg11 arg12 harg12 x0 x1 x2 x4 x5 dl t w k acc f).1 (ix2 kk d)
        = acc.1 (ix2 kk d) + blk (fun r => dsc x0 x1 x2 x4 x5 dl (3 - t.val % 4) 0 r kk * x0 (ix3 0 r (col 0 d))) (4 - t.val % 4 + k.val)) ∧
    (∀ kk d, (tripVal c arg3 harg3 arg4 harg4 arg5 harg5 arg6 harg6 arg7 harg7 arg8 harg8 arg9 harg9 arg10 harg10 arg11 harg11 arg12 harg12 x0 x1 x2 x4 x5 dl t w k acc f).2.1 (ix2 kk d)
        = acc.2.1 (ix2 kk d) + blk (fun r => pr x0 x1 x4 (3 - t.val % 4) 0 r kk * x5 (ix3 0 r (colv 0 d))) (4 - t.val % 4 + k.val)) ∧
    (∀ kk d, (tripVal c arg3 harg3 arg4 harg4 arg5 harg5 arg6 harg6 arg7 harg7 arg8 harg8 arg9 harg9 arg10 harg10 arg11 harg11 arg12 harg12 x0 x1 x2 x4 x5 dl t w k acc f).2.2.1 (ix2 kk d)
        = acc.2.2.1 (ix2 kk d) + blk (fun r => dsc x0 x1 x2 x4 x5 dl (3 - t.val % 4) 1 r kk * x0 (ix3 0 r (col 1 d))) (4 - t.val % 4 + k.val)) ∧
    (∀ kk d, (tripVal c arg3 harg3 arg4 harg4 arg5 harg5 arg6 harg6 arg7 harg7 arg8 harg8 arg9 harg9 arg10 harg10 arg11 harg11 arg12 harg12 x0 x1 x2 x4 x5 dl t w k acc f).2.2.2 (ix2 kk d)
        = acc.2.2.2 (ix2 kk d) + blk (fun r => pr x0 x1 x4 (3 - t.val % 4) 1 r kk * x5 (ix3 0 r (colv 1 d))) (4 - t.val % 4 + k.val)) := by
  have hn := blk_lt t k
  have hj : 3 - t.val % 4 < 4 - t.val % 4 + k.val := by have := Nat.mod_lt t.val (show 0 < 4 by decide); omega
  simp only [blk, dif_pos hn]
  have T0 := tile_of_loads harg3 harg4 harg5 harg7 harg8 harg12 x0 x1 x2 x4 x5 dl 0 _ hn (k0_off13_inb _ k) inb_S1x512x512_S1x512x256_0_0_0 inb_S1x512x256_S1x512x128_0_0_0 (k0_off14_inb _ k) (k0_off15_inb _ k) (k0_off16_inb _ k) (off13_eq t k) rfl rfl (off14_eq t k) (off15_eq t k) (off16_eq t k)
  have T1 := tile_of_loads harg3 harg4 harg5 harg7 harg8 harg12 x0 x1 x2 x4 x5 dl 1 _ hn (k0_off17_inb _ k) inb_S1x512x512_S1x512x256_0_0_256 inb_S1x512x256_S1x512x128_0_0_128 (k0_off18_inb _ k) (k0_off19_inb _ k) (k0_off20_inb _ k) (off17_eq t k) rfl rfl (off18_eq t k) (off19_eq t k) (off20_eq t k)
  unfold tripVal tripR_k0_t2 trip_k0_t2
  dsimp only
  refine ⟨fun kk d => ?_, fun kk d => ?_, fun kk d => ?_, fun kk d => ?_⟩
  · exact pay17_eq T0 hj acc.1 kk d
  · exact pay15_eq T0 hj acc.2.1 kk d
  · exact pay2_eq T1 hj acc.2.2.1 kk d
  · exact pay23_eq T1 hj acc.2.2.2 kk d

/-- What memory holds of the query gradient after trip `k`: the tile's products added on its rows. -/
theorem trip_out (k : Fin (k0_t2_loop (grid0.coords t)).trips) (acc : Acc) (f : arg9.view.ty.Contents (Elt Ideal))
    (h : Fin 2) (ρ : Fin 2048) (d : Fin 256) :
    arg9.view.read (Elt Ideal) (arg9.view.writes (Elt Ideal) f (tripOut c arg3 harg3 arg4 harg4 arg5 harg5 arg6 harg6 arg7 harg7 arg8 harg8 arg9 harg9 arg10 harg10 arg11 harg11 arg12 harg12 x0 x1 x2 x4 x5 dl t w k acc f)) (ix3 0 ρ (col h d))
      = arg9.view.read (Elt Ideal) f (ix3 0 ρ (col h d))
        + (if 512 * (4 - t.val % 4 + k.val) ≤ ρ.val ∧ ρ.val < 512 * (4 - t.val % 4 + k.val) + 512 then
            ∑ kk : Fin 512, dsc x0 x1 x2 x4 x5 dl (3 - t.val % 4) h ρ kk * x1 (ix3 0 kk (col h d)) else 0) := by
  have hn := blk_lt t k
  have hj : 3 - t.val % 4 < 4 - t.val % 4 + k.val := by have := Nat.mod_lt t.val (show 0 < 4 by decide); omega
  have T0 := tile_of_loads harg3 harg4 harg5 harg7 harg8 harg12 x0 x1 x2 x4 x5 dl 0 _ hn (k0_off13_inb _ k) inb_S1x512x512_S1x512x256_0_0_0 inb_S1x512x256_S1x512x128_0_0_0 (k0_off14_inb _ k) (k0_off15_inb _ k) (k0_off16_inb _ k) (off13_eq t k) rfl rfl (off14_eq t k) (off15_eq t k) (off16_eq t k)
  have T1 := tile_of_loads harg3 harg4 harg5 harg7 harg8 harg12 x0 x1 x2 x4 x5 dl 1 _ hn (k0_off17_inb _ k) inb_S1x512x512_S1x512x256_0_0_256 inb_S1x512x256_S1x512x128_0_0_128 (k0_off18_inb _ k) (k0_off19_inb _ k) (k0_off20_inb _ k) (off17_eq t k) rfl rfl (off18_eq t k) (off19_eq t k) (off20_eq t k)
  unfold tripOut tripL_k0_t2 trip_k0_t2
  dsimp only
  by_cases hin : 512 * (4 - t.val % 4 + k.val) ≤ ρ.val ∧ ρ.val < 512 * (4 - t.val % 4 + k.val) + 512
  · rw [if_pos hin]
    obtain ⟨r, rfl⟩ : ∃ r : Fin 512, ρ = row _ hn r :=
      ⟨⟨ρ.val - 512 * (4 - t.val % 4 + k.val), by omega⟩, Fin.ext (by simp only [row]; omega)⟩
    fin_cases h
    · refine (View.read_writes_cons_unit_of_not_mem arg9.view f _ _ _ _ (off17_eq t k) 2
        (Or.inl (by show 256 * 0 + d.val < 256; have := d.isLt; omega))).trans ?_
      refine (View.read_writes_cons_unit_of_mem arg9.view f _ _ _ _ (ix3 0 r d) (off13_eq t k)
        (by intro a; fin_cases a <;> rfl)).trans ?_
      refine (pay18_eq T0 hj _ r d).trans (congrArg (· + _) ?_)
      exact load_unit' arg9 f _ (off13_eq t k) _ _ (by intro a; fin_cases a <;> rfl)
    · refine (View.read_writes_cons_unit_of_mem arg9.view f _ _ _ _ (ix3 0 r d) (off17_eq t k)
        (by intro a; fin_cases a <;> rfl)).trans ?_
      refine (pay3_eq T1 hj _ r d).trans (congrArg (· + _) ?_)
      exact load_unit' arg9 f _ (off17_eq t k) _ _ (by intro a; fin_cases a <;> rfl)
  · rw [if_neg hin, add_zero]
    have ho : ρ.val < 512 * (4 - t.val % 4 + k.val) ∨ 512 * (4 - t.val % 4 + k.val) + 512 ≤ ρ.val := by omega
    refine (View.read_writes_cons_unit_of_not_mem arg9.view f _ _ _ _ (off17_eq t k) 1 ho).trans ?_
    exact View.read_writes_cons_unit_of_not_mem arg9.view f _ _ _ _ (off13_eq t k) 1 ho

/-- The loop's state before trip `n`: what it carries, and what it has written. -/
abbrev state (G : arg9.view.ty.Contents (Elt Ideal)) (init : Acc) (n : ℕ) :
    Acc × List (View.Piece (Elt Ideal) S1x2048x512 .f32) :=
  st_k0_t2 (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) (harg12.unread dl) G init n

theorem state_spec (G : arg9.view.ty.Contents (Elt Ideal)) (init : Acc) (n : ℕ) (hle : n ≤ t.val % 4) :
    (∀ kk d, (state c arg3 harg3 arg4 harg4 arg5 harg5 arg6 harg6 arg7 harg7 arg8 harg8 arg9 harg9 arg10 harg10 arg11 harg11 arg12 harg12 x0 x1 x2 x4 x5 dl t w G init n).1.1 (ix2 kk d) = init.1 (ix2 kk d)
        + ∑ i ∈ Finset.range n, blk (fun r => dsc x0 x1 x2 x4 x5 dl (3 - t.val % 4) 0 r kk * x0 (ix3 0 r (col 0 d))) (4 - t.val % 4 + i)) ∧
    (∀ kk d, (state c arg3 harg3 arg4 harg4 arg5 harg5 arg6 harg6 arg7 harg7 arg8 harg8 arg9 harg9 arg10 harg10 arg11 harg11 arg12 harg12 x0 x1 x2 x4 x5 dl t w G init n).1.2.1 (ix2 kk d) = init.2.1 (ix2 kk d)
        + ∑ i ∈ Finset.range n, blk (fun r => pr x0 x1 x4 (3 - t.val % 4) 0 r kk * x5 (ix3 0 r (colv 0 d))) (4 - t.val % 4 + i)) ∧
    (∀ kk d, (state c arg3 harg3 arg4 harg4 arg5 harg5 arg6 harg6 arg7 harg7 arg8 harg8 arg9 harg9 arg10 harg10 arg11 harg11 arg12 harg12 x0 x1 x2 x4 x5 dl t w G init n).1.2.2.1 (ix2 kk d) = init.2.2.1 (ix2 kk d)
        + ∑ i ∈ Finset.range n, blk (fun r => dsc x0 x1 x2 x4 x5 dl (3 - t.val % 4) 1 r kk * x0 (ix3 0 r (col 1 d))) (4 - t.val % 4 + i)) ∧
    (∀ kk d, (state c arg3 harg3 arg4 harg4 arg5 harg5 arg6 harg6 arg7 harg7 arg8 harg8 arg9 harg9 arg10 harg10 arg11 harg11 arg12 harg12 x0 x1 x2 x4 x5 dl t w G init n).1.2.2.2 (ix2 kk d) = init.2.2.2 (ix2 kk d)
        + ∑ i ∈ Finset.range n, blk (fun r => pr x0 x1 x4 (3 - t.val % 4) 1 r kk * x5 (ix3 0 r (colv 1 d))) (4 - t.val % 4 + i)) ∧
    (∀ h ρ d, arg9.view.read (Elt Ideal) (arg9.view.writes (Elt Ideal) G (state c arg3 harg3 arg4 harg4 arg5 harg5 arg6 harg6 arg7 harg7 arg8 harg8 arg9 harg9 arg10 harg10 arg11 harg11 arg12 harg12 x0 x1 x2 x4 x5 dl t w G init n).2) (ix3 0 ρ (col h d))
        = arg9.view.read (Elt Ideal) G (ix3 0 ρ (col h d))
          + (if 512 * (4 - t.val % 4) ≤ ρ.val ∧ ρ.val < 512 * (4 - t.val % 4 + n) then
              ∑ kk : Fin 512, dsc x0 x1 x2 x4 x5 dl (3 - t.val % 4) h ρ kk * x1 (ix3 0 kk (col h d)) else 0)) := by
  induction n with
  | zero =>
    refine ⟨fun kk d => ?_, fun kk d => ?_, fun kk d => ?_, fun kk d => ?_, fun h ρ d => ?_⟩
    iterate 4 exact ((congrArg (_ + ·) (Finset.sum_range_zero _)).trans (add_zero _)).symm
    rw [if_neg (by omega), add_zero]
    rfl
  | succ n ih =>
    obtain ⟨h1, h2, h3, h4, h5⟩ := ih (by omega)
    have hk : n < (k0_t2_loop (grid0.coords t)).trips := by rw [trips2 t]; omega
    have hs : state c arg3 harg3 arg4 harg4 arg5 harg5 arg6 harg6 arg7 harg7 arg8 harg8 arg9 harg9 arg10 harg10 arg11 harg11 arg12 harg12 x0 x1 x2 x4 x5 dl t w G init (n + 1) = _ := st_k0_t2_succ (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) (harg12.unread dl) G init ⟨n, hk⟩
    obtain ⟨v1, v2, v3, v4⟩ := trip_val c arg3 harg3 arg4 harg4 arg5 harg5 arg6 harg6 arg7 harg7 arg8 harg8 arg9 harg9 arg10 harg10 arg11 harg11 arg12 harg12 x0 x1 x2 x4 x5 dl t w ⟨n, hk⟩ (state c arg3 harg3 arg4 harg4 arg5 harg5 arg6 harg6 arg7 harg7 arg8 harg8 arg9 harg9 arg10 harg10 arg11 harg11 arg12 harg12 x0 x1 x2 x4 x5 dl t w G init n).1 (arg9.view.writes (Elt Ideal) G (state c arg3 harg3 arg4 harg4 arg5 harg5 arg6 harg6 arg7 harg7 arg8 harg8 arg9 harg9 arg10 harg10 arg11 harg11 arg12 harg12 x0 x1 x2 x4 x5 dl t w G init n).2)
    rw [hs]
    refine ⟨fun kk d => ?_, fun kk d => ?_, fun kk d => ?_, fun kk d => ?_, fun h ρ d => ?_⟩
    · rw [Finset.sum_range_succ, ← add_assoc, ← h1]; exact v1 kk d
    · rw [Finset.sum_range_succ, ← add_assoc, ← h2]; exact v2 kk d
    · rw [Finset.sum_range_succ, ← add_assoc, ← h3]; exact v3 kk d
    · rw [Finset.sum_range_succ, ← add_assoc, ← h4]; exact v4 kk d
    · rw [View.writes_append]
      refine (trip_out c arg3 harg3 arg4 harg4 arg5 harg5 arg6 harg6 arg7 harg7 arg8 harg8 arg9 harg9 arg10 harg10 arg11 harg11 arg12 harg12 x0 x1 x2 x4 x5 dl t w ⟨n, hk⟩ (state c arg3 harg3 arg4 harg4 arg5 harg5 arg6 harg6 arg7 harg7 arg8 harg8 arg9 harg9 arg10 harg10 arg11 harg11 arg12 harg12 x0 x1 x2 x4 x5 dl t w G init n).1 (arg9.view.writes (Elt Ideal) G (state c arg3 harg3 arg4 harg4 arg5 harg5 arg6 harg6 arg7 harg7 arg8 harg8 arg9 harg9 arg10 harg10 arg11 harg11 arg12 harg12 x0 x1 x2 x4 x5 dl t w G init n).2) h ρ d).trans ?_
      rw [h5, add_assoc]
      refine congrArg (_ + ·) ?_
      dsimp only
      split_ifs <;> first | omega | simp

end Trip

end Cert.KernelIdeal.Attn

end
-- ==== Proof.Point.lean ====
module

public import proofs.«01_k».proof.Proof.Trip

/-! What one grid point of the backward attention kernel leaves: the query gradient with this key tile's part added on
    every row, the key and value gradients of the tile summed over every query row, and the row sums of the first. -/

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-! ### Sums over the query rows, by blocks -/

theorem sum_rows (g : Fin 2048 → EReal) : ∑ r, g r = ∑ n ∈ Finset.range 4, blk g n := by
  rw [← Equiv.sum_comp (finProdFinEquiv (m := 4) (n := 512)) g, Fintype.sum_prod_type, Finset.sum_range]
  refine Finset.sum_congr rfl fun n _ => ?_
  rw [blk, dif_pos n.isLt]
  refine Finset.sum_congr rfl fun r _ => congrArg g (Fin.ext ?_)
  show r.val + 512 * n.val = 512 * n.val + r.val
  exact Nat.add_comm _ _

theorem blk_zero {g : Fin 2048 → EReal} {n j : ℕ} (hg : ∀ r : Fin 2048, r.val < 512 * j → g r = 0) (h : n < j) :
    blk g n = 0 := by
  unfold blk
  split
  · exact Finset.sum_eq_zero fun r _ => hg _ (by have := r.isLt; simp only [row]; omega)
  · rfl

/-- The diagonal block and the blocks below it are all of the rows, where the rows above contribute nothing. -/
theorem sum_blocks {g : Fin 2048 → EReal} {m : ℕ} (hm : m < 4) (hg : ∀ r : Fin 2048, r.val < 512 * (3 - m) → g r = 0) :
    (∑ r : Fin 512, g (row (3 - m) (by omega) r)) + ∑ i ∈ Finset.range m, blk g (4 - m + i) = ∑ r, g r := by
  have h0 : ∑ r : Fin 512, g (row (3 - m) (by omega) r) = blk g (3 - m) := by rw [blk, dif_pos]
  rw [h0, sum_rows]
  have hz : ∀ n, n < 3 - m → blk g n = 0 := fun n hn => blk_zero hg hn
  interval_cases m <;> simp [Finset.sum_range_succ, add_assoc] at hz ⊢ <;> simp [hz]

section Point

variable (x0 : Vec Ideal S1x2048x512 .bf16) (x1 : Vec Ideal S1x512x512 .bf16) (x2 : Vec Ideal S1x512x256 .bf16)
  (x3 : Vec Ideal S1x2048x256 .f32) (x4 : Vec Ideal S1x2x2048x128 .f32) (x5 : Vec Ideal S1x2048x256 .f32)
  (dl : Vec Ideal S2x2048x128 .f32) (j : ℕ)

/-- The head of a column of a query or key block. -/
def hd (cc : Fin 512) : Fin 2 := ⟨cc.val / 256, by have := cc.isLt; omega⟩

/-- The head of a column of a value block. -/
def hdv (cc : Fin 256) : Fin 2 := ⟨cc.val / 128, by have := cc.isLt; omega⟩

theorem exists_col (cc : Fin 512) : ∃ d, cc = col (hd cc) d :=
  ⟨⟨cc.val % 256, Nat.mod_lt _ (by decide)⟩, Fin.ext (Nat.div_add_mod _ _).symm⟩

theorem exists_colv (cc : Fin 256) : ∃ d, cc = colv (hdv cc) d :=
  ⟨⟨cc.val % 128, Nat.mod_lt _ (by decide)⟩, Fin.ext (Nat.div_add_mod _ _).symm⟩

theorem hd_col (h : Fin 2) (d : Fin 256) : hd (col h d) = h := Fin.ext (by simp only [hd, col]; have := d.isLt; omega)
theorem hdv_colv (h : Fin 2) (d : Fin 128) : hdv (colv h d) = h := Fin.ext (by simp only [hdv, colv]; have := d.isLt; omega)

/-- The part of the query gradient that a key tile adds. -/
def dqAdd (r : Fin 2048) (cc : Fin 512) : EReal := ∑ kk : Fin 512, dsc x0 x1 x2 x4 x5 dl j (hd cc) r kk * x1 (ix3 0 kk cc)

/-- The key gradient of a tile. -/
def dkTile (kk cc : Fin 512) : EReal := ∑ r : Fin 2048, dsc x0 x1 x2 x4 x5 dl j (hd cc) r kk * x0 (ix3 0 r cc)

/-- The value gradient of a tile. -/
def dvTile (kk : Fin 512) (cc : Fin 256) : EReal := ∑ r : Fin 2048, pr x0 x1 x4 j (hdv cc) r kk * x5 (ix3 0 r cc)

/-- The row sums of the output times its gradient. -/
def rowSum (h : Fin 2) (r : Fin 2048) : EReal := ∑ d : Fin 128, x5 (ix3 0 r (colv h d)) * x3 (ix3 0 r (colv h d))

theorem exp_bot : Ideal.exp (⊥ : EReal) = 0 := rfl

variable {x0 x1 x2 x4 x5 dl j} in
theorem pr_above {h : Fin 2} {r : Fin 2048} (hr : r.val < 512 * j) (kk : Fin 512) : pr x0 x1 x4 j h r kk = 0 := by
  rw [pr, sc, if_neg (by omega), EReal.bot_sub, exp_bot]

variable {x0 x1 x2 x4 x5 dl j} in
theorem dsc_above {h : Fin 2} {r : Fin 2048} (hr : r.val < 512 * j) (kk : Fin 512) : dsc x0 x1 x2 x4 x5 dl j h r kk = 0 := by
  rw [dsc, pr_above hr, zero_mul, zero_mul]

end Point

section Body

variable (c : Dev nD)
  (arg3 : Memref sig .tc .vmem S1x2048x512 .bf16) (harg3 : arg3.IsWhole)
  (arg4 : Memref sig .tc .vmem S1x512x512 .bf16) (harg4 : arg4.IsWhole)
  (arg5 : Memref sig .tc .vmem S1x512x256 .bf16) (harg5 : arg5.IsWhole)
  (arg6 : Memref sig .tc .vmem S1x2048x256 .f32) (harg6 : arg6.IsWhole)
  (arg7 : Memref sig .tc .vmem S1x2x2048x128 .f32) (harg7 : arg7.IsWhole)
  (arg8 : Memref sig .tc .vmem S1x2048x256 .f32) (harg8 : arg8.IsWhole)
  (arg9 : Memref sig .tc .vmem S1x2048x512 .f32) (harg9 : arg9.IsWhole)
  (arg10 : Memref sig .tc .vmem S1x512x512 .f32) (harg10 : arg10.IsWhole)
  (arg11 : Memref sig .tc .vmem S1x512x256 .f32) (harg11 : arg11.IsWhole)
  (arg12 : Memref sig .tc .vmem S2x2048x128 .f32) (harg12 : arg12.IsWhole)
  (x0 : Vec Ideal S1x2048x512 .bf16) (x1 : Vec Ideal S1x512x512 .bf16) (x2 : Vec Ideal S1x512x256 .bf16)
  (x3 : Vec Ideal S1x2048x256 .f32) (x4 : Vec Ideal S1x2x2048x128 .f32) (x5 : Vec Ideal S1x2048x256 .f32)
  (dl : Vec Ideal S2x2048x128 .f32) (t : Fin grid0.N)

/-! ### The row sums -/

abbrev sumPieces (hc0 : first (grid0.coords t)) (n : ℕ) : List (View.Piece (Elt Ideal) S2x2048x128 .f32) :=
  pb_k0_t1 (F := Ideal) Variants.none c none (grid0.coords t) arg3 harg3 arg4 harg4 arg5 harg5 arg6 harg6 arg7 harg7 arg8 harg8 arg9 harg9 arg10 harg10 arg11 harg11 arg12 harg12 hc0 (harg6.unread x3) (harg8.unread x5) n

theorem sums_read (hc0 : first (grid0.coords t)) (f : arg12.view.ty.Contents (Elt Ideal)) (n : ℕ) (hle : n ≤ 4)
    (h : Fin 2) (ρ : Fin 2048) (e : Fin 128) :
    arg12.view.read (Elt Ideal) (arg12.view.writes (Elt Ideal) f (sumPieces c arg3 harg3 arg4 harg4 arg5 harg5 arg6 harg6 arg7 harg7 arg8 harg8 arg9 harg9 arg10 harg10 arg11 harg11 arg12 harg12 x3 x5 t hc0 n)) (ix3 h ρ e)
      = if ρ.val < 512 * n then rowSum x3 x5 h ρ else arg12.view.read (Elt Ideal) f (ix3 h ρ e) := by
  induction n with
  | zero => rw [if_neg (by omega)]; rfl
  | succ n ih =>
    have hk : n < k0_t1_loop.trips := by rw [trips1]; omega
    have hs : sumPieces c arg3 harg3 arg4 harg4 arg5 harg5 arg6 harg6 arg7 harg7 arg8 harg8 arg9 harg9 arg10 harg10 arg11 harg11 arg12 harg12 x3 x5 t hc0 (n + 1) = _ :=
      pb_k0_t1_succ (F := Ideal) Variants.none c none (grid0.coords t) arg3 harg3 arg4 harg4 arg5 harg5 arg6 harg6 arg7 harg7 arg8 harg8 arg9 harg9 arg10 harg10 arg11 harg11 arg12 harg12 hc0 (harg6.unread x3) (harg8.unread x5) ⟨n, hk⟩
    rw [hs, View.writes_append]
    unfold tripL_k0_t1 trip_k0_t1
    dsimp only
    by_cases hin : 512 * n ≤ ρ.val ∧ ρ.val < 512 * n + 512
    · rw [if_pos (by omega)]
      have hn4 : n < 4 := by omega
      obtain ⟨r, rfl⟩ : ∃ r : Fin 512, ρ = row n hn4 r :=
        ⟨⟨ρ.val - 512 * n, by omega⟩, Fin.ext (by simp only [row]; omega)⟩
      fin_cases h
      · refine (View.read_writes_cons_unit_of_not_mem arg12.view _ _ _ _ _ (off4_eq ⟨n, hk⟩) 0 (Or.inl Nat.zero_lt_one)).trans ?_
        refine (View.read_writes_cons_unit_of_mem arg12.view _ _ _ _ _ (ix3 0 r e) (off2_eq ⟨n, hk⟩)
          (by intro a; fin_cases a <;> simp [row])).trans ?_
        refine (pay39_eq _ _ r e).trans (Finset.sum_congr rfl fun d _ => ?_)
        exact congrArg₂ (· * ·) (load_unit harg8 x5 _ (off1_eq ⟨n, hk⟩) _ _ (by intro a; fin_cases a <;> rfl))
          (load_unit harg6 x3 _ (off1_eq ⟨n, hk⟩) _ _ (by intro a; fin_cases a <;> rfl))
      · refine (View.read_writes_cons_unit_of_mem arg12.view _ _ _ _ _ (ix3 0 r e) (off4_eq ⟨n, hk⟩)
          (by intro a; fin_cases a <;> simp [row])).trans ?_
        refine (pay40_eq _ _ r e).trans (Finset.sum_congr rfl fun d _ => ?_)
        exact congrArg₂ (· * ·) (load_unit harg8 x5 _ (off3_eq ⟨n, hk⟩) _ _ (by intro a; fin_cases a <;> rfl))
          (load_unit harg6 x3 _ (off3_eq ⟨n, hk⟩) _ _ (by intro a; fin_cases a <;> rfl))
    · have ho : ρ.val < 512 * n ∨ 512 * n + 512 ≤ ρ.val := by omega
      refine (View.read_writes_cons_unit_of_not_mem arg12.view _ _ _ _ _ (off4_eq ⟨n, hk⟩) 1 ho).trans ?_
      refine (View.read_writes_cons_unit_of_not_mem arg12.view _ _ _ _ _ (off2_eq ⟨n, hk⟩) 1 ho).trans ?_
      refine (ih (by omega)).trans ?_
      split_ifs <;> first | rfl | omega

/-! ### The tile on the diagonal -/

section Diag

variable {x0 x1 x2 x4 x5 dl}
variable {qa ka qb kb : Vec Ideal S1x512x256 .bf16} {va vb : Vec Ideal S1x512x128 .bf16}
  {ga gb : Vec Ideal S1x512x128 .f32} {la lb : Vec Ideal S1x1x512x128 .f32} {da db : Vec Ideal S1x512x128 .f32}

/-- The two pieces that the tile on the diagonal writes, over the pieces `L`. -/
abbrev diagPieces (qa ka qb kb : Vec Ideal S1x512x256 .bf16) (va vb : Vec Ideal S1x512x128 .bf16)
    (ga gb : Vec Ideal S1x512x128 .f32) (la lb : Vec Ideal S1x1x512x128 .f32) (da db : Vec Ideal S1x512x128 .f32)
    (aa ab : Vec Ideal S1x512x256 .f32) (L : List (View.Piece (Elt Ideal) S1x2048x512 .f32)) :
    List (View.Piece (Elt Ideal) S1x2048x512 .f32) :=
  ⟨Rect.unit (k0_off9 (grid0.coords t)) S1x512x256.size (k0_off9_inb (grid0.coords t)),
      k0_pay62 (k0_pay54 kb) (k0_pay55 vb) (k0_pay56 gb) (k0_pay57 qb kb) lb db ab⟩ ::
    ⟨Rect.unit (k0_off5 (grid0.coords t)) S1x512x256.size (k0_off5_inb (grid0.coords t)),
      k0_pay52 (k0_pay45 ka) (k0_pay46 va) (k0_pay47 ga) (k0_pay48 qa ka la) da aa⟩ :: L

theorem tl : 3 - t.val % 4 < 4 := by omega

theorem diag_out (T0 : IsTile x0 x1 x2 x4 x5 dl 0 (3 - t.val % 4) (tl t) qa ka va ga la da)
    (T1 : IsTile x0 x1 x2 x4 x5 dl 1 (3 - t.val % 4) (tl t) qb kb vb gb lb db) (f : arg9.view.ty.Contents (Elt Ideal))
    {aa ab : Vec Ideal S1x512x256 .f32} {L : List (View.Piece (Elt Ideal) S1x2048x512 .f32)} {y : Fin 2048 → Fin 512 → EReal}
    (hf : ∀ ρ cc, arg9.view.read (Elt Ideal) (arg9.view.writes (Elt Ideal) f L) (ix3 0 ρ cc) = y ρ cc)
    (ha : ∀ r d, aa (ix3 0 r d) = y (row _ (tl t) r) (col 0 d)) (hb : ∀ r d, ab (ix3 0 r d) = y (row _ (tl t) r) (col 1 d))
    (h : Fin 2) (ρ : Fin 2048) (d : Fin 256) :
    arg9.view.read (Elt Ideal) (arg9.view.writes (Elt Ideal) f (diagPieces t qa ka qb kb va vb ga gb la lb da db aa ab L)) (ix3 0 ρ (col h d))
      = y ρ (col h d) + (if 512 * (3 - t.val % 4) ≤ ρ.val ∧ ρ.val < 512 * (3 - t.val % 4) + 512 then
          ∑ kk : Fin 512, dsc x0 x1 x2 x4 x5 dl (3 - t.val % 4) h ρ kk * x1 (ix3 0 kk (col h d)) else 0) := by
  by_cases hin : 512 * (3 - t.val % 4) ≤ ρ.val ∧ ρ.val < 512 * (3 - t.val % 4) + 512
  · rw [if_pos hin]
    obtain ⟨r, rfl⟩ : ∃ r : Fin 512, ρ = row _ (tl t) r :=
      ⟨⟨ρ.val - 512 * (3 - t.val % 4), by omega⟩, Fin.ext (by simp only [row]; omega)⟩
    fin_cases h
    · refine (View.read_writes_cons_unit_of_not_mem arg9.view f _ _ _ _ (off9_eq t) 2
        (Or.inl (by show 256 * 0 + d.val < 256; have := d.isLt; omega))).trans ?_
      refine (View.read_writes_cons_unit_of_mem arg9.view f _ _ _ _ (ix3 0 r d) (off5_eq t)
        (by intro a; fin_cases a <;> rfl)).trans ?_
      exact (pay52_eq T0 rfl _ r d).trans (congrArg (· + _) (ha r d))
    · refine (View.read_writes_cons_unit_of_mem arg9.view f _ _ _ _ (ix3 0 r d) (off9_eq t)
        (by intro a; fin_cases a <;> rfl)).trans ?_
      exact (pay62_eq T1 rfl _ r d).trans (congrArg (· + _) (hb r d))
  · rw [if_neg hin, add_zero]
    have ho : ρ.val < 512 * (3 - t.val % 4) ∨ 512 * (3 - t.val % 4) + 512 ≤ ρ.val := by omega
    refine (View.read_writes_cons_unit_of_not_mem arg9.view f _ _ _ _ (off9_eq t) 1 ho).trans ?_
    exact (View.read_writes_cons_unit_of_not_mem arg9.view f _ _ _ _ (off5_eq t) 1 ho).trans (hf _ _)

end Diag

/-! ### The whole body -/

section Whole

variable (w w' : BitVec 32) (X12 : arg12.view.ty.Contents (Elt Ideal)) (f0 : arg9.view.ty.Contents (Elt Ideal))
  (L : List (View.Piece (Elt Ideal) S1x2048x512 .f32)) (aa ab : Vec Ideal S1x512x256 .f32)

/-- What the body has written to the query gradient when the loop begins. -/
abbrev pieces0 : List (View.Piece (Elt Ideal) S1x2048x512 .f32) :=
  diagPieces t
    (arg3.view.readAt (Elt Ideal) (Rect.unit (s := S1x2048x512) (k0_off5 (grid0.coords t)) S1x512x256.size (k0_off5_inb (grid0.coords t))).toLoadRect (harg3.unread x0))
    (arg4.view.readAt (Elt Ideal) (Rect.unit (s := S1x512x512) ![0, 0, 0] S1x512x256.size inb_S1x512x512_S1x512x256_0_0_0).toLoadRect (harg4.unread x1))
    (arg3.view.readAt (Elt Ideal) (Rect.unit (s := S1x2048x512) (k0_off9 (grid0.coords t)) S1x512x256.size (k0_off9_inb (grid0.coords t))).toLoadRect (harg3.unread x0))
    (arg4.view.readAt (Elt Ideal) (Rect.unit (s := S1x512x512) ![0, 0, 256] S1x512x256.size inb_S1x512x512_S1x512x256_0_0_256).toLoadRect (harg4.unread x1))
    (arg5.view.readAt (Elt Ideal) (Rect.unit (s := S1x512x256) ![0, 0, 0] S1x512x128.size inb_S1x512x256_S1x512x128_0_0_0).toLoadRect (harg5.unread x2))
    (arg5.view.readAt (Elt Ideal) (Rect.unit (s := S1x512x256) ![0, 0, 128] S1x512x128.size inb_S1x512x256_S1x512x128_0_0_128).toLoadRect (harg5.unread x2))
    (arg8.view.readAt (Elt Ideal) (Rect.unit (s := S1x2048x256) (k0_off6 (grid0.coords t)) S1x512x128.size (k0_off6_inb (grid0.coords t))).toLoadRect (harg8.unread x5))
    (arg8.view.readAt (Elt Ideal) (Rect.unit (s := S1x2048x256) (k0_off10 (grid0.coords t)) S1x512x128.size (k0_off10_inb (grid0.coords t))).toLoadRect (harg8.unread x5))
    (arg7.view.readAt (Elt Ideal) (Rect.unit (s := S1x2x2048x128) (k0_off7 (grid0.coords t)) S1x1x512x128.size (k0_off7_inb (grid0.coords t))).toLoadRect (harg7.unread x4))
    (arg7.view.readAt (Elt Ideal) (Rect.unit (s := S1x2x2048x128) (k0_off11 (grid0.coords t)) S1x1x512x128.size (k0_off11_inb (grid0.coords t))).toLoadRect (harg7.unread x4))
    (arg12.view.readAt (Elt Ideal) (Rect.unit (s := S2x2048x128) (k0_off8 (grid0.coords t)) S1x512x128.size (k0_off8_inb (grid0.coords t))).toLoadRect X12)
    (arg12.view.readAt (Elt Ideal) (Rect.unit (s := S2x2048x128) (k0_off12 (grid0.coords t)) S1x512x128.size (k0_off12_inb (grid0.coords t))).toLoadRect X12)
    aa ab L

/-- What the loop's carried values begin at. -/
abbrev init0 : Acc :=
  (k0_pay51 k0_pay42
      (k0_pay44 (arg3.view.readAt (Elt Ideal) (Rect.unit (s := S1x2048x512) (k0_off5 (grid0.coords t)) S1x512x256.size (k0_off5_inb (grid0.coords t))).toLoadRect (harg3.unread x0)))
      (k0_pay46 (arg5.view.readAt (Elt Ideal) (Rect.unit (s := S1x512x256) ![0, 0, 0] S1x512x128.size inb_S1x512x256_S1x512x128_0_0_0).toLoadRect (harg5.unread x2)))
      (k0_pay47 (arg8.view.readAt (Elt Ideal) (Rect.unit (s := S1x2048x256) (k0_off6 (grid0.coords t)) S1x512x128.size (k0_off6_inb (grid0.coords t))).toLoadRect (harg8.unread x5)))
      (k0_pay48 (arg3.view.readAt (Elt Ideal) (Rect.unit (s := S1x2048x512) (k0_off5 (grid0.coords t)) S1x512x256.size (k0_off5_inb (grid0.coords t))).toLoadRect (harg3.unread x0))
        (arg4.view.readAt (Elt Ideal) (Rect.unit (s := S1x512x512) ![0, 0, 0] S1x512x256.size inb_S1x512x512_S1x512x256_0_0_0).toLoadRect (harg4.unread x1))
        (arg7.view.readAt (Elt Ideal) (Rect.unit (s := S1x2x2048x128) (k0_off7 (grid0.coords t)) S1x1x512x128.size (k0_off7_inb (grid0.coords t))).toLoadRect (harg7.unread x4)))
      (arg12.view.readAt (Elt Ideal) (Rect.unit (s := S2x2048x128) (k0_off8 (grid0.coords t)) S1x512x128.size (k0_off8_inb (grid0.coords t))).toLoadRect X12),
    k0_pay49 k0_pay43
      (k0_pay47 (arg8.view.readAt (Elt Ideal) (Rect.unit (s := S1x2048x256) (k0_off6 (grid0.coords t)) S1x512x128.size (k0_off6_inb (grid0.coords t))).toLoadRect (harg8.unread x5)))
      (k0_pay48 (arg3.view.readAt (Elt Ideal) (Rect.unit (s := S1x2048x512) (k0_off5 (grid0.coords t)) S1x512x256.size (k0_off5_inb (grid0.coords t))).toLoadRect (harg3.unread x0))
        (arg4.view.readAt (Elt Ideal) (Rect.unit (s := S1x512x512) ![0, 0, 0] S1x512x256.size inb_S1x512x512_S1x512x256_0_0_0).toLoadRect (harg4.unread x1))
        (arg7.view.readAt (Elt Ideal) (Rect.unit (s := S1x2x2048x128) (k0_off7 (grid0.coords t)) S1x1x512x128.size (k0_off7_inb (grid0.coords t))).toLoadRect (harg7.unread x4))),
    k0_pay61 k0_pay42
      (k0_pay53 (arg3.view.readAt (Elt Ideal) (Rect.unit (s := S1x2048x512) (k0_off9 (grid0.coords t)) S1x512x256.size (k0_off9_inb (grid0.coords t))).toLoadRect (harg3.unread x0)))
      (k0_pay55 (arg5.view.readAt (Elt Ideal) (Rect.unit (s := S1x512x256) ![0, 0, 128] S1x512x128.size inb_S1x512x256_S1x512x128_0_0_128).toLoadRect (harg5.unread x2)))
      (k0_pay56 (arg8.view.readAt (Elt Ideal) (Rect.unit (s := S1x2048x256) (k0_off10 (grid0.coords t)) S1x512x128.size (k0_off10_inb (grid0.coords t))).toLoadRect (harg8.unread x5)))
      (k0_pay57 (arg3.view.readAt (Elt Ideal) (Rect.unit (s := S1x2048x512) (k0_off9 (grid0.coords t)) S1x512x256.size (k0_off9_inb (grid0.coords t))).toLoadRect (harg3.unread x0))
        (arg4.view.readAt (Elt Ideal) (Rect.unit (s := S1x512x512) ![0, 0, 256] S1x512x256.size inb_S1x512x512_S1x512x256_0_0_256).toLoadRect (harg4.unread x1)))
      (arg7.view.readAt (Elt Ideal) (Rect.unit (s := S1x2x2048x128) (k0_off11 (grid0.coords t)) S1x1x512x128.size (k0_off11_inb (grid0.coords t))).toLoadRect (harg7.unread x4))
      (arg12.view.readAt (Elt Ideal) (Rect.unit (s := S2x2048x128) (k0_off12 (grid0.coords t)) S1x512x128.size (k0_off12_inb (grid0.coords t))).toLoadRect X12),
    k0_pay59 k0_pay43
      (k0_pay56 (arg8.view.readAt (Elt Ideal) (Rect.unit (s := S1x2048x256) (k0_off10 (grid0.coords t)) S1x512x128.size (k0_off10_inb (grid0.coords t))).toLoadRect (harg8.unread x5)))
      (k0_pay57 (arg3.view.readAt (Elt Ideal) (Rect.unit (s := S1x2048x512) (k0_off9 (grid0.coords t)) S1x512x256.size (k0_off9_inb (grid0.coords t))).toLoadRect (harg3.unread x0))
        (arg4.view.readAt (Elt Ideal) (Rect.unit (s := S1x512x512) ![0, 0, 256] S1x512x256.size inb_S1x512x512_S1x512x256_0_0_256).toLoadRect (harg4.unread x1)))
      (arg7.view.readAt (Elt Ideal) (Rect.unit (s := S1x2x2048x128) (k0_off11 (grid0.coords t)) S1x1x512x128.size (k0_off11_inb (grid0.coords t))).toLoadRect (harg7.unread x4)))

/-- The state after the loop, over the pieces written before it. -/
abbrev after2 : Acc × List (View.Piece (Elt Ideal) S1x2048x512 .f32) :=
  st_k0_t2 (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) X12
    (arg9.view.writes (Elt Ideal) f0 (pieces0 arg3 harg3 arg4 harg4 arg5 harg5 arg7 harg7 arg8 harg8 arg12 x0 x1 x2 x4 x5 t X12 L aa ab))
    (init0 arg3 harg3 arg4 harg4 arg5 harg5 arg7 harg7 arg8 harg8 arg12 x0 x1 x2 x4 x5 t X12)
    (k0_t2_loop (grid0.coords t)).trips

/-- The state after the loop of no trips that follows it. -/
abbrev after3 : Acc × List (View.Piece (Elt Ideal) S1x2048x512 .f32) :=
  st_k0_t3 (F := Ideal) Variants.none c none (grid0.coords t) arg3 harg3 arg4 harg4 arg5 harg5 arg6 harg6 arg7 harg7 arg8 harg8 arg9 harg9 arg10 harg10 arg11 harg11 arg12 harg12 w' (harg3.unread x0) (harg4.unread x1) (harg5.unread x2) (harg7.unread x4) (harg8.unread x5) X12
    (arg9.view.writes (Elt Ideal) f0 ((after2 c arg3 harg3 arg4 harg4 arg5 harg5 arg6 harg6 arg7 harg7 arg8 harg8 arg9 harg9 arg10 harg10 arg11 harg11 arg12 harg12 x0 x1 x2 x4 x5 t w X12 f0 L aa ab).2
      ++ pieces0 arg3 harg3 arg4 harg4 arg5 harg5 arg7 harg7 arg8 harg8 arg12 x0 x1 x2 x4 x5 t X12 L aa ab))
    (after2 c arg3 harg3 arg4 harg4 arg5 harg5 arg6 harg6 arg7 harg7 arg8 harg8 arg9 harg9 arg10 harg10 arg11 harg11 arg12 harg12 x0 x1 x2 x4 x5 t w X12 f0 L aa ab).1
    (k0_t3_loop (grid0.coords t)).trips

theorem after3_eq : after3 c arg3 harg3 arg4 harg4 arg5 harg5 arg6 harg6 arg7 harg7 arg8 harg8 arg9 harg9 arg10 harg10 arg11 harg11 arg12 harg12 x0 x1 x2 x4 x5 t w w' X12 f0 L aa ab = ((after2 c arg3 harg3 arg4 harg4 arg5 harg5 arg6 harg6 arg7 harg7 arg8 harg8 arg9 harg9 arg10 harg10 arg11 harg11 arg12 harg12 x0 x1 x2 x4 x5 t w X12 f0 L aa ab).1, []) := by
  unfold after3
  rw [trips3 t]
  rfl

/-- The pieces of the query gradient. -/
abbrev pieces9 : List (View.Piece (Elt Ideal) S1x2048x512 .f32) :=
  (after3 c arg3 harg3 arg4 harg4 arg5 harg5 arg6 harg6 arg7 harg7 arg8 harg8 arg9 harg9 arg10 harg10 arg11 harg11 arg12 harg12 x0 x1 x2 x4 x5 t w w' X12 f0 L aa ab).2 ++ ((after2 c arg3 harg3 arg4 harg4 arg5 harg5 arg6 harg6 arg7 harg7 arg8 harg8 arg9 harg9 arg10 harg10 arg11 harg11 arg12 harg12 x0 x1 x2 x4 x5 t w X12 f0 L aa ab).2
      ++ pieces0 arg3 harg3 arg4 harg4 arg5 harg5 arg7 harg7 arg8 harg8 arg12 x0 x1 x2 x4 x5 t X12 L aa ab)

/-- The pieces of the key gradient. -/
abbrev pieces10 : List (View.Piece (Elt Ideal) S1x512x512 .f32) :=
  [⟨Rect.unit ![0, 0, 256] S1x512x256.size inb_S1x512x512_S1x512x256_0_0_256, k0_pay9 (after3 c arg3 harg3 arg4 harg4 arg5 harg5 arg6 harg6 arg7 harg7 arg8 harg8 arg9 harg9 arg10 harg10 arg11 harg11 arg12 harg12 x0 x1 x2 x4 x5 t w w' X12 f0 L aa ab).1.2.2.1⟩,
    ⟨Rect.unit ![0, 0, 0] S1x512x256.size inb_S1x512x512_S1x512x256_0_0_0, k0_pay7 (after3 c arg3 harg3 arg4 harg4 arg5 harg5 arg6 harg6 arg7 harg7 arg8 harg8 arg9 harg9 arg10 harg10 arg11 harg11 arg12 harg12 x0 x1 x2 x4 x5 t w w' X12 f0 L aa ab).1.1⟩]

/-- The pieces of the value gradient. -/
abbrev pieces11 : List (View.Piece (Elt Ideal) S1x512x256 .f32) :=
  [⟨Rect.unit ![0, 0, 128] S1x512x128.size inb_S1x512x256_S1x512x128_0_0_128, k0_pay10 (after3 c arg3 harg3 arg4 harg4 arg5 harg5 arg6 harg6 arg7 harg7 arg8 harg8 arg9 harg9 arg10 harg10 arg11 harg11 arg12 harg12 x0 x1 x2 x4 x5 t w w' X12 f0 L aa ab).1.2.2.2⟩,
    ⟨Rect.unit ![0, 0, 0] S1x512x128.size inb_S1x512x256_S1x512x128_0_0_0, k0_pay8 (after3 c arg3 harg3 arg4 harg4 arg5 harg5 arg6 harg6 arg7 harg7 arg8 harg8 arg9 harg9 arg10 harg10 arg11 harg11 arg12 harg12 x0 x1 x2 x4 x5 t w w' X12 f0 L aa ab).1.2.1⟩]

theorem tiles (hX : X12 = harg12.unread dl) :
    IsTile x0 x1 x2 x4 x5 dl 0 (3 - t.val % 4) (tl t)
      (arg3.view.readAt (Elt Ideal) (Rect.unit (s := S1x2048x512) (k0_off5 (grid0.coords t)) S1x512x256.size (k0_off5_inb (grid0.coords t))).toLoadRect (harg3.unread x0))
      (arg4.view.readAt (Elt Ideal) (Rect.unit (s := S1x512x512) ![0, 0, 0] S1x512x256.size inb_S1x512x512_S1x512x256_0_0_0).toLoadRect (harg4.unread x1))
      (arg5.view.readAt (Elt Ideal) (Rect.unit (s := S1x512x256) ![0, 0, 0] S1x512x128.size inb_S1x512x256_S1x512x128_0_0_0).toLoadRect (harg5.unread x2))
      (arg8.view.readAt (Elt Ideal) (Rect.unit (s := S1x2048x256) (k0_off6 (grid0.coords t)) S1x512x128.size (k0_off6_inb (grid0.coords t))).toLoadRect (harg8.unread x5))
      (arg7.view.readAt (Elt Ideal) (Rect.unit (s := S1x2x2048x128) (k0_off7 (grid0.coords t)) S1x1x512x128.size (k0_off7_inb (grid0.coords t))).toLoadRect (harg7.unread x4))
      (arg12.view.readAt (Elt Ideal) (Rect.unit (s := S2x2048x128) (k0_off8 (grid0.coords t)) S1x512x128.size (k0_off8_inb (grid0.coords t))).toLoadRect X12) ∧
    IsTile x0 x1 x2 x4 x5 dl 1 (3 - t.val % 4) (tl t)
      (arg3.view.readAt (Elt Ideal) (Rect.unit (s := S1x2048x512) (k0_off9 (grid0.coords t)) S1x512x256.size (k0_off9_inb (grid0.coords t))).toLoadRect (harg3.unread x0))
      (arg4.view.readAt (Elt Ideal) (Rect.unit (s := S1x512x512) ![0, 0, 256] S1x512x256.size inb_S1x512x512_S1x512x256_0_0_256).toLoadRect (harg4.unread x1))
      (arg5.view.readAt (Elt Ideal) (Rect.unit (s := S1x512x256) ![0, 0, 128] S1x512x128.size inb_S1x512x256_S1x512x128_0_0_128).toLoadRect (harg5.unread x2))
      (arg8.view.readAt (Elt Ideal) (Rect.unit (s := S1x2048x256) (k0_off10 (grid0.coords t)) S1x512x128.size (k0_off10_inb (grid0.coords t))).toLoadRect (harg8.unread x5))
      (arg7.view.readAt (Elt Ideal) (Rect.unit (s := S1x2x2048x128) (k0_off11 (grid0.coords t)) S1x1x512x128.size (k0_off11_inb (grid0.coords t))).toLoadRect (harg7.unread x4))
      (arg12.view.readAt (Elt Ideal) (Rect.unit (s := S2x2048x128) (k0_off12 (grid0.coords t)) S1x512x128.size (k0_off12_inb (grid0.coords t))).toLoadRect X12) := by
  subst hX
  exact ⟨tile_of_loads harg3 harg4 harg5 harg7 harg8 harg12 x0 x1 x2 x4 x5 dl 0 _ (tl t) _ _ _ _ _ _ (off5_eq t) rfl rfl (off6_eq t) (off7_eq t) (off8_eq t),
    tile_of_loads harg3 harg4 harg5 harg7 harg8 harg12 x0 x1 x2 x4 x5 dl 1 _ (tl t) _ _ _ _ _ _ (off9_eq t) rfl rfl (off10_eq t) (off11_eq t) (off12_eq t)⟩

/-- The query gradient after the body, on every row. -/
theorem pieces9_read (hX : X12 = harg12.unread dl) {y : Fin 2048 → Fin 512 → EReal}
    (hf : ∀ ρ cc, arg9.view.read (Elt Ideal) (arg9.view.writes (Elt Ideal) f0 L) (ix3 0 ρ cc) = y ρ cc)
    (ha : ∀ r d, aa (ix3 0 r d) = y (row _ (tl t) r) (col 0 d)) (hb : ∀ r d, ab (ix3 0 r d) = y (row _ (tl t) r) (col 1 d))
    (ρ : Fin 2048) (cc : Fin 512) :
    arg9.view.read (Elt Ideal) (arg9.view.writes (Elt Ideal) f0 (pieces9 c arg3 harg3 arg4 harg4 arg5 harg5 arg6 harg6 arg7 harg7 arg8 harg8 arg9 harg9 arg10 harg10 arg11 harg11 arg12 harg12 x0 x1 x2 x4 x5 t w w' X12 f0 L aa ab)) (ix3 0 ρ cc)
      = y ρ cc + dqAdd x0 x1 x2 x4 x5 dl (3 - t.val % 4) ρ cc := by
  obtain ⟨d, hc⟩ := exists_col cc
  generalize hd cc = h at hc
  subst hc
  obtain ⟨T0, T1⟩ := tiles arg3 harg3 arg4 harg4 arg5 harg5 arg7 harg7 arg8 harg8 arg12 harg12 x0 x1 x2 x4 x5 dl t X12 hX
  subst hX
  rw [pieces9, after3_eq, List.nil_append, View.writes_append]
  have hle : (k0_t2_loop (grid0.coords t)).trips ≤ t.val % 4 := (trips2 t).le
  refine ((state_spec c arg3 harg3 arg4 harg4 arg5 harg5 arg6 harg6 arg7 harg7 arg8 harg8 arg9 harg9 arg10 harg10 arg11 harg11 arg12 harg12 x0 x1 x2 x4 x5 dl t w _ _ _ hle).2.2.2.2 h ρ d).trans ?_
  rw [diag_out arg9 t T0 T1 f0 hf ha hb h ρ d, add_assoc, trips2 t]
  refine congrArg (_ + ·) ?_
  rw [dqAdd, hd_col]
  have hm : t.val % 4 < 4 := Nat.mod_lt _ (by decide)
  have hρ := ρ.isLt
  split_ifs with h1 h2 h2
  · omega
  · exact add_zero _
  · exact zero_add _
  · rw [add_zero]
    refine (Finset.sum_eq_zero fun kk _ => ?_).symm
    rw [dsc_above (by omega), zero_mul]

/-- The key gradient the body leaves. -/
theorem pieces10_read (hX : X12 = harg12.unread dl) (f : arg10.view.ty.Contents (Elt Ideal)) (kk cc : Fin 512) :
    arg10.view.read (Elt Ideal) (arg10.view.writes (Elt Ideal) f (pieces10 c arg3 harg3 arg4 harg4 arg5 harg5 arg6 harg6 arg7 harg7 arg8 harg8 arg9 harg9 arg10 harg10 arg11 harg11 arg12 harg12 x0 x1 x2 x4 x5 t w w' X12 f0 L aa ab)) (ix3 0 kk cc)
      = dkTile x0 x1 x2 x4 x5 dl (3 - t.val % 4) kk cc := by
  obtain ⟨d, hc⟩ := exists_col cc
  generalize hd cc = h at hc
  subst hc
  obtain ⟨T0, T1⟩ := tiles arg3 harg3 arg4 harg4 arg5 harg5 arg7 harg7 arg8 harg8 arg12 harg12 x0 x1 x2 x4 x5 dl t X12 hX
  subst hX
  rw [pieces10, after3_eq]
  have hle : (k0_t2_loop (grid0.coords t)).trips ≤ t.val % 4 := (trips2 t).le
  have hm : t.val % 4 < 4 := Nat.mod_lt _ (by decide)
  obtain ⟨s1, -, s3, -, -⟩ := state_spec c arg3 harg3 arg4 harg4 arg5 harg5 arg6 harg6 arg7 harg7 arg8 harg8 arg9 harg9 arg10 harg10 arg11 harg11 arg12 harg12 x0 x1 x2 x4 x5 dl t w
    (arg9.view.writes (Elt Ideal) f0 (pieces0 arg3 harg3 arg4 harg4 arg5 harg5 arg7 harg7 arg8 harg8 arg12 x0 x1 x2 x4 x5 t (harg12.unread dl) L aa ab))
    (init0 arg3 harg3 arg4 harg4 arg5 harg5 arg7 harg7 arg8 harg8 arg12 x0 x1 x2 x4 x5 t (harg12.unread dl)) _ hle
  rw [dkTile, hd_col]
  fin_cases h
  · refine (View.read_writes_cons_unit_of_not_mem arg10.view f _ _ _ _ rfl 2
      (Or.inl (by show 256 * 0 + d.val < 256; have := d.isLt; omega))).trans ?_
    refine (View.read_writes_cons_unit_of_mem arg10.view f _ _ _ _ (ix3 0 kk d) rfl
      (by intro a; fin_cases a <;> simp [col])).trans ?_
    refine (show _ = _ from by pointwise [k0_pay7]).trans ((s1 kk d).trans ?_)
    rw [trips2 t]
    refine Eq.trans ?_ (sum_blocks hm (g := fun r => dsc x0 x1 x2 x4 x5 dl (3 - t.val % 4) 0 r kk * x0 (ix3 0 r (col 0 d)))
      (fun r hr => by rw [dsc_above hr, zero_mul]))
    exact congrArg (· + _) (pay51_eq T0 rfl kk d)
  · refine (View.read_writes_cons_unit_of_mem arg10.view f _ _ _ _ (ix3 0 kk d) rfl
      (by intro a; fin_cases a <;> simp [col])).trans ?_
    refine (show _ = _ from by pointwise [k0_pay9]).trans ((s3 kk d).trans ?_)
    rw [trips2 t]
    refine Eq.trans ?_ (sum_blocks hm (g := fun r => dsc x0 x1 x2 x4 x5 dl (3 - t.val % 4) 1 r kk * x0 (ix3 0 r (col 1 d)))
      (fun r hr => by rw [dsc_above hr, zero_mul]))
    exact congrArg (· + _) (pay61_eq T1 rfl kk d)

/-- The value gradient the body leaves. -/
theorem pieces11_read (hX : X12 = harg12.unread dl) (f : arg11.view.ty.Contents (Elt Ideal)) (kk : Fin 512) (cc : Fin 256) :
    arg11.view.read (Elt Ideal) (arg11.view.writes (Elt Ideal) f (pieces11 c arg3 harg3 arg4 harg4 arg5 harg5 arg6 harg6 arg7 harg7 arg8 harg8 arg9 harg9 arg10 harg10 arg11 harg11 arg12 harg12 x0 x1 x2 x4 x5 t w w' X12 f0 L aa ab)) (ix3 0 kk cc)
      = dvTile x0 x1 x4 x5 (3 - t.val % 4) kk cc := by
  obtain ⟨d, hc⟩ := exists_colv cc
  generalize hdv cc = h at hc
  subst hc
  obtain ⟨T0, T1⟩ := tiles arg3 harg3 arg4 harg4 arg5 harg5 arg7 harg7 arg8 harg8 arg12 harg12 x0 x1 x2 x4 x5 dl t X12 hX
  subst hX
  rw [pieces11, after3_eq]
  have hle : (k0_t2_loop (grid0.coords t)).trips ≤ t.val % 4 := (trips2 t).le
  have hm : t.val % 4 < 4 := Nat.mod_lt _ (by decide)
  obtain ⟨-, s2, -, s4, -⟩ := state_spec c arg3 harg3 arg4 harg4 arg5 harg5 arg6 harg6 arg7 harg7 arg8 harg8 arg9 harg9 arg10 harg10 arg11 harg11 arg12 harg12 x0 x1 x2 x4 x5 dl t w
    (arg9.view.writes (Elt Ideal) f0 (pieces0 arg3 harg3 arg4 harg4 arg5 harg5 arg7 harg7 arg8 harg8 arg12 x0 x1 x2 x4 x5 t (harg12.unread dl) L aa ab))
    (init0 arg3 harg3 arg4 harg4 arg5 harg5 arg7 harg7 arg8 harg8 arg12 x0 x1 x2 x4 x5 t (harg12.unread dl)) _ hle
  rw [dvTile, hdv_colv]
  fin_cases h
  · refine (View.read_writes_cons_unit_of_not_mem arg11.view f _ _ _ _ rfl 2
      (Or.inl (by show 128 * 0 + d.val < 128; have := d.isLt; omega))).trans ?_
    refine (View.read_writes_cons_unit_of_mem arg11.view f _ _ _ _ (ix3 0 kk d) rfl
      (by intro a; fin_cases a <;> simp [colv])).trans ?_
    refine (show _ = _ from by pointwise [k0_pay8]).trans ((s2 kk d).trans ?_)
    rw [trips2 t]
    refine Eq.trans ?_ (sum_blocks hm (g := fun r => pr x0 x1 x4 (3 - t.val % 4) 0 r kk * x5 (ix3 0 r (colv 0 d)))
      (fun r hr => by rw [pr_above hr, zero_mul]))
    exact congrArg (· + _) (pay49_eq T0 rfl kk d)
  · refine (View.read_writes_cons_unit_of_mem arg11.view f _ _ _ _ (ix3 0 kk d) rfl
      (by intro a; fin_cases a <;> simp [colv])).trans ?_
    refine (show _ = _ from by pointwise [k0_pay10]).trans ((s4 kk d).trans ?_)
    rw [trips2 t]
    refine Eq.trans ?_ (sum_blocks hm (g := fun r => pr x0 x1 x4 (3 - t.val % 4) 1 r kk * x5 (ix3 0 r (colv 1 d)))
      (fun r hr => by rw [pr_above hr, zero_mul]))
    exact congrArg (· + _) (pay59_eq T1 rfl kk d)

end Whole

end Body

end Cert.KernelIdeal.Attn

end
-- ==== Proof.Body.lean ====
module

public import proofs.«01_k».proof.Proof.Point

/-! The body of the backward attention kernel at a grid point, as functions of the blocks it finds: the two runs' piece
    lists read by Point's lemmas. -/

@[expose] public section

set_option maxRecDepth 16384

noncomputable section

namespace Cert.KernelIdeal.Attn

open Cert.KernelIdeal Cert.KernelIdeal.Gen Idealize.ShloMosaic Idealize.ShloMosaic.TcCoe Idealize.ShloMosaic.Tactic

/-- The row sums, over the lanes. -/
def sumVec (x3 x5 : Vec Ideal S1x2048x256 .f32) : Vec Ideal S2x2048x128 .f32 := fun i => rowSum x3 x5 (i 0) (i 1)

/-- The query gradient with a key tile's part added. -/
def dqVec (x0 : Vec Ideal S1x2048x512 .bf16) (x1 : Vec Ideal S1x512x512 .bf16) (x2 : Vec Ideal S1x512x256 .bf16)
    (x4 : Vec Ideal S1x2x2048x128 .f32) (x5 : Vec Ideal S1x2048x256 .f32) (dl : Vec Ideal S2x2048x128 .f32) (j : ℕ)
    (y : Vec Ideal S1x2048x512 .f32) : Vec Ideal S1x2048x512 .f32 :=
  fun i => y i + dqAdd x0 x1 x2 x4 x5 dl j (i 1) (i 2)

/-- The key gradient of a tile, as a block. -/
def dkVec (x0 : Vec Ideal S1x2048x512 .bf16) (x1 : Vec Ideal S1x512x512 .bf16) (x2 : Vec Ideal S1x512x256 .bf16)
    (x4 : Vec Ideal S1x2x2048x128 .f32) (x5 : Vec Ideal S1x2048x256 .f32) (dl : Vec Ideal S2x2048x128 .f32) (j : ℕ) :
    Vec Ideal S1x512x512 .f32 :=
  fun i => dkTile x0 x1 x2 x4 x5 dl j (i 1) (i 2)

/-- The value gradient of a tile, as a block. -/
def dvVec (x0 : Vec Ideal S1x2048x512 .bf16) (x1 : Vec Ideal S1x512x512 .bf16)
    (x4 : Vec Ideal S1x2x2048x128 .f32) (x5 : Vec Ideal S1x2048x256 .f32) (j : ℕ) : Vec Ideal S1x512x256 .f32 :=
  fun i => dvTile x0 x1 x4 x5 j (i 1) (i 2)

/-- The query gradient before the first key tile. -/
def zeroVec : Vec Ideal S1x2048x512 .f32 := fun _ => 0

theorem ext3 {n a b : ℕ} {φ : EltTy} {x y : Vec Ideal ⟨3, ![n, a, b]⟩ φ} (h : ∀ i j k, x (ix3 i j k) = y (ix3 i j k)) : x = y := by
  funext i
  have hi : i = ix3 (i 0) (i 1) (i 2) := by funext u; fin_cases u <;> rfl
  rw [hi]
  exact h _ _ _

section Body

variable (c : Dev nD)
  (arg3 : Memref sig .tc .vmem S1x2048x512 .bf16) (harg3 : arg3.IsWhole)
  (arg4 : Memref sig .tc .vmem S1x512x512 .bf16) (harg4 : arg4.IsWhole)
  (arg5 : Memref sig .tc .vmem S1x512x256 .bf16) (harg5 : arg5.IsWhole)
  (arg6 : Memref sig .tc .vmem S1x2048x256 .f32) (harg6 : arg6.IsWhole)
  (arg7 : Memref sig .tc .vmem S1x2x2048x128 .f32) (harg7 : arg7.IsWhole)
  (arg8 : Memref sig .tc .vmem S1x2048x256 .f32) (harg8 : arg8.IsWhole)
  (arg9 : Memref sig .tc .vmem S1x2048x512 .f32) (harg9 : arg9.IsWhole)
  (arg10 : Memref sig .tc .vmem S1x512x512 .f32) (harg10 : arg10.IsWhole)
  (arg11 : Memref sig .tc .vmem S1x512x256 .f32) (harg11 : arg11.IsWhole)
  (arg12 : Memref sig .tc .vmem S2x2048x128 .f32) (harg12 : arg12.IsWhole)
  (x0 : Vec Ideal S1x2048x512 .bf16) (x1 : Vec Ideal S1x512x512 .bf16) (x2 : Vec Ideal S1x512x256 .bf16)
  (x3 : Vec Ideal S1x2048x256 .f32) (x4 : Vec Ideal S1x2x2048x128 .f32) (x5 : Vec Ideal S1x2048x256 .f32)
  (y : Vec Ideal S1x2048x512 .f32) (s : Vec Ideal S2x2048x128 .f32) (t : Fin grid0.N)

section Forms

variable (w w' : BitVec 32) (X12 : arg12.view.ty.Contents (Elt Ideal)) (f0 : arg9.view.ty.Contents (Elt Ideal))
  (L : List (View.Piece (Elt Ideal) S1x2048x512 .f32)) (aa ab : Vec Ideal S1x512x256 .f32)

abbrev s2 (P0 : List (View.Piece (Elt Ideal) S1x2048x512 .f32)) (ini : Acc) (n : ℕ) : Acc × List (View.Piece (Elt Ideal) S1x2048x512 .f32) :=
  st_k0_t2 (F := Ideal) Variants.none c none (grid0.coords t) arg3 harg3 arg4 harg4 arg5 harg5 arg6 harg6 arg7 harg7 arg8 harg8 arg9 harg9 arg10 harg10 arg11 harg11 arg12 harg12 w (harg3.unread x0) (harg4.unread x1) (harg5.unread x2) (harg7.unread x4) (harg8.unread x5) X12
    (arg9.view.writes (Elt Ideal) f0 P0) ini n

abbrev s3 (P0 : List (View.Piece (Elt Ideal) S1x2048x512 .f32)) (ini : Acc) (n n' : ℕ) : Acc × List (View.Piece (Elt Ideal) S1x2048x512 .f32) :=
  st_k0_t3 (F := Ideal) Variants.none c none (grid0.coords t) arg3 harg3 arg4 harg4 arg5 harg5 arg6 harg6 arg7 harg7 arg8 harg8 arg9 harg9 arg10 harg10 arg11 harg11 arg12 harg12 w' (harg3.unread x0) (harg4.unread x1) (harg5.unread x2) (harg7.unread x4) (harg8.unread x5) X12
    (arg9.view.writes (Elt Ideal) f0 ((s2 c arg3 harg3 arg4 harg4 arg5 harg5 arg6 harg6 arg7 harg7 arg8 harg8 arg9 harg9 arg10 harg10 arg11 harg11 arg12 harg12 x0 x1 x2 x4 x5 t w X12 f0 P0 ini n).2 ++ P0))
    ((s2 c arg3 harg3 arg4 harg4 arg5 harg5 arg6 harg6 arg7 harg7 arg8 harg8 arg9 harg9 arg10 harg10 arg11 harg11 arg12 harg12 x0 x1 x2 x4 x5 t w X12 f0 P0 ini n).1.1, (s2 c arg3 harg3 arg4 harg4 arg5 harg5 arg6 harg6 arg7 harg7 arg8 harg8 arg9 harg9 arg10 harg10 arg11 harg11 arg12 harg12 x0 x1 x2 x4 x5 t w X12 f0 P0 ini n).1.2.1,
      (s2 c arg3 harg3 arg4 harg4 arg5 harg5 arg6 harg6 arg7 harg7 arg8 harg8 arg9 harg9 arg10 harg10 arg11 harg11 arg12 harg12 x0 x1 x2 x4 x5 t w X12 f0 P0 ini n).1.2.2.1, (s2 c arg3 harg3 arg4 harg4 arg5 harg5 arg6 harg6 arg7 harg7 arg8 harg8 arg9 harg9 arg10 harg10 arg11 harg11 arg12 harg12 x0 x1 x2 x4 x5 t w X12 f0 P0 ini n).1.2.2.2) n'

seal st_k0_t2 st_k0_t3 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay7 k0_pay8 k0_pay9 k0_pay10 k0_off5 k0_off6 k0_off7 k0_off8 k0_off9 k0_off10 k0_off11 k0_off12 View.readAt View.writes Memref.IsWhole.unread in
theorem form9 {P0 : List (View.Piece (Elt Ideal) S1x2048x512 .f32)} {ini : Acc} {n n' : ℕ}
    (hn : n = (k0_t2_loop (grid0.coords t)).trips) (hn' : n' = (k0_t3_loop (grid0.coords t)).trips)
    (hi : ini = init0 arg3 harg3 arg4 harg4 arg5 harg5 arg7 harg7 arg8 harg8 arg12 x0 x1 x2 x4 x5 t X12)
    (hP : P0 = pieces0 arg3 harg3 arg4 harg4 arg5 harg5 arg7 harg7 arg8 harg8 arg12 x0 x1 x2 x4 x5 t X12 L aa ab) :
    (s3 c arg3 harg3 arg4 harg4 arg5 harg5 arg6 harg6 arg7 harg7 arg8 harg8 arg9 harg9 arg10 harg10 arg11 harg11 arg12 harg12 x0 x1 x2 x4 x5 t w w' X12 f0 P0 ini n n').2 ++ ((s2 c arg3 harg3 arg4 harg4 arg5 harg5 arg6 harg6 arg7 harg7 arg8 harg8 arg9 harg9 arg10 harg10 arg11 harg11 arg12 harg12 x0 x1 x2 x4 x5 t w X12 f0 P0 ini n).2 ++ P0)
      = pieces9 c arg3 harg3 arg4 harg4 arg5 harg5 arg6 harg6 arg7 harg7 arg8 harg8 arg9 harg9 arg10 harg10 arg11 harg11 arg12 harg12 x0 x1 x2 x4 x5 t w w' X12 f0 L aa ab := by
  subst hn hn' hi hP; rfl

seal st_k0_t2 st_k0_t3 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay7 k0_pay8 k0_pay9 k0_pay10 k0_off5 k0_off6 k0_off7 k0_off8 k0_off9 k0_off10 k0_off11 k0_off12 View.readAt View.writes Memref.IsWhole.unread in
theorem form10 {P0 : List (View.Piece (Elt Ideal) S1x2048x512 .f32)} {ini : Acc} {n n' : ℕ}
    (hn : n = (k0_t2_loop (grid0.coords t)).trips) (hn' : n' = (k0_t3_loop (grid0.coords t)).trips)
    (hi : ini = init0 arg3 harg3 arg4 harg4 arg5 harg5 arg7 harg7 arg8 harg8 arg12 x0 x1 x2 x4 x5 t X12)
    (hP : P0 = pieces0 arg3 harg3 arg4 harg4 arg5 harg5 arg7 harg7 arg8 harg8 arg12 x0 x1 x2 x4 x5 t X12 L aa ab) :
    ([⟨Rect.unit ![0, 0, 256] S1x512x256.size inb_S1x512x512_S1x512x256_0_0_256, k0_pay9 (s3 c arg3 harg3 arg4 harg4 arg5 harg5 arg6 harg6 arg7 harg7 arg8 harg8 arg9 harg9 arg10 harg10 arg11 harg11 arg12 harg12 x0 x1 x2 x4 x5 t w w' X12 f0 P0 ini n n').1.2.2.1⟩,
    ⟨Rect.unit ![0, 0, 0] S1x512x256.size inb_S1x512x512_S1x512x256_0_0_0, k0_pay7 (s3 c arg3 harg3 arg4 harg4 arg5 harg5 arg6 harg6 arg7 harg7 arg8 harg8 arg9 harg9 arg10 harg10 arg11 harg11 arg12 harg12 x0 x1 x2 x4 x5 t w w' X12 f0 P0 ini n n').1.1⟩] : List (View.Piece (Elt Ideal) S1x512x512 .f32))
      = pieces10 c arg3 harg3 arg4 harg4 arg5 harg5 arg6 harg6 arg7 harg7 arg8 harg8 arg9 harg9 arg10 harg10 arg11 harg11 arg12 harg12 x0 x1 x2 x4 x5 t w w' X12 f0 L aa ab := by
  subst hn hn' hi hP; rfl

seal st_k0_t2 st_k0_t3 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay7 k0_pay8 k0_pay9 k0_pay10 k0_off5 k0_off6 k0_off7 k0_off8 k0_off9 k0_off10 k0_off11 k0_off12 View.readAt View.writes Memref.IsWhole.unread in
theorem form11 {P0 : List (View.Piece (Elt Ideal) S1x2048x512 .f32)} {ini : Acc} {n n' : ℕ}
    (hn : n = (k0_t2_loop (grid0.coords t)).trips) (hn' : n' = (k0_t3_loop (grid0.coords t)).trips)
    (hi : ini = init0 arg3 harg3 arg4 harg4 arg5 harg5 arg7 harg7 arg8 harg8 arg12 x0 x1 x2 x4 x5 t X12)
    (hP : P0 = pieces0 arg3 harg3 arg4 harg4 arg5 harg5 arg7 harg7 arg8 harg8 arg12 x0 x1 x2 x4 x5 t X12 L aa ab) :
    ([⟨Rect.unit ![0, 0, 128] S1x512x128.size inb_S1x512x256_S1x512x128_0_0_128, k0_pay10 (s3 c arg3 harg3 arg4 harg4 arg5 harg5 arg6 harg6 arg7 harg7 arg8 harg8 arg9 harg9 arg10 harg10 arg11 harg11 arg12 harg12 x0 x1 x2 x4 x5 t w w' X12 f0 P0 ini n n').1.2.2.2⟩,
    ⟨Rect.unit ![0, 0, 0] S1x512x128.size inb_S1x512x256_S1x512x128_0_0_0, k0_pay8 (s3 c arg3 harg3 arg4 harg4 arg5 harg5 arg6 harg6 arg7 harg7 arg8 harg8 arg9 harg9 arg10 harg10 arg11 harg11 arg12 harg12 x0 x1 x2 x4 x5 t w w' X12 f0 P0 ini n n').1.2.1⟩] : List (View.Piece (Elt Ideal) S1x512x256 .f32))
      = pieces11 c arg3 harg3 arg4 harg4 arg5 harg5 arg6 harg6 arg7 harg7 arg8 harg8 arg9 harg9 arg10 harg10 arg11 harg11 arg12 harg12 x0 x1 x2 x4 x5 t w w' X12 f0 L aa ab := by
  subst hn hn' hi hP; rfl

end Forms

seal st_k0_t2 st_k0_t3 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay7 k0_pay8 k0_pay9 k0_pay10 k0_off5 k0_off6 k0_off7 k0_off8 k0_off9 k0_off10 k0_off11 k0_off12 View.readAt View.writes Memref.IsWhole.unread in
/-- The pieces of a later key tile. -/
theorem runB_pieces (hc0 : ¬ first (grid0.coords t)) : ∃ w w',
      (runB c (grid0.coords t) arg3 harg3 arg4 harg4 arg5 harg5 arg6 harg6 arg7 harg7 arg8 harg8 arg9 harg9 arg10 harg10 arg11 harg11 arg12 harg12 hc0 x0 x1 x2 x3 x4 x5 y s).1
        = pieces9 c arg3 harg3 arg4 harg4 arg5 harg5 arg6 harg6 arg7 harg7 arg8 harg8 arg9 harg9 arg10 harg10 arg11 harg11 arg12 harg12 x0 x1 x2 x4 x5 t w w' (harg12.unread s) (harg9.unread y) []
          (arg9.view.readAt (Elt Ideal) (Rect.unit (s := S1x2048x512) (k0_off5 (grid0.coords t)) S1x512x256.size (k0_off5_inb (grid0.coords t))).toLoadRect (harg9.unread y))
          (arg9.view.readAt (Elt Ideal) (Rect.unit (s := S1x2048x512) (k0_off9 (grid0.coords t)) S1x512x256.size (k0_off9_inb (grid0.coords t))).toLoadRect (harg9.unread y)) ∧
      (runB c (grid0.coords t) arg3 harg3 arg4 harg4 arg5 harg5 arg6 harg6 arg7 harg7 arg8 harg8 arg9 harg9 arg10 harg10 arg11 harg11 arg12 harg12 hc0 x0 x1 x2 x3 x4 x5 y s).2.1
        = pieces10 c arg3 harg3 arg4 harg4 arg5 harg5 arg6 harg6 arg7 harg7 arg8 harg8 arg9 harg9 arg10 harg10 arg11 harg11 arg12 harg12 x0 x1 x2 x4 x5 t w w' (harg12.unread s) (harg9.unread y) []
          (arg9.view.readAt (Elt Ideal) (Rect.unit (s := S1x2048x512) (k0_off5 (grid0.coords t)) S1x512x256.size (k0_off5_inb (grid0.coords t))).toLoadRect (harg9.unread y))
          (arg9.view.readAt (Elt Ideal) (Rect.unit (s := S1x2048x512) (k0_off9 (grid0.coords t)) S1x512x256.size (k0_off9_inb (grid0.coords t))).toLoadRect (harg9.unread y)) ∧
      (runB c (grid0.coords t) arg3 harg3 arg4 harg4 arg5 harg5 arg6 harg6 arg7 harg7 arg8 harg8 arg9 harg9 arg10 harg10 arg11 harg11 arg12 harg12 hc0 x0 x1 x2 x3 x4 x5 y s).2.2.1
        = pieces11 c arg3 harg3 arg4 harg4 arg5 harg5 arg6 harg6 arg7 harg7 arg8 harg8 arg9 harg9 arg10 harg10 arg11 harg11 arg12 harg12 x0 x1 x2 x4 x5 t w w' (harg12.unread s) (harg9.unread y) []
          (arg9.view.readAt (Elt Ideal) (Rect.unit (s := S1x2048x512) (k0_off5 (grid0.coords t)) S1x512x256.size (k0_off5_inb (grid0.coords t))).toLoadRect (harg9.unread y))
          (arg9.view.readAt (Elt Ideal) (Rect.unit (s := S1x2048x512) (k0_off9 (grid0.coords t)) S1x512x256.size (k0_off9_inb (grid0.coords t))).toLoadRect (harg9.unread y)) := by
  refine ⟨runB.sl.v110 (grid0.coords t), Scalar.addi (runB.sl.v110 (grid0.coords t))
            (Scalar.muli (Scalar.divsi (runB.sl.v111 (grid0.coords t)) 1#32) 1#32), ?_, ?_, ?_⟩
  · unfold runB
    dsimp only
    exact form9 c arg3 harg3 arg4 harg4 arg5 harg5 arg6 harg6 arg7 harg7 arg8 harg8 arg9 harg9 arg10 harg10 arg11 harg11 arg12 harg12 x0 x1 x2 x4 x5 t _ _ _ _ _ _ _ rfl rfl rfl rfl
  · unfold runB
    dsimp only
    exact form10 c arg3 harg3 arg4 harg4 arg5 harg5 arg6 harg6 arg7 harg7 arg8 harg8 arg9 harg9 arg10 harg10 arg11 harg11 arg12 harg12 x0 x1 x2 x4 x5 t _ _ _ _ _ _ _ rfl rfl rfl rfl
  · unfold runB
    dsimp only
    exact form11 c arg3 harg3 arg4 harg4 arg5 harg5 arg6 harg6 arg7 harg7 arg8 harg8 arg9 harg9 arg10 harg10 arg11 harg11 arg12 harg12 x0 x1 x2 x4 x5 t _ _ _ _ _ _ _ rfl rfl rfl rfl

/-- A later key tile: the query gradient grows by the tile's part, the tile's own gradients are written. -/
theorem runB_read (hc0 : ¬ first (grid0.coords t)) :
    (arg9.view.read (Elt Ideal) (arg9.view.writes (Elt Ideal) (harg9.unread y) (runB c (grid0.coords t) arg3 harg3 arg4 harg4 arg5 harg5 arg6 harg6 arg7 harg7 arg8 harg8 arg9 harg9 arg10 harg10 arg11 harg11 arg12 harg12 hc0 x0 x1 x2 x3 x4 x5 y s).1)
      = dqVec x0 x1 x2 x4 x5 s (3 - t.val % 4) y) ∧
    (∀ f, arg10.view.read (Elt Ideal) (arg10.view.writes (Elt Ideal) f (runB c (grid0.coords t) arg3 harg3 arg4 harg4 arg5 harg5 arg6 harg6 arg7 harg7 arg8 harg8 arg9 harg9 arg10 harg10 arg11 harg11 arg12 harg12 hc0 x0 x1 x2 x3 x4 x5 y s).2.1)
      = dkVec x0 x1 x2 x4 x5 s (3 - t.val % 4)) ∧
    (∀ f, arg11.view.read (Elt Ideal) (arg11.view.writes (Elt Ideal) f (runB c (grid0.coords t) arg3 harg3 arg4 harg4 arg5 harg5 arg6 harg6 arg7 harg7 arg8 harg8 arg9 harg9 arg10 harg10 arg11 harg11 arg12 harg12 hc0 x0 x1 x2 x3 x4 x5 y s).2.2.1)
      = dvVec x0 x1 x4 x5 (3 - t.val % 4)) := by
  obtain ⟨w, w', h9, h10, h11⟩ := runB_pieces c arg3 harg3 arg4 harg4 arg5 harg5 arg6 harg6 arg7 harg7 arg8 harg8 arg9 harg9 arg10 harg10 arg11 harg11 arg12 harg12 x0 x1 x2 x3 x4 x5 y s t hc0
  refine ⟨ext3 fun i ρ cc => ?_, fun f => ext3 fun i kk cc => ?_, fun f => ext3 fun i kk cc => ?_⟩
  · obtain rfl : i = 0 := Subsingleton.elim _ _
    exact (congrArg (fun L => arg9.view.read (Elt Ideal) (arg9.view.writes (Elt Ideal) (harg9.unread y) L) (ix3 0 ρ cc)) h9).trans
      (pieces9_read c arg3 harg3 arg4 harg4 arg5 harg5 arg6 harg6 arg7 harg7 arg8 harg8 arg9 harg9 arg10 harg10 arg11 harg11 arg12 harg12 x0 x1 x2 x4 x5 s t w w' _ (harg9.unread y) [] _ _ rfl (y := fun ρ cc => y (ix3 0 ρ cc))
      (fun ρ cc => congrFun (harg9.read_unread y) _)
      (fun r d => load_unit harg9 y _ (off5_eq t) _ _ (by intro a; fin_cases a <;> rfl))
      (fun r d => load_unit harg9 y _ (off9_eq t) _ _ (by intro a; fin_cases a <;> rfl)) ρ cc)
  · obtain rfl : i = 0 := Subsingleton.elim _ _
    exact (congrArg (fun L => arg10.view.read (Elt Ideal) (arg10.view.writes (Elt Ideal) f L) (ix3 0 kk cc)) h10).trans
      (pieces10_read c arg3 harg3 arg4 harg4 arg5 harg5 arg6 harg6 arg7 harg7 arg8 harg8 arg9 harg9 arg10 harg10 arg11 harg11 arg12 harg12 x0 x1 x2 x4 x5 s t w w' _ _ _ _ _ rfl f kk cc)
  · obtain rfl : i = 0 := Subsingleton.elim _ _
    exact (congrArg (fun L => arg11.view.read (Elt Ideal) (arg11.view.writes (Elt Ideal) f L) (ix3 0 kk cc)) h11).trans
      (pieces11_read c arg3 harg3 arg4 harg4 arg5 harg5 arg6 harg6 arg7 harg7 arg8 harg8 arg9 harg9 arg10 harg10 arg11 harg11 arg12 harg12 x0 x1 x2 x4 x5 s t w w' _ _ _ _ _ rfl f kk cc)

/-- The zeros stored over the query gradient. -/
abbrev zeros : List (View.Piece (Elt Ideal) S1x2048x512 .f32) :=
  [⟨Rect.unit ![0, 0, 0] S1x2048x512.size inb_S1x2048x512_S1x2048x512_0_0_0, k0_pay41 (F := Ideal)⟩]

theorem zeros_read (f : arg9.view.ty.Contents (Elt Ideal)) (ρ : Fin 2048) (cc : Fin 512) :
    arg9.view.read (Elt Ideal) (arg9.view.writes (Elt Ideal) f zeros) (ix3 0 ρ cc) = 0 :=
  (View.read_writes_cons_unit_of_mem arg9.view f _ _ _ _ (ix3 0 ρ cc) rfl
    (by intro a; fin_cases a <;> simp)).trans (pay41_eq ρ cc)

/-- Over the zeros it does not matter what was there before. -/
theorem zeros_base (harg9 : arg9.IsWhole) (f g : arg9.view.ty.Contents (Elt Ideal))
    (A B C : List (View.Piece (Elt Ideal) S1x2048x512 .f32)) :
    arg9.view.writes (Elt Ideal) f (A ++ (B ++ (C ++ zeros))) = arg9.view.writes (Elt Ideal) g (A ++ (B ++ (C ++ zeros))) := by
  have h : ∀ e : arg9.view.ty.Contents (Elt Ideal), arg9.view.writes (Elt Ideal) e zeros = harg9.unread zeroVec := fun e =>
    harg9.eq_unread (ext3 fun i ρ cc => by
      obtain rfl : i = 0 := Subsingleton.elim _ _
      exact zeros_read arg9 e ρ cc)
  rw [View.writes_append, View.writes_append, View.writes_append, h f, View.writes_append, View.writes_append, View.writes_append, h g]

seal st_k0_t2 st_k0_t3 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay7 k0_pay8 k0_pay9 k0_pay10 k0_off5 k0_off6 k0_off7 k0_off8 k0_off9 k0_off10 k0_off11 k0_off12 View.readAt View.writes Memref.IsWhole.unread in
/-- The pieces of the first key tile. -/
theorem runA_pieces (hc0 : first (grid0.coords t)) : ∃ w w', ∃ P : Vec Ideal S1x512x256 .f32, ∃ aa ab,
      aa = arg9.view.readAt (Elt Ideal) (Rect.unit (s := S1x2048x512) (k0_off5 (grid0.coords t)) S1x512x256.size (k0_off5_inb (grid0.coords t))).toLoadRect (arg9.view.writes (Elt Ideal) arg9.view.junk zeros) ∧
      ab = arg9.view.readAt (Elt Ideal) (Rect.unit (s := S1x2048x512) (k0_off9 (grid0.coords t)) S1x512x256.size (k0_off9_inb (grid0.coords t))).toLoadRect (arg9.view.writes (Elt Ideal) arg9.view.junk (⟨Rect.unit (s := S1x2048x512) (k0_off5 (grid0.coords t)) S1x512x256.size (k0_off5_inb (grid0.coords t)), P⟩ :: zeros)) ∧
      (runA c (grid0.coords t) arg3 harg3 arg4 harg4 arg5 harg5 arg6 harg6 arg7 harg7 arg8 harg8 arg9 harg9 arg10 harg10 arg11 harg11 arg12 harg12 hc0 x0 x1 x2 x3 x4 x5 y s).1
        = pieces9 c arg3 harg3 arg4 harg4 arg5 harg5 arg6 harg6 arg7 harg7 arg8 harg8 arg9 harg9 arg10 harg10 arg11 harg11 arg12 harg12 x0 x1 x2 x4 x5 t w w' (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1) arg9.view.junk zeros aa ab ∧
      (runA c (grid0.coords t) arg3 harg3 arg4 harg4 arg5 harg5 arg6 harg6 arg7 harg7 arg8 harg8 arg9 harg9 arg10 harg10 arg11 harg11 arg12 harg12 hc0 x0 x1 x2 x3 x4 x5 y s).2.1
        = pieces10 c arg3 harg3 arg4 harg4 arg5 harg5 arg6 harg6 arg7 harg7 arg8 harg8 arg9 harg9 arg10 harg10 arg11 harg11 arg12 harg12 x0 x1 x2 x4 x5 t w w' (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1) arg9.view.junk zeros aa ab ∧
      (runA c (grid0.coords t) arg3 harg3 arg4 harg4 arg5 harg5 arg6 harg6 arg7 harg7 arg8 harg8 arg9 harg9 arg10 harg10 arg11 harg11 arg12 harg12 hc0 x0 x1 x2 x3 x4 x5 y s).2.2.1
        = pieces11 c arg3 harg3 arg4 harg4 arg5 harg5 arg6 harg6 arg7 harg7 arg8 harg8 arg9 harg9 arg10 harg10 arg11 harg11 arg12 harg12 x0 x1 x2 x4 x5 t w w' (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1) arg9.view.junk zeros aa ab := by
  refine ⟨runA.sl.v110 (grid0.coords t), Scalar.addi (runA.sl.v110 (grid0.coords t))
            (Scalar.muli (Scalar.divsi (runA.sl.v111 (grid0.coords t)) 1#32) 1#32), (k0_pay52
      (k0_pay45 (arg4.view.readAt (Elt Ideal) (Rect.unit (s := S1x512x512) ![0, 0, 0] S1x512x256.size inb_S1x512x512_S1x512x256_0_0_0).toLoadRect (harg4.unread x1)))
      (k0_pay46 (arg5.view.readAt (Elt Ideal) (Rect.unit (s := S1x512x256) ![0, 0, 0] S1x512x128.size inb_S1x512x256_S1x512x128_0_0_0).toLoadRect (harg5.unread x2)))
      (k0_pay47 (arg8.view.readAt (Elt Ideal) (Rect.unit (s := S1x2048x256) (k0_off6 (grid0.coords t)) S1x512x128.size (k0_off6_inb (grid0.coords t))).toLoadRect (harg8.unread x5)))
      (k0_pay48 (arg3.view.readAt (Elt Ideal) (Rect.unit (s := S1x2048x512) (k0_off5 (grid0.coords t)) S1x512x256.size (k0_off5_inb (grid0.coords t))).toLoadRect (harg3.unread x0))
        (arg4.view.readAt (Elt Ideal) (Rect.unit (s := S1x512x512) ![0, 0, 0] S1x512x256.size inb_S1x512x512_S1x512x256_0_0_0).toLoadRect (harg4.unread x1))
        (arg7.view.readAt (Elt Ideal) (Rect.unit (s := S1x2x2048x128) (k0_off7 (grid0.coords t)) S1x1x512x128.size (k0_off7_inb (grid0.coords t))).toLoadRect (harg7.unread x4)))
      (arg12.view.readAt (Elt Ideal) (Rect.unit (s := S2x2048x128) (k0_off8 (grid0.coords t)) S1x512x128.size (k0_off8_inb (grid0.coords t))).toLoadRect (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1))
      (arg9.view.readAt (Elt Ideal) (Rect.unit (s := S1x2048x512) (k0_off5 (grid0.coords t)) S1x512x256.size (k0_off5_inb (grid0.coords t))).toLoadRect (arg9.view.writes (Elt Ideal) arg9.view.junk zeros))),
    _, _, rfl, rfl, ?_, ?_, ?_⟩
  · unfold runA
    dsimp only
    exact form9 c arg3 harg3 arg4 harg4 arg5 harg5 arg6 harg6 arg7 harg7 arg8 harg8 arg9 harg9 arg10 harg10 arg11 harg11 arg12 harg12 x0 x1 x2 x4 x5 t _ _ _ _ _ _ _ rfl rfl rfl rfl
  · unfold runA
    dsimp only
    exact form10 c arg3 harg3 arg4 harg4 arg5 harg5 arg6 harg6 arg7 harg7 arg8 harg8 arg9 harg9 arg10 harg10 arg11 harg11 arg12 harg12 x0 x1 x2 x4 x5 t _ _ _ _ _ _ _ rfl rfl rfl rfl
  · unfold runA
    dsimp only
    exact form11 c arg3 harg3 arg4 harg4 arg5 harg5 arg6 harg6 arg7 harg7 arg8 harg8 arg9 harg9 arg10 harg10 arg11 harg11 arg12 harg12 x0 x1 x2 x4 x5 t _ _ _ _ _ _ _ rfl rfl rfl rfl

/-- The first key tile: the row sums are formed, the query gradient begins at the tile's part. -/
theorem runA_read (hc0 : first (grid0.coords t)) :
    (arg12.view.read (Elt Ideal) (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1)
      = sumVec x3 x5) ∧
    (∀ f, arg9.view.read (Elt Ideal) (arg9.view.writes (Elt Ideal) f (runA c (grid0.coords t) arg3 harg3 arg4 harg4 arg5 harg5 arg6 harg6 arg7 harg7 arg8 harg8 arg9 harg9 arg10 harg10 arg11 harg11 arg12 harg12 hc0 x0 x1 x2 x3 x4 x5 y s).1)
      = dqVec x0 x1 x2 x4 x5 (sumVec x3 x5) (3 - t.val % 4) zeroVec) ∧
    (∀ f, arg10.view.read (Elt Ideal) (arg10.view.writes (Elt Ideal) f (runA c (grid0.coords t) arg3 harg3 arg4 harg4 arg5 harg5 arg6 harg6 arg7 harg7 arg8 harg8 arg9 harg9 arg10 harg10 arg11 harg11 arg12 harg12 hc0 x0 x1 x2 x3 x4 x5 y s).2.1)
      = dkVec x0 x1 x2 x4 x5 (sumVec x3 x5) (3 - t.val % 4)) ∧
    (∀ f, arg11.view.read (Elt Ideal) (arg11.view.writes (Elt Ideal) f (runA c (grid0.coords t) arg3 harg3 arg4 harg4 arg5 harg5 arg6 harg6 arg7 harg7 arg8 harg8 arg9 harg9 arg10 harg10 arg11 harg11 arg12 harg12 hc0 x0 x1 x2 x3 x4 x5 y s).2.2.1)
      = dvVec x0 x1 x4 x5 (3 - t.val % 4)) := by
  have hS : arg12.view.read (Elt Ideal) (arg12.view.writes (Elt Ideal) (harg12.unread s) (runA c (grid0.coords t) arg3 harg3 arg4 harg4 arg5 harg5 arg6 harg6 arg7 harg7 arg8 harg8 arg9 harg9 arg10 harg10 arg11 harg11 arg12 harg12 hc0 x0 x1 x2 x3 x4 x5 y s).2.2.2.1)
      = sumVec x3 x5 := by
    refine ext3 fun h ρ e => ?_
    refine (sums_read c arg3 harg3 arg4 harg4 arg5 harg5 arg6 harg6 arg7 harg7 arg8 harg8 arg9 harg9 arg10 harg10 arg11 harg11 arg12 harg12 x3 x5 t hc0 (harg12.unread s) k0_t1_loop.trips trips1.le h ρ e).trans ?_
    rw [if_pos (by rw [trips1]; have := ρ.isLt; omega)]
    rfl
  have hX := harg12.eq_unread hS
  refine ⟨hS, ?_⟩
  obtain ⟨w, w', P, aa, ab, h5, hb, h9, h10, h11⟩ := runA_pieces c arg3 harg3 arg4 harg4 arg5 harg5 arg6 harg6 arg7 harg7 arg8 harg8 arg9 harg9 arg10 harg10 arg11 harg11 arg12 harg12 x0 x1 x2 x3 x4 x5 y s t hc0
  refine ⟨fun f => ext3 fun i ρ cc => ?_, fun f => ext3 fun i kk cc => ?_, fun f => ext3 fun i kk cc => ?_⟩
  · obtain rfl : i = 0 := Subsingleton.elim _ _
    refine (congrArg (fun L => arg9.view.read (Elt Ideal) (arg9.view.writes (Elt Ideal) f L) (ix3 0 ρ cc)) h9).trans ?_
    refine (congrArg (fun e => arg9.view.read (Elt Ideal) e (ix3 0 ρ cc)) (zeros_base arg9 harg9 f arg9.view.junk _ _ [_, _])).trans ?_
    refine pieces9_read c arg3 harg3 arg4 harg4 arg5 harg5 arg6 harg6 arg7 harg7 arg8 harg8 arg9 harg9 arg10 harg10 arg11 harg11 arg12 harg12 x0 x1 x2 x4 x5 (sumVec x3 x5) t w w' _ arg9.view.junk zeros _ _ hX (y := fun ρ cc => zeroVec (ix3 0 ρ cc))
      (fun ρ cc => zeros_read arg9 _ ρ cc) (fun r d => ?_) (fun r d => ?_) ρ cc
    · rw [h5]
      exact (load_unit' arg9 _ _ (off5_eq t) _ (ix3 0 (row _ (tl t) r) (col 0 d)) (by intro a; fin_cases a <;> rfl)).trans
        (zeros_read arg9 _ _ _)
    · rw [hb]
      exact (load_unit' arg9 _ _ (off9_eq t) _ (ix3 0 (row _ (tl t) r) (col 1 d)) (by intro a; fin_cases a <;> rfl)).trans
        ((View.read_writes_cons_unit_of_not_mem arg9.view _ _ _ _ _ (off5_eq t) 2
          (Or.inr (by show 0 + 256 ≤ 256 * 1 + d.val; omega))).trans (zeros_read arg9 _ _ _))
  · obtain rfl : i = 0 := Subsingleton.elim _ _
    exact (congrArg (fun L => arg10.view.read (Elt Ideal) (arg10.view.writes (Elt Ideal) f L) (ix3 0 kk cc)) h10).trans
      (pieces10_read c arg3 harg3 arg4 harg4 arg5 harg5 arg6 harg6 arg7 harg7 arg8 harg8 arg9 harg9 arg10 harg10 arg11 harg11 arg12 harg12 x0 x1 x2 x4 x5 (sumVec x3 x5) t w w' _ _ _ _ _ hX f kk cc)
  · obtain rfl : i = 0 := Subsingleton.elim _ _
    exact (congrArg (fun L => arg11.view.read (Elt Ideal) (arg11.view.writes (Elt Ideal) f L) (ix3 0 kk cc)) h11).trans
      (pieces11_read c arg3 harg3 arg4 harg4 arg5 harg5 arg6 harg6 arg7 harg7 arg8 harg8 arg9 harg9 arg10 harg10 arg11 harg11 arg12 harg12 x0 x1 x2 x4 x5 (sumVec x3 x5) t w w' _ _ _ _ _ hX f kk cc)

end Body

end Cert.KernelIdeal.Attn

end
-- ==== Proof.Blocks.lean ====
module

public import proofs.«01_k».proof.Proof.Gen.KernelIdeal.Frame
public import Idealize.ShloMosaic.Lib.Pointwise
public import Idealize.ShloMosaic.Lib.Pipeline.ValueKit

/-! The blocks of the backward attention kernel's windows at a grid point, read in their arrays: point `t` is the batch
    `t / 8`, the pair of heads `t / 4 % 2` and the key tile `3 - t % 4`. -/

@[expose] public section

set_option maxRecDepth 16384

noncomputable section

namespace Cert.KernelIdeal.Attn

open Cert.KernelIdeal Cert.KernelIdeal.Gen Idealize.ShloMosaic Idealize.ShloMosaic.TcCoe Idealize.ShloMosaic.Tactic

theorem idx0 : ∀ t : Fin grid0.N, win0_0.index t = ![t.val / 8, 0, t.val / 4 % 2] := by decide +kernel
theorem idx1 : ∀ t : Fin grid0.N, win0_1.index t = ![t.val / 8, 3 - t.val % 4, t.val / 4 % 2] := by decide +kernel
theorem idx2 : ∀ t : Fin grid0.N, win0_2.index t = ![t.val / 8, 3 - t.val % 4, t.val / 4 % 2] := by decide +kernel
theorem idx3 : ∀ t : Fin grid0.N, win0_3.index t = ![t.val / 8, 0, t.val / 4 % 2] := by decide +kernel
theorem idx4 : ∀ t : Fin grid0.N, win0_4.index t = ![t.val / 8, t.val / 4 % 2, 0, 0] := by decide +kernel
theorem idx5 : ∀ t : Fin grid0.N, win0_5.index t = ![t.val / 8, 0, t.val / 4 % 2] := by decide +kernel
theorem idx6 : ∀ t : Fin grid0.N, win0_6.index t = ![t.val / 8, 0, t.val / 4 % 2] := by decide +kernel
theorem idx7 : ∀ t : Fin grid0.N, win0_7.index t = ![t.val / 8, 3 - t.val % 4, t.val / 4 % 2] := by decide +kernel
theorem idx8 : ∀ t : Fin grid0.N, win0_8.index t = ![t.val / 8, 3 - t.val % 4, t.val / 4 % 2] := by decide +kernel

/-- The batch of a point. -/
abbrev bt (t : Fin cfg0.N) : Fin 4 := ⟨t.val / 8, by have := Nat.lt_of_lt_of_eq t.isLt N_0; omega⟩

/-- A column of a pair of heads of width 256, in the array. -/
abbrev wide (t : Fin cfg0.N) (d : Fin 512) : Fin 1024 :=
  ⟨t.val / 4 % 2 * 512 + d.val, by have := d.isLt; omega⟩

/-- A column of a pair of heads of width 128, in the array. -/
abbrev narrow (t : Fin cfg0.N) (d : Fin 256) : Fin 512 :=
  ⟨t.val / 4 % 2 * 256 + d.val, by have := d.isLt; omega⟩

/-- A row of the point's key tile, in the array. -/
abbrev krow (t : Fin cfg0.N) (r : Fin 512) : Fin 2048 :=
  ⟨(3 - t.val % 4) * 512 + r.val, by have := r.isLt; omega⟩

/-- A head of the point's pair. -/
abbrev hdt (t : Fin cfg0.N) (h : Fin 2) : Fin 4 := ⟨t.val / 4 % 2 * 2 + h.val, by have := h.isLt; omega⟩

variable {F : FTy → Type} [FloatOps F] [Named F] (m : (ℓ : Loc nD τ sig) → Buf (Elt F) ℓ) (c : Dev nD) (t : Fin cfg0.N)

theorem blk0 (r : Fin 2048) (d : Fin 512) :
    iblk m c 0 t (ix3 0 r d) = V m c main_arg0 (ix3 (bt t) r (wide t d)) := by
  blk_ext [iblk, idx0 t]
theorem blk1 (r : Fin 512) (d : Fin 512) :
    iblk m c 1 t (ix3 0 r d) = V m c main_arg1 (ix3 (bt t) (krow t r) (wide t d)) := by
  blk_ext [iblk, idx1 t]
theorem blk2 (r : Fin 512) (d : Fin 256) :
    iblk m c 2 t (ix3 0 r d) = V m c main_arg2 (ix3 (bt t) (krow t r) (narrow t d)) := by
  blk_ext [iblk, idx2 t]
theorem blk3 (r : Fin 2048) (d : Fin 256) :
    iblk m c 3 t (ix3 0 r d) = V m c main_v34 (ix3 (bt t) r (narrow t d)) := by
  blk_ext [iblk, idx3 t]
theorem blk4 (h : Fin 2) (r : Fin 2048) (l : Fin 128) :
    iblk m c 4 t (ix4 0 h r l) = V m c main_v24 (ix4 (bt t) (hdt t h) r l) := by
  blk_ext [iblk, idx4 t]
theorem blk5 (r : Fin 2048) (d : Fin 256) :
    iblk m c 5 t (ix3 0 r d) = V m c main_arg3 (ix3 (bt t) r (narrow t d)) := by
  blk_ext [iblk, idx5 t]

end Cert.KernelIdeal.Attn

end
-- ==== Proof.Launch.lean ====
module

public import proofs.«01_k».proof.Proof.Body
public import proofs.«01_k».proof.Proof.Blocks

/-! The launch of the backward attention kernel: what every window's buffer and the scratch hold after each grid point, the
    body's obligation there, and the run of the whole program. -/

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

local notation "𝕄" => MT nD τ sig Unit (Elt Ideal) ℕ (UR sig nD τ) ℕ

variable (m : (ℓ : Loc nD τ sig) → Buf (Elt Ideal) ℓ) (ρ : Dev nD → PrngReg) (c : Dev nD)

abbrev hs0 (t : Fin cfg0.N) : (st0_0 t).IsWhole := hstage0_0 ((cfg0.slots t 0).cast nbuf0_0)
abbrev hs1 (t : Fin cfg0.N) : (st0_1 t).IsWhole := hstage0_1 ((cfg0.slots t 1).cast nbuf0_1)
abbrev hs2 (t : Fin cfg0.N) : (st0_2 t).IsWhole := hstage0_2 ((cfg0.slots t 2).cast nbuf0_2)
abbrev hs3 (t : Fin cfg0.N) : (st0_3 t).IsWhole := hstage0_3 ((cfg0.slots t 3).cast nbuf0_3)
abbrev hs4 (t : Fin cfg0.N) : (st0_4 t).IsWhole := hstage0_4 ((cfg0.slots t 4).cast nbuf0_4)
abbrev hs5 (t : Fin cfg0.N) : (st0_5 t).IsWhole := hstage0_5 ((cfg0.slots t 5).cast nbuf0_5)
abbrev hs6 (t : Fin cfg0.N) : (st0_6 t).IsWhole := hstage0_6 ((cfg0.slots t 6).cast nbuf0_6)
abbrev hs7 (t : Fin cfg0.N) : (st0_7 t).IsWhole := hstage0_7 ((cfg0.slots t 7).cast nbuf0_7)
abbrev hs8 (t : Fin cfg0.N) : (st0_8 t).IsWhole := hstage0_8 ((cfg0.slots t 8).cast nbuf0_8)

/-- The scratch that keeps the row sums. -/
abbrev scM : Memref sig .tc .vmem S2x2048x128 .f32 := Memref.whole cc0_scratch0

theorem inv_eq : (Pipeline.ΦA spec0 c : sProp 𝕄)
    = iprop(iprop((∃ d, owns (c : Thread nD τ) scM fullShare d)) ∗ (∃ r, prngReg c r)) := by
  unfold Pipeline.ΦA; rw [scopedRest0_eq]; simp only [scM, owns_whole]; try rfl

/-! ### The values -/

/-- The row sums that a point's blocks give. -/
def sums (t : Fin cfg0.N) : Vec Ideal S2x2048x128 .f32 := sumVec (iblk m c 3 t) (iblk m c 5 t)

/-- A point's part added to a query gradient. -/
def grow (t : Fin cfg0.N) (y : Vec Ideal S1x2048x512 .f32) : Vec Ideal S1x2048x512 .f32 :=
  dqVec (iblk m c 0 t) (iblk m c 1 t) (iblk m c 2 t) (iblk m c 4 t) (iblk m c 5 t) (sums m c t) (3 - t.val % 4) y

/-- The query gradient after a point: the parts of the key tiles so far. -/
def dqAt : (n : ℕ) → n < cfg0.N → Vec Ideal S1x2048x512 .f32
  | 0, hn => grow m c ⟨0, hn⟩ zeroVec
  | n + 1, hn => grow m c ⟨n + 1, hn⟩ (if (n + 1) % 4 = 0 then zeroVec else dqAt n (Nat.lt_of_succ_lt hn))

theorem dqAt_first (t : Fin cfg0.N) (h : t.val % 4 = 0) : dqAt m c t.val t.isLt = grow m c t zeroVec := by
  obtain ⟨n, hn⟩ := t
  cases n with
  | zero => rfl
  | succ n => show grow m c _ (if (n + 1) % 4 = 0 then _ else _) = _; rw [if_pos h]

theorem dqAt_next (t : Fin cfg0.N) (h : t.val % 4 ≠ 0) :
    dqAt m c t.val t.isLt = grow m c t (dqAt m c (t.val - 1) (Nat.lt_of_le_of_lt (Nat.sub_le _ _) t.isLt)) := by
  obtain ⟨n, hn⟩ := t
  cases n with
  | zero => exact absurd rfl h
  | succ n => show grow m c _ (if (n + 1) % 4 = 0 then _ else _) = _; rw [if_neg h]; rfl

/-- The row sums are those of the point before where the query tile stays. -/
theorem sums_prev (t : Fin cfg0.N) (h : t.val % 4 ≠ 0) :
    sums m c ⟨t.val - 1, Nat.lt_of_le_of_lt (Nat.sub_le _ _) t.isLt⟩ = sums m c t := by
  have hb : bt ⟨t.val - 1, Nat.lt_of_le_of_lt (Nat.sub_le _ _) t.isLt⟩ = bt t := Fin.ext (by show (t.val - 1) / 8 = t.val / 8; omega)
  have hn : ∀ d, narrow ⟨t.val - 1, Nat.lt_of_le_of_lt (Nat.sub_le _ _) t.isLt⟩ d = narrow t d := fun d =>
    Fin.ext (by show (t.val - 1) / 4 % 2 * 256 + d.val = t.val / 4 % 2 * 256 + d.val; omega)
  have h3 : iblk m c 3 ⟨t.val - 1, Nat.lt_of_le_of_lt (Nat.sub_le _ _) t.isLt⟩ = iblk m c 3 t := ext3 fun i r d => by
    obtain rfl : i = 0 := Subsingleton.elim _ _
    exact (blk3 m c _ r d).trans ((by rw [hb, hn] : _ = _).trans (blk3 m c t r d).symm)
  have h5 : iblk m c 5 ⟨t.val - 1, Nat.lt_of_le_of_lt (Nat.sub_le _ _) t.isLt⟩ = iblk m c 5 t := ext3 fun i r d => by
    obtain rfl : i = 0 := Subsingleton.elim _ _
    exact (blk5 m c _ r d).trans ((by rw [hb, hn] : _ = _).trans (blk5 m c t r d).symm)
  unfold sums
  rw [h3, h5]

/-- Before a point: the scratch at the row sums of the point before. -/
def inv (c : Dev nD) : (n : ℕ) → n ≤ cfg0.N → sProp 𝕄
  | 0, _ => Pipeline.ΦA spec0 c
  | n + 1, hn => iprop(iprop(owns (c : Thread nD τ) scM fullShare (sums m c ⟨n, hn⟩)) ∗ (∃ r, prngReg c r))

theorem inv_zero (n : ℕ) (h : n ≤ cfg0.N) (hz : n = 0) : inv m c n h = Pipeline.ΦA spec0 c := by
  subst hz; rfl

theorem inv_pos (n : ℕ) (h : n ≤ cfg0.N) (hz : n ≠ 0) :
    inv m c n h = iprop(iprop(owns (c : Thread nD τ) scM fullShare (sums m c ⟨n - 1, by omega⟩)) ∗ (∃ r, prngReg c r)) := by
  cases n with
  | zero => exact absurd rfl hz
  | succ n => rfl

/-- Whatever the point, the scratch holds something. -/
theorem inv_any (n : ℕ) (h : n ≤ cfg0.N) : inv m c n h ⊢ Pipeline.ΦA spec0 c := by
  by_cases hz : n = 0
  · rw [inv_zero m c n h hz]
  · rw [inv_pos m c n h hz, inv_eq]
    iintro ⟨HS, Hg⟩
    isplitl [HS]
    · iexists _; iexact HS
    iexact Hg

/-! ### The pipeline's data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkVec (iblk m c 0 t) (iblk m c 1 t) (iblk m c 2 t) (iblk m c 4 t) (iblk m c 5 t) (sums m c t) (3 - t.val % 4)
    | ⟨8, _⟩ => dvVec (iblk m c 0 t) (iblk m c 1 t) (iblk m c 4 t) (iblk m c 5 t) (3 - t.val % 4)
  Φ t := inv m c t.val (Nat.le_of_lt_succ t.isLt)
  q _ := fullShare
  owed _ := 0

theorem arr_entry (c : Dev nD) (w : Fin cfg0.W) : (dats m 0 c).A w = V m c (Pipeline.arrRef spec0 w) := by
  dsimp only [dats]

theorem inv_at (t : Fin cfg0.N) : (dats m 0 c).Φ t.castSucc = inv m c t.val (Nat.le_of_lt t.isLt) := by
  dsimp only [dats]; exact Pipeline.Dat.Φ_castSucc (inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = dqAt m c t.val t.isLt := by dsimp only [dats]
theorem after_7 (t : Fin cfg0.N) : (dats m 0 c).after 7 t
    = dkVec (iblk m c 0 t) (iblk m c 1 t) (iblk m c 2 t) (iblk m c 4 t) (iblk m c 5 t) (sums m c t) (3 - t.val % 4) := by dsimp only [dats]
theorem after_8 (t : Fin cfg0.N) : (dats m 0 c).after 8 t
    = dvVec (iblk m c 0 t) (iblk m c 1 t) (iblk m c 4 t) (iblk m c 5 t) (3 - t.val % 4) := by dsimp only [dats]

theorem before_0 (t : Fin cfg0.N) (d) : (dats m 0 c).before 0 t d = iblk m c 0 t :=
  before0_0_of m (dats m 0 c) (arr_entry m c 0) (after_0 m c) t d
theorem before_1 (t : Fin cfg0.N) (d) : (dats m 0 c).before 1 t d = iblk m c 1 t :=
  before0_1_of m (dats m 0 c) (arr_entry m c 1) (after_1 m c) t d
theorem before_2 (t : Fin cfg0.N) (d) : (dats m 0 c).before 2 t d = iblk m c 2 t :=
  before0_2_of m (dats m 0 c) (arr_entry m c 2) (after_2 m c) t d
theorem before_3 (t : Fin cfg0.N) (d) : (dats m 0 c).before 3 t d = iblk m c 3 t :=
  before0_3_of m (dats m 0 c) (arr_entry m c 3) (after_3 m c) t d
theorem before_4 (t : Fin cfg0.N) (d) : (dats m 0 c).before 4 t d = iblk m c 4 t :=
  before0_4_of m (dats m 0 c) (arr_entry m c 4) (after_4 m c) t d
theorem before_5 (t : Fin cfg0.N) (d) : (dats m 0 c).before 5 t d = iblk m c 5 t :=
  before0_5_of m (dats m 0 c) (arr_entry m c 5) (after_5 m c) t d

/-- The query gradient's buffer where the query tile stays holds what the point before left. -/
theorem before_6 (t : Fin cfg0.N) (h : t.val % 4 ≠ 0) (d) :
    (dats m 0 c).before 6 t d = dqAt m c (t.val - 1) (Nat.lt_of_le_of_lt (Nat.sub_le _ _) t.isLt) := by
  have hf : (cfg0.win 6).flush ⟨t.val - 1, Nat.lt_of_le_of_lt (Nat.sub_le _ _) t.isLt⟩ ≠ true := fun hf => by
    have := (flush0_6 _).mp hf
    have h' : (t.val - 1) % 4 = 3 := this
    omega
  rw [(dats m 0 c).before_of_pos 6 t (fun hz => h (by rw [hz])) rfl d, if_neg hf]
  exact after_6 m c ⟨t.val - 1, Nat.lt_of_le_of_lt (Nat.sub_le _ _) t.isLt⟩

/-! ### The body's obligation -/

def pre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def post (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 6400000 in
/-- The body meets what is stated of it at every point. -/
theorem body_sound (t : Fin cfg0.N) :
    pre m c t ⊢ wp frame (wpE (defs₀ (F := Ideal)) Variants.none c none) Set.univ (bodyAt0 t) (fun _ => post m c t) := by
  unfold pre post bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = iprop(iprop(owns (c : Thread nD τ) scM fullShare (sums m c t)) ∗ (∃ r, prngReg c r)) from rfl, inv_at m c t]
  by_cases h0 : t.val % 4 = 0
  · rw [dqAt_first m c t h0]
    refine (sep_mono_left (inv_any m c _ _)).trans ?_
    rw [inv_eq]
    iintro ⟨⟨⟨%s, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hr := runA_read c (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM (Memref.isWhole_whole _) (iblk m c 0 t) (iblk m c 1 t) (iblk m c 2 t) (iblk m c 3 t) (iblk m c 4 t) (iblk m c 5 t) ((dats m 0 c).before 6 t d6) s t ((cond_iff t).mpr h0)
    iapply ((runA c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM (Memref.isWhole_whole _) ((cond_iff t).mpr h0) (iblk m c 0 t) (iblk m c 1 t) (iblk m c 2 t) (iblk m c 3 t) (iblk m c 4 t) (iblk m c 5 t) ((dats m 0 c).before 6 t d6) s).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, ⟨%e6, H6⟩, ⟨%e7, H7⟩, ⟨%e8, H8⟩, HS⟩
    isplitl [HS Hg]
    · isplitl [HS]
      · unfold owns; iexists _; isplitr
        swap; · iexact HS
        ipureintro; exact hr.1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact hr.2.1 _
    isplitl [H7]
    · unfold owns; iexists _; isplitr
      swap; · iexact H7
      ipureintro; exact hr.2.2.1 _
    unfold owns; iexists _; isplitr
    swap; · iexact H8
    ipureintro; exact hr.2.2.2 _
  · rw [dqAt_next m c t h0, inv_pos m c _ _ (fun hz => h0 (by rw [hz])), sums_prev m c t h0]
    simp only [before_6 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hr := runB_read c (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM (Memref.isWhole_whole _) (iblk m c 0 t) (iblk m c 1 t) (iblk m c 2 t) (iblk m c 3 t) (iblk m c 4 t) (iblk m c 5 t) (dqAt m c (t.val - 1) (Nat.lt_of_le_of_lt (Nat.sub_le _ _) t.isLt)) (sums m c t) t (fun h => h0 ((cond_iff t).mp h))
    iapply ((runB c (grid0.coords t) (st0_0 t) (hs0 t) (st0_1 t) (hs1 t) (st0_2 t) (hs2 t) (st0_3 t) (hs3 t) (st0_4 t) (hs4 t) (st0_5 t) (hs5 t) (st0_6 t) (hs6 t) (st0_7 t) (hs7 t) (st0_8 t) (hs8 t) scM (Memref.isWhole_whole _) (fun h => h0 ((cond_iff t).mp h)) (iblk m c 0 t) (iblk m c 1 t) (iblk m c 2 t) (iblk m c 3 t) (iblk m c 4 t) (iblk m c 5 t) (dqAt m c (t.val - 1) (Nat.lt_of_le_of_lt (Nat.sub_le _ _) t.isLt)) (sums m c t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hg]
    · isplitl [HS]
      · unfold owns; iexists _; isplitr
        swap; · iexact HS
        ipureintro; exact (Memref.isWhole_whole cc0_scratch0).read_unread _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact hr.1
    isplitl [H7]
    · unfold owns; iexists _; isplitr
      swap; · iexact H7
      ipureintro; exact hr.2.1 _
    unfold owns; iexists _; isplitr
    swap; · iexact H8
    ipureintro; exact hr.2.2 _

theorem row_eq (t : Fin cfg0.N) : defs₀ (F := Ideal) .tc cfg0.body (cfg0.bodyArgs t (cfg0.slots t)) = bodyAt0 t := by
  unfold defs₀; rw [Defs.onTc_tc]

theorem obligation : BodyObligation (dats m 0 c) (defs₀ (F := Ideal)) Variants.none () Set.univ := fun t => by
  rw [bigSep_W0, bigSep_W0, row_eq]
  exact triple_restated (body_sound m c t) rfl .rfl fun _ => .rfl

theorem enter : Pipeline.ΦA spec0 c ⊢ (dats m 0 c).Φ 0 := by
  rw [show (dats m 0 c).Φ 0 = inv m c 0 (Nat.zero_le _) from rfl, inv_zero m c 0 _ rfl]

theorem leave : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_any m c _ _

-- the launch theorem's implicit arguments are found in this statement through plain definitions
set_option backward.isDefEq.respectTransparency.types false in
/-- The run of the program: the arrays at what the pipeline's data say, every counter at zero. -/
theorem run_all : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arr_entry m) (hin := enter m) (hout := leave m)

end Cert.KernelIdeal.Attn

end
-- ==== Proof.Arrays.lean ====
module

public import proofs.«01_k».proof.Proof.Launch

/-! The gradients that the backward attention kernel leaves in its three arrays, as sums over all rows and keys. -/

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic
open Idealize.ShloMosaic.Pipeline (Dat Cfg Window)

/-- Column `d` of head `h`, in an array of heads of width 256. -/
def gcol (h : Fin 4) (d : Fin 256) : Fin 1024 := ⟨256 * h.val + d.val, by have := h.isLt; have := d.isLt; omega⟩

/-- Column `d` of head `h`, in an array of heads of width 128. -/
def gcolv (h : Fin 4) (d : Fin 128) : Fin 512 := ⟨128 * h.val + d.val, by have := h.isLt; have := d.isLt; omega⟩

/-- The head of a column. -/
def ghd (cc : Fin 1024) : Fin 4 := ⟨cc.val / 256, by have := cc.isLt; omega⟩
def ghdv (cc : Fin 512) : Fin 4 := ⟨cc.val / 128, by have := cc.isLt; omega⟩

section Spec

variable (Q K : Vec Ideal S4x2048x1024 .bf16) (W : Vec Ideal S4x2048x512 .bf16) (O G : Vec Ideal S4x2048x512 .f32)
  (L : Vec Ideal S4x4x2048x128 .f32)

/-- The masked score of a query row against a key. -/
def gsc (b h : Fin 4) (r s : Fin 2048) : EReal :=
  if s.val ≤ r.val then (∑ d : Fin 256, Q (ix3 b r (gcol h d)) * K (ix3 b s (gcol h d))) * scl else ⊥

/-- The product of the output's gradient with a value. -/
def gdp (b h : Fin 4) (r s : Fin 2048) : EReal := ∑ d : Fin 128, G (ix3 b r (gcolv h d)) * W (ix3 b s (gcolv h d))

/-- The product of the output's gradient with the output. -/
def gdo (b h : Fin 4) (r : Fin 2048) : EReal := ∑ d : Fin 128, G (ix3 b r (gcolv h d)) * O (ix3 b r (gcolv h d))

/-- The attention weight from the given logarithms. -/
def gpr (b h : Fin 4) (r s : Fin 2048) : EReal := Ideal.exp (gsc Q K b h r s - L (ix4 b h r 0))

/-- The gradient of a score before the scale, scaled. -/
def gds (b h : Fin 4) (r s : Fin 2048) : EReal :=
  gpr Q K L b h r s * (gdp W G b h r s - gdo O G b h r) * scl

/-- The gradient of a query entry: over every key. -/
def gdq (b : Fin 4) (r : Fin 2048) (cc : Fin 1024) : EReal := ∑ s : Fin 2048, gds Q K W O G L b (ghd cc) r s * K (ix3 b s cc)
/-- The gradient of a key entry: over every query row. -/
def gdk (b : Fin 4) (s : Fin 2048) (cc : Fin 1024) : EReal := ∑ r : Fin 2048, gds Q K W O G L b (ghd cc) r s * Q (ix3 b r cc)
/-- The gradient of a value entry: over every query row. -/
def gdv (b : Fin 4) (s : Fin 2048) (cc : Fin 512) : EReal := ∑ r : Fin 2048, gpr Q K L b (ghdv cc) r s * G (ix3 b r cc)

def dqArr : Vec Ideal S4x2048x1024 .f32 := fun i => gdq Q K W O G L (i 0) (i 1) (i 2)
def dkArr : Vec Ideal S4x2048x1024 .f32 := fun i => gdk Q K W O G L (i 0) (i 1) (i 2)
def dvArr : Vec Ideal S4x2048x512 .f32 := fun i => gdv Q K G L (i 0) (i 1) (i 2)

end Spec

variable (m : (ℓ : Loc nD τ sig) → Buf (Elt Ideal) ℓ) (c : Dev nD) (t : Fin cfg0.N)

theorem wide_col (h : Fin 2) (d : Fin 256) : wide t (col h d) = gcol (hdt t h) d :=
  Fin.ext (by simp only [wide, col, gcol, hdt]; omega)
theorem narrow_colv (h : Fin 2) (d : Fin 128) : narrow t (colv h d) = gcolv (hdt t h) d :=
  Fin.ext (by simp only [narrow, colv, gcolv, hdt]; omega)
theorem ghd_wide (cc : Fin 512) : ghd (wide t cc) = hdt t (hd cc) :=
  Fin.ext (by have := cc.isLt; simp only [ghd, wide, hd, hdt]; omega)
theorem ghdv_narrow (cc : Fin 256) : ghdv (narrow t cc) = hdt t (hdv cc) :=
  Fin.ext (by have := cc.isLt; simp only [ghdv, narrow, hdv, hdt]; omega)

theorem sc_at (h : Fin 2) (r : Fin 2048) (kk : Fin 512) :
    sc (iblk m c 0 t) (iblk m c 1 t) (3 - t.val % 4) h r kk
      = gsc (V m c main_arg0) (V m c main_arg1) (bt t) (hdt t h) r (krow t kk) := by
  unfold sc gsc
  have e : 512 * (3 - t.val % 4) + kk.val ≤ r.val ↔ (krow t kk).val ≤ r.val := by simp only [krow]; omega
  refine if_congr e ?_ rfl
  refine congrArg (· * scl) (Finset.sum_congr rfl fun d _ => ?_)
  rw [← wide_col]
  exact congrArg₂ (· * ·) (blk0 m c t r _) (blk1 m c t kk _)

theorem pr_at (h : Fin 2) (r : Fin 2048) (kk : Fin 512) :
    pr (iblk m c 0 t) (iblk m c 1 t) (iblk m c 4 t) (3 - t.val % 4) h r kk
      = gpr (V m c main_arg0) (V m c main_arg1) (V m c main_v24) (bt t) (hdt t h) r (krow t kk) := by
  unfold pr gpr
  rw [sc_at]
  exact congrArg (fun z : EReal => Ideal.exp (gsc (V m c main_arg0) (V m c main_arg1) (bt t) (hdt t h) r (krow t kk) - z)) (blk4 m c t h r 0)

theorem dp_at (h : Fin 2) (r : Fin 2048) (kk : Fin 512) (x5 : Vec Ideal S1x2048x256 .f32) (x2 : Vec Ideal S1x512x256 .bf16)
    (h5 : x5 = iblk m c 5 t) (h2 : x2 = iblk m c 2 t) :
    (∑ d : Fin 128, x5 (ix3 0 r (colv h d)) * x2 (ix3 0 kk (colv h d)))
      = gdp (V m c main_arg2) (V m c main_arg3) (bt t) (hdt t h) r (krow t kk) := by
  unfold gdp
  refine Finset.sum_congr rfl fun d _ => ?_
  rw [← narrow_colv, h5, h2]
  exact congrArg₂ (· * ·) (blk5 m c t r _) (blk2 m c t kk _)

theorem sums_at (h : Fin 2) (r : Fin 2048) :
    sums m c t (ix3 h r 0) = gdo (V m c main_v34) (V m c main_arg3) (bt t) (hdt t h) r := by
  refine (show sums m c t (ix3 h r 0) = rowSum (iblk m c 3 t) (iblk m c 5 t) h r from rfl).trans ?_
  unfold rowSum gdo
  refine Finset.sum_congr rfl fun d _ => ?_
  rw [← narrow_colv]
  exact congrArg₂ (· * ·) (blk5 m c t r _) (blk3 m c t r _)

theorem dsc_at (h : Fin 2) (r : Fin 2048) (kk : Fin 512) :
    dsc (iblk m c 0 t) (iblk m c 1 t) (iblk m c 2 t) (iblk m c 4 t) (iblk m c 5 t) (sums m c t) (3 - t.val % 4) h r kk
      = gds (V m c main_arg0) (V m c main_arg1) (V m c main_arg2) (V m c main_v34) (V m c main_arg3) (V m c main_v24)
          (bt t) (hdt t h) r (krow t kk) := by
  unfold dsc gds
  rw [pr_at, sums_at, dp_at m c t h r kk _ _ rfl rfl]

theorem dq_at (r : Fin 2048) (cc : Fin 512) :
    dqAdd (iblk m c 0 t) (iblk m c 1 t) (iblk m c 2 t) (iblk m c 4 t) (iblk m c 5 t) (sums m c t) (3 - t.val % 4) r cc
      = ∑ kk : Fin 512, gds (V m c main_arg0) (V m c main_arg1) (V m c main_arg2) (V m c main_v34) (V m c main_arg3) (V m c main_v24)
          (bt t) (ghd (wide t cc)) r (krow t kk) * V m c main_arg1 (ix3 (bt t) (krow t kk) (wide t cc)) := by
  unfold dqAdd
  refine Finset.sum_congr rfl fun kk _ => ?_
  rw [dsc_at, ghd_wide]
  exact congrArg (_ * ·) (blk1 m c t kk _)

theorem dk_at (kk cc : Fin 512) :
    dkTile (iblk m c 0 t) (iblk m c 1 t) (iblk m c 2 t) (iblk m c 4 t) (iblk m c 5 t) (sums m c t) (3 - t.val % 4) kk cc
      = gdk (V m c main_arg0) (V m c main_arg1) (V m c main_arg2) (V m c main_v34) (V m c main_arg3) (V m c main_v24)
          (bt t) (krow t kk) (wide t cc) := by
  unfold dkTile gdk
  refine Finset.sum_congr rfl fun r _ => ?_
  rw [dsc_at, ghd_wide]
  exact congrArg (_ * ·) (blk0 m c t r _)

theorem dv_at (kk : Fin 512) (cc : Fin 256) :
    dvTile (iblk m c 0 t) (iblk m c 1 t) (iblk m c 4 t) (iblk m c 5 t) (3 - t.val % 4) kk cc
      = gdv (V m c main_arg0) (V m c main_arg1) (V m c main_arg3) (V m c main_v24) (bt t) (krow t kk) (narrow t cc) := by
  unfold dvTile gdv
  refine Finset.sum_congr rfl fun r _ => ?_
  rw [pr_at, ghdv_narrow]
  exact congrArg (_ * ·) (blk5 m c t r _)

theorem dkv_at (y : S1x512x512.Idx) : dkVec (iblk m c 0 t) (iblk m c 1 t) (iblk m c 2 t) (iblk m c 4 t) (iblk m c 5 t) (sums m c t) (3 - t.val % 4) y
    = dkArr (V m c main_arg0) (V m c main_arg1) (V m c main_arg2) (V m c main_v34) (V m c main_arg3) (V m c main_v24) (ix3 (bt t) (krow t (y 1)) (wide t (y 2))) := dk_at m c t (y 1) (y 2)

theorem dk_final : (dats m 0 c).arrAt 7 cfg0.N
    = dkArr (V m c main_arg0) (V m c main_arg1) (V m c main_arg2) (V m c main_v34) (V m c main_arg3) (V m c main_v24) := by
  refine (dats m 0 c).arrAt_eq_of_covers 7 _ (by decide +kernel) fun t hf y => ?_
  blk_simp
  rw [after_7]
  refine (dkv_at m c t y).trans ?_
  blk_ext [idx7 t]

theorem dvv_at (y : S1x512x256.Idx) : dvVec (iblk m c 0 t) (iblk m c 1 t) (iblk m c 4 t) (iblk m c 5 t) (3 - t.val % 4) y
    = dvArr (V m c main_arg0) (V m c main_arg1) (V m c main_arg3) (V m c main_v24) (ix3 (bt t) (krow t (y 1)) (narrow t (y 2))) := dv_at m c t (y 1) (y 2)

theorem dv_final : (dats m 0 c).arrAt 8 cfg0.N
    = dvArr (V m c main_arg0) (V m c main_arg1) (V m c main_arg3) (V m c main_v24) := by
  refine (dats m 0 c).arrAt_eq_of_covers 8 _ (by decide +kernel) fun t hf y => ?_
  blk_simp
  rw [after_8]
  refine (dvv_at m c t y).trans ?_
  blk_ext [idx8 t]

/-- A key tile's part of a query gradient: the keys of block `3 - t % 4`. -/
theorem dq_blk (r : Fin 2048) (cc : Fin 512) (u : Fin cfg0.N) (n : ℕ) (hn : 3 - u.val % 4 = n)
    (h0 : t.val - 3 ≤ u.val) (h1 : u.val ≤ t.val) (ht : t.val % 4 = 3) :
    dqAdd (iblk m c 0 u) (iblk m c 1 u) (iblk m c 2 u) (iblk m c 4 u) (iblk m c 5 u) (sums m c u) (3 - u.val % 4) r cc
      = blk (fun s => gds (V m c main_arg0) (V m c main_arg1) (V m c main_arg2) (V m c main_v34) (V m c main_arg3) (V m c main_v24)
          (bt t) (ghd (wide t cc)) r s * V m c main_arg1 (ix3 (bt t) s (wide t cc))) n := by
  have hb : bt u = bt t := Fin.ext (by show u.val / 8 = t.val / 8; omega)
  have hw : wide u cc = wide t cc := Fin.ext (by show u.val / 4 % 2 * 512 + cc.val = t.val / 4 % 2 * 512 + cc.val; omega)
  subst hn
  rw [dq_at, blk, dif_pos (by omega), hb, hw]
  refine Finset.sum_congr rfl fun kk _ => ?_
  have e : krow u kk = row (3 - u.val % 4) (by omega) kk := Fin.ext (by simp only [krow, row]; omega)
  rw [e]

theorem dq_last (ht : t.val % 4 = 3) (r : Fin 2048) (cc : Fin 512) :
    dqAt m c t.val t.isLt (ix3 0 r cc)
      = gdq (V m c main_arg0) (V m c main_arg1) (V m c main_arg2) (V m c main_v34) (V m c main_arg3) (V m c main_v24)
          (bt t) r (wide t cc) := by
  have hN : t.val < cfg0.N := t.isLt
  have step (u : Fin cfg0.N) (y) : grow m c u y (ix3 0 r cc) = y (ix3 0 r cc)
      + dqAdd (iblk m c 0 u) (iblk m c 1 u) (iblk m c 2 u) (iblk m c 4 u) (iblk m c 5 u) (sums m c u) (3 - u.val % 4) r cc := rfl
  rw [dqAt_next m c t (by omega), dqAt_next m c ⟨t.val - 1, by omega⟩ (by show (t.val - 1) % 4 ≠ 0; omega),
    dqAt_next m c ⟨t.val - 1 - 1, by omega⟩ (by show (t.val - 1 - 1) % 4 ≠ 0; omega),
    dqAt_first m c ⟨t.val - 1 - 1 - 1, by omega⟩ (by show (t.val - 1 - 1 - 1) % 4 = 0; omega), step, step, step, step,
    dq_blk m c t r cc t 0 (by omega) (by omega) (by omega) ht,
    dq_blk m c t r cc ⟨t.val - 1, by omega⟩ 1 (by show 3 - (t.val - 1) % 4 = 1; omega) (by show t.val - 3 ≤ t.val - 1; omega) (by show t.val - 1 ≤ t.val; omega) ht,
    dq_blk m c t r cc ⟨t.val - 1 - 1, by omega⟩ 2 (by show 3 - (t.val - 1 - 1) % 4 = 2; omega) (by show t.val - 3 ≤ t.val - 1 - 1; omega) (by show t.val - 1 - 1 ≤ t.val; omega) ht,
    dq_blk m c t r cc ⟨t.val - 1 - 1 - 1, by omega⟩ 3 (by show 3 - (t.val - 1 - 1 - 1) % 4 = 3; omega) (by show t.val - 3 ≤ t.val - 1 - 1 - 1; omega) (by show t.val - 1 - 1 - 1 ≤ t.val; omega) ht]
  unfold gdq
  rw [sum_rows]
  simp only [Finset.sum_range_succ, Finset.sum_range_zero]
  show (0 : EReal) + _ + _ + _ + _ = _
  simp only [zero_add]
  abel

theorem dqv_at (ht : t.val % 4 = 3) (y : S1x2048x512.Idx) : dqAt m c t.val t.isLt y
    = dqArr (V m c main_arg0) (V m c main_arg1) (V m c main_arg2) (V m c main_v34) (V m c main_arg3) (V m c main_v24) (ix3 (bt t) (y 1) (wide t (y 2))) := by
  have hy : y = ix3 0 (y 1) (y 2) := by
    funext u; fin_cases u
    · exact Subsingleton.elim (α := Fin 1) _ _
    · rfl
    · rfl
  exact (congrArg _ hy).trans (dq_last m c t ht (y 1) (y 2))

theorem dq_final : (dats m 0 c).arrAt 6 cfg0.N
    = dqArr (V m c main_arg0) (V m c main_arg1) (V m c main_arg2) (V m c main_v34) (V m c main_arg3) (V m c main_v24) := by
  refine (dats m 0 c).arrAt_eq_of_covers 6 _ (by decide +kernel) fun t hf y => ?_
  blk_simp
  rw [after_6]
  refine (dqv_at m c t ((flush0_6 t).mp hf) y).trans ?_
  blk_ext [idx6 t]

end Cert.KernelIdeal.Attn

end
-- ==== Proof.Host.lean ====
module

public import proofs.«01_k».proof.Proof.Arrays
public import Idealize.ShloMosaic.Lib.Claim
public import Idealize.ShloMosaic.Lib.Pointwise
public import Idealize.ShloMosaic.Lib.WordCmp
public import Idealize.ShloMosaic.Lib.Tactic.CleanTypes

/-! What the host hands the backward attention kernel: the output of the attention and the logarithm of every row's sum. -/

@[expose] public section

set_option maxRecDepth 65536

noncomputable section

namespace Cert.KernelIdeal.Attn

open Cert.KernelIdeal Cert.KernelIdeal.Gen
open Idealize.ShloMosaic Idealize.ShloMosaic.TcCoe Idealize.ShloMosaic.Tactic

section Host

variable (Q K : Vec Ideal S4x2048x1024 .bf16) (W : Vec Ideal S4x2048x512 .bf16)

/-- The masked scores. -/
def hostS : FVec Ideal S4x4x2048x2048 .f32 :=
  select (broadcastInDim S4x4x2048x2048 ![2, 3] bcast_S2048x2048_S4x4x2048x2048_2_3
      (cmpi .sge
        (broadcastInDim S2048x2048 ![0, 1] bcast_S2048x1_S2048x2048_0_1 (broadcastInDim S2048x1 ![0] bcast_S2048_S2048x1_0 (iotaInDim S2048 32 0)))
        (broadcastInDim S2048x2048 ![0, 1] bcast_S1x2048_S2048x2048_0_1 (broadcastInDim S1x2048 ![1] bcast_S2048_S1x2048_1 (iotaInDim S2048 32 0)))))
    (mulf (Host.dotGeneral (F := Ideal) (φ₁ := .f32) (φ₂ := .f32) dot_S4x2048x4x256_S4x2048x4x256_S4x4x2048x2048_3_3_1_1_02_02 none
        (shapeCast S4x2048x4x256 (extf .f32 Q bitsLt_bf16_f32 : FVec Ideal S4x2048x1024 .f32) shapeCasts_S4x2048x1024_S4x2048x4x256)
        (shapeCast S4x2048x4x256 (extf .f32 K bitsLt_bf16_f32 : FVec Ideal S4x2048x1024 .f32) shapeCasts_S4x2048x1024_S4x2048x4x256))
      (broadcastInDim S4x4x2048x2048 ![] bcast_S_S4x4x2048x2048 (constant S_ .f32 0x3D93CD3A#32)))
    (broadcastInDim S4x4x2048x2048 ![] bcast_S_S4x4x2048x2048 (constant S_ .f32 0xFF800000#32))

/-- Every row's largest score. -/
def hostM : FVec Ideal S4x4x2048 .f32 :=
  Host.reduce FloatOps.maximumf (hostS Q K) (constant S_ .f32 0xFF800000#32) reducesTo_S4x4x2048x2048_S4x4x2048_d3 h_S_

/-- The exponentials of the scores less the row's largest. -/
def hostE : FVec Ideal S4x4x2048x2048 .f32 :=
  Host.exp (subf (hostS Q K) (broadcastInDim S4x4x2048x2048 ![0, 1, 2, 3] bcast_S4x4x2048x1_S4x4x2048x2048_0_1_2_3
    (broadcastInDim S4x4x2048x1 ![0, 1, 2] bcast_S4x4x2048_S4x4x2048x1_0_1_2 (hostM Q K))))

/-- Their sum over a row. -/
def hostL : FVec Ideal S4x4x2048 .f32 :=
  Host.reduceAdd (hostE Q K) (constant S_ .f32 0x00000000#32) reducesTo_S4x4x2048x2048_S4x4x2048_d3 h_S_

/-- The logarithms of the rows' sums, along the lanes. -/
def hostLse : FVec Ideal S4x4x2048x128 .f32 :=
  broadcastInDim S4x4x2048x128 ![0, 1, 2, 3] bcast_S4x4x2048x1_S4x4x2048x128_0_1_2_3
    (addf (broadcastInDim S4x4x2048x1 ![0, 1, 2] bcast_S4x4x2048_S4x4x2048x1_0_1_2 (hostM Q K))
      (Host.log (broadcastInDim S4x4x2048x1 ![0, 1, 2] bcast_S4x4x2048_S4x4x2048x1_0_1_2 (hostL Q K))))

/-- The attention's output. -/
def hostO : FVec Ideal S4x2048x512 .f32 :=
  shapeCast S4x2048x512 (transpose S4x2048x4x128 [0, 3, 1, 2]
    (Host.dotGeneral (F := Ideal) (φ₁ := .f32) (φ₂ := .f32) dot_S4x2048x4x128_S4x4x2048x2048_S4x4x128x2048_1_3_3_2_02_01 none
      (shapeCast S4x2048x4x128 (extf .f32 W bitsLt_bf16_f32 : FVec Ideal S4x2048x512 .f32) shapeCasts_S4x2048x512_S4x2048x4x128)
      (Host.divf (hostE Q K) (broadcastInDim S4x4x2048x2048 ![0, 1, 2, 3] bcast_S4x4x2048x1_S4x4x2048x2048_0_1_2_3
        (broadcastInDim S4x4x2048x1 ![0, 1, 2] bcast_S4x4x2048_S4x4x2048x1_0_1_2 (hostL Q K)))))
    transposes_S4x4x128x2048_S4x2048x4x128_0_3_1_2) shapeCasts_S4x2048x4x128_S4x2048x512

theorem hostS_at (b h : Fin 4) (r s : Fin 2048) : hostS Q K (ix4 b h r s) = gsc Q K b h r s := by
  pointwise [hostS]
  have e : (IntOp.cmpi .sge (BitVec.ofNat 32 r.val) (BitVec.ofNat 32 s.val) = 1#1) ↔ s.val ≤ r.val := by
    have hr := r.isLt
    have hs := s.isLt
    word_cmp
  have g (x : Fin 256) (hx : h.val * 256 + x.val < 1024) : (⟨h.val * 256 + x.val, hx⟩ : Fin 1024) = gcol h x :=
    Fin.ext (by simp only [gcol]; omega)
  refine (show _ = if s.val ≤ r.val then _ else (⊥ : EReal) from if_congr e rfl rfl).trans ?_
  refine (if_congr Iff.rfl ?_ rfl : _ = gsc Q K b h r s)
  exact congrArg (· * scl) (Finset.sum_congr rfl fun x _ => by rw [g x])

theorem hostM_at (b h : Fin 4) (r : Fin 2048) : hostM Q K (ix3 b h r) = Finset.univ.fold max ⊥ (fun s => gsc Q K b h r s) := by
  pointwise [hostM]
  rw [show Ideal.ofBits .f32 0xFF800000#32 = ⊥ from rfl]
  simp only [hostS_at]

theorem hostE_at (b h : Fin 4) (r s : Fin 2048) : hostE Q K (ix4 b h r s) = Ideal.exp (gsc Q K b h r s - hostM Q K (ix3 b h r)) := by
  pointwise [hostE]
  rw [hostS_at]

theorem hostL_at (b h : Fin 4) (r : Fin 2048) : hostL Q K (ix3 b h r) = ∑ s, hostE Q K (ix4 b h r s) := by
  pointwise [hostL]

/-- The logarithm of a row's sum from its largest score and its sum of exponentials, at an index. -/
theorem lse_at (M L : FVec Ideal S4x4x2048 .f32) (b h : Fin 4) (r : Fin 2048) (l : Fin 128) :
    broadcastInDim S4x4x2048x128 ![0, 1, 2, 3] bcast_S4x4x2048x1_S4x4x2048x128_0_1_2_3
      (addf (broadcastInDim S4x4x2048x1 ![0, 1, 2] bcast_S4x4x2048_S4x4x2048x1_0_1_2 M)
        (Host.log (broadcastInDim S4x4x2048x1 ![0, 1, 2] bcast_S4x4x2048_S4x4x2048x1_0_1_2 L))) (ix4 b h r l)
      = M (ix3 b h r) + Ideal.log (L (ix3 b h r)) := by
  have e : ∀ x : FVec Ideal S4x4x2048x1 .f32, ∀ i, Host.log x i = Ideal.log (x i) := fun _ _ => rfl
  pointwise [e]

theorem hostLse_at (b h : Fin 4) (r : Fin 2048) (l : Fin 128) : hostLse Q K (ix4 b h r l) = hostM Q K (ix3 b h r) + Ideal.log (hostL Q K (ix3 b h r)) := by
  exact lse_at _ _ b h r l

theorem hostO_at (b h : Fin 4) (r : Fin 2048) (d : Fin 128) : hostO Q K W (ix3 b r (gcolv h d))
    = ∑ s : Fin 2048, W (ix3 b s (gcolv h d)) * Ideal.div (hostE Q K (ix4 b h r s)) (hostL Q K (ix3 b h r)) := by
  pointwise [hostO]
  refine Finset.sum_congr rfl fun s _ => ?_
  rw [show (⟨(gcolv h d).val / 128, by have := (gcolv h d).isLt; omega⟩ : Fin 4) = h from Fin.ext (by
    have := d.isLt
    show (128 * h.val + d.val) / 128 = h.val
    omega)]

end Host

variable (m : (ℓ : Loc nD τ sig) → Buf (Elt Ideal) ℓ) (c : Dev nD)

set_option maxHeartbeats 4000000 in
/-- The logarithms the kernel is handed. -/
theorem V_main_v24 : V m c main_v24 = hostLse (m (c, Proc.tc.devRef main_arg0)) (m (c, Proc.tc.devRef main_arg1)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

set_option maxHeartbeats 4000000 in
/-- The output the kernel is handed. -/
theorem V_main_v34 : V m c main_v34
    = hostO (m (c, Proc.tc.devRef main_arg0)) (m (c, Proc.tc.devRef main_arg1)) (m (c, Proc.tc.devRef main_arg2)) := by
  unfold V
  simp only [hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

end Cert.KernelIdeal.Attn

end
-- ==== Proof.Ref.lean ====
module

public import proofs.«01_k».proof.Proof.Host
public import proofs.«01_k».proof.Proof.Gen.ReferenceIdeal.Read
public import Idealize.ShloMosaic.Lib.IdealHost

/-! The gradient of the plain attention, read at an index in the terms of the kernel's. -/

@[expose] public section

set_option maxRecDepth 65536

noncomputable section

namespace Cert.KernelIdeal.Attn

open Cert.KernelIdeal Cert.KernelIdeal.Gen Cert.ReferenceIdeal.Read
open Idealize.ShloMosaic Idealize.ShloMosaic.TcCoe Idealize.ShloMosaic.Tactic

section Ref

variable (Q K : Vec Ideal S4x2048x1024 .bf16) (W : Vec Ideal S4x2048x512 .bf16) (G : Vec Ideal S4x2048x512 .f32)

theorem refS : val_main_v15_0 (F := Ideal) Q K = hostS Q K := rfl

theorem refM : val_main_v16 (F := Ideal) Q K = hostM Q K := rfl

theorem max_low (x : FVec Ideal S4x4x2048 .f32) : maximumf (val_main_v22 (F := Ideal)) x = x := by
  funext i
  refine (show _ = max (⊥ : EReal) (x i) from ?_).trans (max_eq_right bot_le)
  idx_vars i
  pointwise [val_main_v22, val_main_cst_3]
  rw [show Ideal.ofBits .f32 0xFF800000#32 = ⊥ from rfl]

theorem refM' : val_main_v23 (F := Ideal) Q K = hostM Q K := by
  unfold val_main_v23
  rw [refM]
  exact max_low _

theorem refE : val_main_v36 (F := Ideal) Q K = hostE Q K := by
  unfold val_main_v36 val_main_v35 val_main_v34 val_main_v33
  rw [refM']
  rfl

theorem refL : val_main_v37 (F := Ideal) Q K = hostL Q K := by
  unfold val_main_v37
  rw [refE]
  rfl

theorem refL_at (b h : Fin 4) (r : Fin 2048) : val_main_v38 (F := Ideal) Q K (ix4 b h r 0) = hostL Q K (ix3 b h r) := by
  unfold val_main_v38
  rw [refL]
  pointwise

/-- The softmax. -/
theorem refP_at (b h : Fin 4) (r s : Fin 2048) :
    val_main_v40 (F := Ideal) Q K (ix4 b h r s) = Ideal.div (hostE Q K (ix4 b h r s)) (hostL Q K (ix3 b h r)) := by
  unfold val_main_v40 val_main_v39 val_main_v38
  rw [refE, refL]
  pointwise

theorem refDp_at (b h : Fin 4) (r s : Fin 2048) : val_main_v50 (F := Ideal) W G (ix4 b h r s) = gdp W G b h r s := by
  pointwise [val_main_v50, val_main_v49, val_main_v48, val_main_v44, val_main_v2]
  have g (x : Fin 128) (hx : h.val * 128 + x.val < 512) : (⟨h.val * 128 + x.val, hx⟩ : Fin 512) = gcolv h x :=
    Fin.ext (by simp only [gcolv]; omega)
  exact Finset.sum_congr rfl fun x _ => by rw [g x]

/-- The gradient of the values. -/
theorem refDv_at (b : Fin 4) (s : Fin 2048) (cc : Fin 512) : val_main_v53 (F := Ideal) Q K G (ix3 b s cc)
    = ∑ r, G (ix3 b r cc) * val_main_v40 (F := Ideal) Q K (ix4 b (ghdv cc) r s) := by
  pointwise [val_main_v53, val_main_v52, val_main_v51, val_main_v49, val_main_v48]
  rfl

theorem refInv_at (b h : Fin 4) (r : Fin 2048) : val_main_v43 (F := Ideal) Q K (ix4 b h r 0)
    = Ideal.div 1 (hostL Q K (ix3 b h r) * hostL Q K (ix3 b h r)) := by
  pointwise [val_main_v43, val_main_v42, val_main_v41, val_main_cst_10]
  rw [refL_at]

/-- What the division by the row's sum sends back. -/
theorem refBack_at (b h : Fin 4) (r : Fin 2048) : val_main_v57 (F := Ideal) Q K W G (ix3 b h r)
    = ∑ s, gdp W G b h r s * Ideal.div 1 (hostL Q K (ix3 b h r) * hostL Q K (ix3 b h r)) * hostE Q K (ix4 b h r s) := by
  pointwise [val_main_v57, val_main_v56, val_main_v55, val_main_v54, val_main_cst_11]
  exact Finset.sum_congr rfl fun s _ => by rw [refDp_at, refInv_at, refE]

theorem refNeg_at (b h : Fin 4) (r : Fin 2048) : val_main_v62 (F := Ideal) Q K W G (ix3 b h r)
    = -val_main_v57 (F := Ideal) Q K W G (ix3 b h r) := by
  pointwise [val_main_v62, val_main_v59, val_main_v58, val_main_cst_12]
  exact Fin.sum_univ_one _

theorem refE'_at (b h : Fin 4) (r s : Fin 2048) : val_main_v65 (F := Ideal) Q K W G (ix4 b h r s)
    = (Ideal.div (gdp W G b h r s) (hostL Q K (ix3 b h r)) + -val_main_v57 (F := Ideal) Q K W G (ix3 b h r)) * hostE Q K (ix4 b h r s) := by
  pointwise [val_main_v65, val_main_v64, val_main_v63, val_main_v61, val_main_v60]
  rw [refE, refL_at, refNeg_at, refDp_at]

/-- The gradient of a masked score, scaled. -/
theorem refDs_at (b h : Fin 4) (r s : Fin 2048) : val_main_v68 (F := Ideal) Q K W G (ix4 b h r s)
    = (if s.val ≤ r.val then val_main_v65 (F := Ideal) Q K W G (ix4 b h r s) else 0) * scl := by
  pointwise [val_main_v68, val_main_v67, val_main_cst_13, val_main_v66, val_main_call1_v0, val_main_call1_cst, val_main_v15_1, val_main_v14,
    val_main_v13, val_main_v12, val_main_v11, val_main_v10, val_main_v9, val_main_v8]
  have e : (IntOp.cmpi .sge (BitVec.ofNat 32 r.val) (BitVec.ofNat 32 s.val) = 1#1) ↔ s.val ≤ r.val := by
    have hr := r.isLt
    have hs := s.isLt
    word_cmp
  refine (if_congr e rfl rfl : _ = if s.val ≤ r.val then val_main_v65 (F := Ideal) Q K W G (ix4 b h r s) * scl else 0).trans ?_
  by_cases hm : s.val ≤ r.val
  · rw [if_pos hm, if_pos hm]
  · rw [if_neg hm, if_neg hm, zero_mul]

theorem refDq_at (b : Fin 4) (r : Fin 2048) (cc : Fin 1024) : val_main_v74 (F := Ideal) Q K W G (ix3 b r cc)
    = ∑ s, val_main_v68 (F := Ideal) Q K W G (ix4 b (ghd cc) r s) * K (ix3 b s cc) := by
  pointwise [val_main_v74, val_main_v72, val_main_v71, val_main_v4, val_main_v1]
  rfl

theorem refDk_at (b : Fin 4) (s : Fin 2048) (cc : Fin 1024) : val_main_v73 (F := Ideal) Q K W G (ix3 b s cc)
    = ∑ r, val_main_v68 (F := Ideal) Q K W G (ix4 b (ghd cc) r s) * Q (ix3 b r cc) := by
  pointwise [val_main_v73, val_main_v70, val_main_v69, val_main_v3, val_main_v0]
  rfl

end Ref

end Cert.KernelIdeal.Attn

end
-- ==== Proof.Real.lean ====
module

public import Idealize.ShloMosaic.PureOps.Ideal.Laws
public import Mathlib.Analysis.SpecialFunctions.Log.Basic

/-! One row of the attention's gradient over the reals: the logarithm of the row's sum recovers the softmax, and the product of the output's gradient with the output is what the division by the row's sum sends back. -/

@[expose] public section

noncomputable section

namespace Cert.Attn

open Idealize.ShloMosaic

theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

theorem div_reals (a b : ℝ) (h : b ≠ 0) : Ideal.div (a : EReal) (b : EReal) = ((a / b : ℝ) : EReal) := by
  rw [Ideal.div_coe h, ← EReal.coe_mul, mul_one_div]

section Row

variable {ι : Type} [Fintype ι] (mk : ι → Prop) [DecidablePred mk] (σ : ι → ℝ)

/-- The masked scores of a row. -/
def sc (k : ι) : EReal := if mk k then (σ k : EReal) else ⊥

/-- The largest of them. -/
def mx : EReal := Finset.univ.fold max ⊥ (sc mk σ)

theorem mx_real (k0 : ι) (h0 : mk k0) : ∃ μ : ℝ, mx mk σ = μ := by
  have hb : ⊥ < mx mk σ := lt_of_lt_of_le (EReal.bot_lt_coe (σ k0)) ((Finset.le_fold_max _).mpr (Or.inr ⟨k0, Finset.mem_univ _, by
    rw [sc, if_pos h0]⟩))
  have ht : mx mk σ < ⊤ := (Finset.fold_max_lt _).mpr ⟨bot_lt_top, fun k _ => by
    unfold sc
    split
    · exact EReal.coe_lt_top _
    · exact bot_lt_top⟩
  exact ⟨(mx mk σ).toReal, (EReal.coe_toReal ht.ne hb.ne').symm⟩

/-- A score's exponential, less a shift. -/
def ex (μ : ℝ) (k : ι) : ℝ := if mk k then Real.exp (σ k - μ) else 0

theorem exp_sc (μ : ℝ) (k : ι) : Ideal.exp (sc mk σ k - (μ : EReal)) = (ex mk σ μ k : EReal) := by
  unfold sc ex
  split
  · rw [← EReal.coe_sub, Ideal.exp_coe]
  · rw [EReal.bot_sub, Ideal.exp_bot, EReal.coe_zero]

theorem ex_nonneg (μ : ℝ) (k : ι) : 0 ≤ ex mk σ μ k := by
  unfold ex
  split
  · exact (Real.exp_pos _).le
  · exact le_rfl

theorem sum_pos (k0 : ι) (h0 : mk k0) (μ : ℝ) : 0 < ∑ k, ex mk σ μ k :=
  Finset.sum_pos' (fun k _ => ex_nonneg mk σ μ k) ⟨k0, Finset.mem_univ _, by
    rw [ex, if_pos h0]
    exact Real.exp_pos _⟩

/-- The weight from the logarithm is the exponential over the row's sum. -/
theorem exp_log (μ lam : ℝ) (hl : 0 < lam) (k : ι) :
    Ideal.exp (sc mk σ k - ((μ : EReal) + Ideal.log (lam : EReal))) = ((ex mk σ μ k / lam : ℝ) : EReal) := by
  rw [Ideal.log_coe, if_neg (not_le.mpr hl), ← EReal.coe_add, exp_sc]
  congr 1
  unfold ex
  split
  · rw [← sub_sub, Real.exp_sub, Real.exp_log hl]
  · rw [zero_div]

variable (k0 : ι) (h0 : mk k0) (E : ι → EReal) (M L : EReal)
  (hM : M = mx mk σ) (hE : ∀ k, E k = Ideal.exp (sc mk σ k - M)) (hL : L = ∑ k, E k)
include h0 hM hE hL

theorem row_reals : ∃ (μ lam : ℝ), 0 < lam ∧ lam = ∑ k, ex mk σ μ k ∧ M = μ ∧ L = lam ∧ ∀ k, E k = (ex mk σ μ k : EReal) := by
  obtain ⟨μ, hμ⟩ := mx_real mk σ k0 h0
  have hMμ : M = μ := hM.trans hμ
  have hEμ : ∀ k, E k = (ex mk σ μ k : EReal) := fun k => by rw [hE, hMμ, exp_sc]
  refine ⟨μ, _, sum_pos mk σ k0 h0 μ, rfl, hMμ, ?_, hEμ⟩
  rw [hL, ← coe_sum]
  exact Finset.sum_congr rfl fun k _ => hEμ k

/-- The weight the kernel forms is the softmax. -/
theorem weight_eq (k : ι) : Ideal.exp (sc mk σ k - (M + Ideal.log L)) = Ideal.div (E k) L := by
  obtain ⟨μ, lam, hl, -, rfl, rfl, he⟩ := row_reals mk σ k0 h0 E M L hM hE hL
  rw [exp_log mk σ μ lam hl, he, div_reals _ _ hl.ne']

/-- The gradient of a score. -/
theorem score_eq {δ : Type} [Fintype δ] (g : δ → ℝ) (v : ι → δ → ℝ) (k : ι) :
    Ideal.exp (sc mk σ k - (M + Ideal.log L))
        * ((∑ d, (g d : EReal) * (v k d : EReal)) - ∑ d, (g d : EReal) * ∑ j, (v j d : EReal) * Ideal.div (E j) L)
      = if mk k then (Ideal.div (∑ d, (g d : EReal) * (v k d : EReal)) L
          + -∑ j, (∑ d, (g d : EReal) * (v j d : EReal)) * Ideal.div 1 (L * L) * E j) * E k else 0 := by
  obtain ⟨μ, lam, hl, hs, rfl, rfl, he⟩ := row_reals mk σ k0 h0 E M L hM hE hL
  have hne := hl.ne'
  have h1 : Ideal.div 1 ((lam : EReal) * (lam : EReal)) = ((1 / (lam * lam) : ℝ) : EReal) := by
    rw [← EReal.coe_mul, ← EReal.coe_one, div_reals _ _ (mul_ne_zero hne hne)]
  rw [exp_log mk σ μ lam hl, h1]
  simp only [he, div_reals _ _ hne, ← EReal.coe_mul, coe_sum, ← EReal.coe_sub, ← EReal.coe_neg, ← EReal.coe_add]
  have key : ∑ d, g d * ∑ j, v j d * (ex mk σ μ j / lam) = (∑ j, (∑ d, g d * v j d) * (1 / (lam * lam)) * ex mk σ μ j) * lam := by
    rw [Finset.sum_mul]
    simp only [Finset.mul_sum, Finset.sum_mul]
    rw [Finset.sum_comm]
    refine Finset.sum_congr rfl fun j _ => Finset.sum_congr rfl fun d _ => ?_
    field_simp
  rw [key]
  split
  · congr 1
    field_simp
    ring
  · rename_i hk
    rw [ex, if_neg hk, zero_div, zero_mul, EReal.coe_zero]

end Row

end Cert.Attn

end
-- ==== Proof.Equal.lean ====
module

public import proofs.«01_k».proof.Proof.Ref
public import proofs.«01_k».proof.Proof.Real

/-! On real arguments the arrays the kernel leaves are the gradients of the plain attention. -/

@[expose] public section

set_option maxRecDepth 65536

noncomputable section

namespace Cert.KernelIdeal.Attn

open Cert.KernelIdeal Cert.KernelIdeal.Gen Cert.ReferenceIdeal.Read
open Idealize.ShloMosaic Idealize.ShloMosaic.TcCoe Idealize.ShloMosaic.Tactic

theorem scl_real : ∃ y : ℝ, scl = (y : EReal) := by
  unfold scl
  simp [Ideal.ofBits, Ideal.ieee, -EReal.coe_mul]

section Equal

variable (Q K : Vec Ideal S4x2048x1024 .bf16) (W : Vec Ideal S4x2048x512 .bf16) (G : Vec Ideal S4x2048x512 .f32)
  (hQ : ∀ i, ∃ y : ℝ, Q i = (y : EReal)) (hK : ∀ i, ∃ y : ℝ, K i = (y : EReal))

include hQ hK

/-- A row's scores are reals at the keys up to the row and −∞ at the others. -/
theorem score_real (b h : Fin 4) (r : Fin 2048) :
    ∃ σ : Fin 2048 → ℝ, ∀ s, gsc Q K b h r s = Cert.Attn.sc (fun s : Fin 2048 => s.val ≤ r.val) σ s := by
  choose q hq using hQ
  choose k hk using hK
  obtain ⟨y, hy⟩ := scl_real
  refine ⟨fun s => (∑ d : Fin 256, q (ix3 b r (gcol h d)) * k (ix3 b s (gcol h d))) * y, fun s => ?_⟩
  unfold gsc Cert.Attn.sc
  refine if_congr Iff.rfl ?_ rfl
  rw [hy, EReal.coe_mul, ← Cert.Attn.coe_sum]
  refine congrArg (· * (y : EReal)) (Finset.sum_congr rfl fun d _ => ?_)
  rw [hq, hk, EReal.coe_mul]

/-- The weight the kernel forms is the softmax. -/
theorem weight (b h : Fin 4) (r s : Fin 2048) :
    gpr Q K (hostLse Q K) b h r s = Ideal.div (hostE Q K (ix4 b h r s)) (hostL Q K (ix3 b h r)) := by
  obtain ⟨σ, hσ⟩ := score_real Q K hQ hK b h r
  have hM : hostM Q K (ix3 b h r) = Cert.Attn.mx (fun s : Fin 2048 => s.val ≤ r.val) σ := by
    rw [hostM_at, funext hσ]
    rfl
  unfold gpr
  rw [hostLse_at, hσ]
  exact Cert.Attn.weight_eq (fun s : Fin 2048 => s.val ≤ r.val) σ r le_rfl (fun s => hostE Q K (ix4 b h r s)) _ _ hM
    (fun s => by rw [hostE_at, hσ]) (hostL_at Q K b h r) s

/-- The gradient of the values. -/
theorem dv_eq : dvArr Q K G (hostLse Q K) = val_main_v53 (F := Ideal) Q K G := by
  suffices e : ∀ b s cc, gdv Q K G (hostLse Q K) b s cc = val_main_v53 (F := Ideal) Q K G (ix3 b s cc) by
    funext i
    idx_vars i
    exact e _ _ _
  intro b s cc
  rw [refDv_at]
  unfold gdv
  refine Finset.sum_congr rfl fun r _ => ?_
  rw [weight Q K hQ hK, refP_at, mul_comm]

variable (hW : ∀ i, ∃ y : ℝ, W i = (y : EReal)) (hG : ∀ i, ∃ y : ℝ, G i = (y : EReal))

include hW hG

/-- The gradient of a score. -/
theorem dscore (b h : Fin 4) (r s : Fin 2048) :
    gds Q K W (hostO Q K W) G (hostLse Q K) b h r s = val_main_v68 (F := Ideal) Q K W G (ix4 b h r s) := by
  obtain ⟨σ, hσ⟩ := score_real Q K hQ hK b h r
  have hM : hostM Q K (ix3 b h r) = Cert.Attn.mx (fun s : Fin 2048 => s.val ≤ r.val) σ := by
    rw [hostM_at, funext hσ]
    rfl
  choose w hw using hW
  choose g hg using hG
  rw [refDs_at, refE'_at, refBack_at]
  unfold gds gpr gdo
  refine congrArg (· * scl) ?_
  rw [hostLse_at, hσ]
  have hdp (s' : Fin 2048) : gdp W G b h r s'
      = ∑ d : Fin 128, ((g (ix3 b r (gcolv h d)) : ℝ) : EReal) * ((w (ix3 b s' (gcolv h d)) : ℝ) : EReal) := by
    unfold gdp
    exact Finset.sum_congr rfl fun d _ => by rw [hg, hw]
  have hdo : (∑ d : Fin 128, G (ix3 b r (gcolv h d)) * hostO Q K W (ix3 b r (gcolv h d)))
      = ∑ d : Fin 128, ((g (ix3 b r (gcolv h d)) : ℝ) : EReal) * ∑ j : Fin 2048, ((w (ix3 b j (gcolv h d)) : ℝ) : EReal)
          * Ideal.div (hostE Q K (ix4 b h r j)) (hostL Q K (ix3 b h r)) :=
    Finset.sum_congr rfl fun d _ => by
      rw [hg, hostO_at]
      exact congrArg _ (Finset.sum_congr rfl fun j _ => by rw [hw])
  rw [hdo]
  simp only [hdp]
  exact Cert.Attn.score_eq (fun s : Fin 2048 => s.val ≤ r.val) σ r le_rfl (fun s => hostE Q K (ix4 b h r s)) _ _ hM
    (fun s => by rw [hostE_at, hσ]) (hostL_at Q K b h r) (fun d => g (ix3 b r (gcolv h d))) (fun s' d => w (ix3 b s' (gcolv h d))) s

/-- The gradient of the queries. -/
theorem dq_eq : dqArr Q K W (hostO Q K W) G (hostLse Q K) = val_main_v74 (F := Ideal) Q K W G := by
  suffices e : ∀ b r cc, gdq Q K W (hostO Q K W) G (hostLse Q K) b r cc = val_main_v74 (F := Ideal) Q K W G (ix3 b r cc) by
    funext i
    idx_vars i
    exact e _ _ _
  intro b r cc
  rw [refDq_at]
  unfold gdq
  exact Finset.sum_congr rfl fun s _ => by rw [dscore Q K W G hQ hK hW hG]

/-- The gradient of the keys. -/
theorem dk_eq : dkArr Q K W (hostO Q K W) G (hostLse Q K) = val_main_v73 (F := Ideal) Q K W G := by
  suffices e : ∀ b s cc, gdk Q K W (hostO Q K W) G (hostLse Q K) b s cc = val_main_v73 (F := Ideal) Q K W G (ix3 b s cc) by
    funext i
    idx_vars i
    exact e _ _ _
  intro b s cc
  rw [refDk_at]
  unfold gdk
  exact Finset.sum_congr rfl fun r _ => by rw [dscore Q K W G hQ hK hW hG]

end Equal

end Cert.KernelIdeal.Attn

end
-- ==== Proof.Pre.lean ====
module

public import proofs.«01_k».proof.Pre_finite
public import Idealize.ShloMosaic.Lib.ReduceAll
public import Idealize.ShloMosaic.Lib.Pointwise
public import Idealize.ShloMosaic.PureOps.Ideal.Laws

/-! The precondition read back: every entry of the arguments is a real. -/

@[expose] public section

noncomputable section

namespace Cert.Pre_finite

open Idealize.ShloMosaic

theorem facts : Facts where
  bitsLt_bf16_f32 := by decide
  bcast_S_S4x2048x1024 := by decide
  reducesTo_S4x2048x1024_S_d0_1_2 := by decide
  h_S_ := by decide
  bcast_S_S4x2048x512 := by decide
  reducesTo_S4x2048x512_S_d0_1_2 := by decide

variable [Facts]
open Facts

/-- A value whose absolute value is below infinity is a real. -/
theorem real_of_lt (x : EReal) (h : BitVec.ofBool (decide (max x (-x) < ⊤)) = 1#1) : ∃ y : ℝ, x = y := by
  have hx : max x (-x) < ⊤ := by
    by_contra hn
    rw [decide_eq_false hn] at h
    exact absurd h (by decide)
  obtain ⟨h1, h2⟩ := max_lt_iff.mp hx
  refine ⟨x.toReal, (EReal.coe_toReal h1.ne fun e => ?_).symm⟩
  rw [e] at h2
  exact absurd h2 (by simp)

theorem and_one (a b : BitVec 1) (h : a &&& b = 1#1) : a = 1#1 ∧ b = 1#1 := by
  revert a b
  decide

instance : Subsingleton S_.Idx := ⟨fun a b => funext fun k => k.elim0⟩

theorem real_a (x : FVec Ideal S4x2048x1024 .f32)
    (h : Host.reduce IntOp.andi (cmpf .olt (Host.absf x) (broadcastInDim S4x2048x1024 ![] bcast_S_S4x2048x1024 (constant S_ .f32 0x7F800000#32)))
      (constantI S_ 1 1#1) reducesTo_S4x2048x1024_S_d0_1_2 h_S_ (Shape.Idx.first h_S_) = 1#1) (i : S4x2048x1024.Idx) : ∃ y : ℝ, x i = y :=
  real_of_lt (x i) (Host.reduce_andi_all _ _ _ _ _ h i)

theorem real_b (x : FVec Ideal S4x2048x512 .f32)
    (h : Host.reduce IntOp.andi (cmpf .olt (Host.absf x) (broadcastInDim S4x2048x512 ![] bcast_S_S4x2048x512 (constant S_ .f32 0x7F800000#32)))
      (constantI S_ 1 1#1) reducesTo_S4x2048x512_S_d0_1_2 h_S_ (Shape.Idx.first h_S_) = 1#1) (i : S4x2048x512.Idx) : ∃ y : ℝ, x i = y :=
  real_of_lt (x i) (Host.reduce_andi_all _ _ _ _ _ h i)

/-- Every entry of every argument is a real. -/
theorem real (Q K : FVec Ideal S4x2048x1024 .bf16) (W : FVec Ideal S4x2048x512 .bf16) (G : FVec Ideal S4x2048x512 .f32)
    (h : fn (F := Ideal) Q K W G = fun _ => 1#1) :
    (∀ i, ∃ y : ℝ, Q i = (y : EReal)) ∧ (∀ i, ∃ y : ℝ, K i = (y : EReal)) ∧ (∀ i, ∃ y : ℝ, W i = (y : EReal))
      ∧ ∀ i, ∃ y : ℝ, G i = (y : EReal) := by
  have h0 := congrFun h (Shape.Idx.first h_S_)
  obtain ⟨h1, hG⟩ := and_one _ _ h0
  obtain ⟨h2, hW⟩ := and_one _ _ h1
  obtain ⟨hQ, hK⟩ := and_one _ _ h2
  exact ⟨real_a _ hQ, real_a _ hK, real_b _ hW, real_b _ hG⟩

end Cert.Pre_finite

end
-- ==== Proof.Claims.lean ====
module

public import proofs.«01_k».proof.Defs
public import proofs.«01_k».proof.Proof.Plain
public import proofs.«01_k».proof.Proof.Equal
public import proofs.«01_k».proof.Proof.Pre
public import Idealize.ShloMosaic.Lib.Quiescent

/-! The claims: the runs of the kernel and of the plain attention's gradient, and the equality of their results. -/

@[expose] public section

set_option maxRecDepth 65536

noncomputable section

namespace Cert.Proof

open Idealize.ShloMosaic Idealize.SL.Sem

attribute [local instance] Cert.Pre_finite.facts

theorem kernel_quiet : Cert.quiescent_Kernel := fun m g _ => Cert.Kernel.Attn.quiet m g

theorem ideal_quiet : Cert.quiescent_KernelIdeal := fun m g _ =>
  θ_run_and (Cert.KernelIdeal.Gen.frame_of m g (Cert.KernelIdeal.Attn.dats m) (Cert.KernelIdeal.Attn.arr_entry m)
      ((θ_run _ _ _).mono (fun _ h => h.1) (Cert.KernelIdeal.Attn.run_all m g)))
    ((θ_run _ _ _).mono (fun _ h => h.2) (Cert.KernelIdeal.Attn.run_all m g))

theorem reference_quiet : Cert.quiescent_ReferenceIdeal := fun m g _ =>
  (θ_run _ _ _).mono (fun r h => ⟨fun c => (h c).2.2.2, sem_eq_zero_of_no_sems rfl r.2⟩)
    (Cert.ReferenceIdeal.Value.run (F := Ideal) m g)

theorem preserved : Cert.preserves_Kernel_KernelIdeal := IdealRules.named_const.statement Cert.KernelIdeal.κ "mask" .f32 0xF149F2CA#32 ⊥ rfl

section Values

open Cert.KernelIdeal Cert.KernelIdeal.Gen Cert.KernelIdeal.Attn

variable (m : (ℓ : Loc nD τ sig) → Buf (Elt Ideal) ℓ) (c : Dev nD)

theorem dq_value
    (hQ : ∀ i, ∃ y : ℝ, (m ((c.tc : Thread nD τ).loc main_arg0) : Vec Ideal S4x2048x1024 .bf16) i = (y : EReal))
    (hK : ∀ i, ∃ y : ℝ, (m ((c.tc : Thread nD τ).loc main_arg1) : Vec Ideal S4x2048x1024 .bf16) i = (y : EReal))
    (hW : ∀ i, ∃ y : ℝ, (m ((c.tc : Thread nD τ).loc main_arg2) : Vec Ideal S4x2048x512 .bf16) i = (y : EReal))
    (hG : ∀ i, ∃ y : ℝ, (m ((c.tc : Thread nD τ).loc main_arg3) : Vec Ideal S4x2048x512 .f32) i = (y : EReal)) :
    (dats m 0 c).arrAt 6 cfg0.N = Cert.ReferenceIdeal.Read.val_main_v74 (F := Ideal) (m ((c.tc : Thread nD τ).loc main_arg0)) (m ((c.tc : Thread nD τ).loc main_arg1)) (m ((c.tc : Thread nD τ).loc main_arg2)) (m ((c.tc : Thread nD τ).loc main_arg3)) := by
  rw [dq_final, V_main_v34, V_main_v24, V_main_arg0, V_main_arg1, V_main_arg2, V_main_arg3]
  exact dq_eq _ _ _ _ hQ hK hW hG

theorem dk_value
    (hQ : ∀ i, ∃ y : ℝ, (m ((c.tc : Thread nD τ).loc main_arg0) : Vec Ideal S4x2048x1024 .bf16) i = (y : EReal))
    (hK : ∀ i, ∃ y : ℝ, (m ((c.tc : Thread nD τ).loc main_arg1) : Vec Ideal S4x2048x1024 .bf16) i = (y : EReal))
    (hW : ∀ i, ∃ y : ℝ, (m ((c.tc : Thread nD τ).loc main_arg2) : Vec Ideal S4x2048x512 .bf16) i = (y : EReal))
    (hG : ∀ i, ∃ y : ℝ, (m ((c.tc : Thread nD τ).loc main_arg3) : Vec Ideal S4x2048x512 .f32) i = (y : EReal)) :
    (dats m 0 c).arrAt 7 cfg0.N = Cert.ReferenceIdeal.Read.val_main_v73 (F := Ideal) (m ((c.tc : Thread nD τ).loc main_arg0)) (m ((c.tc : Thread nD τ).loc main_arg1)) (m ((c.tc : Thread nD τ).loc main_arg2)) (m ((c.tc : Thread nD τ).loc main_arg3)) := by
  rw [dk_final, V_main_v34, V_main_v24, V_main_arg0, V_main_arg1, V_main_arg2, V_main_arg3]
  exact dk_eq _ _ _ _ hQ hK hW hG

theorem dv_value
    (hQ : ∀ i, ∃ y : ℝ, (m ((c.tc : Thread nD τ).loc main_arg0) : Vec Ideal S4x2048x1024 .bf16) i = (y : EReal))
    (hK : ∀ i, ∃ y : ℝ, (m ((c.tc : Thread nD τ).loc main_arg1) : Vec Ideal S4x2048x1024 .bf16) i = (y : EReal)) :
    (dats m 0 c).arrAt 8 cfg0.N = Cert.ReferenceIdeal.Read.val_main_v53 (F := Ideal) (m ((c.tc : Thread nD τ).loc main_arg0)) (m ((c.tc : Thread nD τ).loc main_arg1)) (m ((c.tc : Thread nD τ).loc main_arg3)) := by
  rw [dv_final, V_main_v24, V_main_arg0, V_main_arg1, V_main_arg3]
  exact dv_eq _ _ _ hQ hK

end Values

theorem equal : Cert.algebraic_KernelIdeal_ReferenceIdeal_pre_finite := fun m g m' g' hp ha => by
  refine ⟨fun c => (Cert.KernelIdeal.Attn.dats m 0 c).arrAt 6 Cert.KernelIdeal.cfg0.N,
    fun c => (Cert.KernelIdeal.Attn.dats m 0 c).arrAt 7 Cert.KernelIdeal.cfg0.N,
    fun c => (Cert.KernelIdeal.Attn.dats m 0 c).arrAt 8 Cert.KernelIdeal.cfg0.N, ?_, ?_⟩
  · refine (θ_run _ _ _).mono (fun r h c => ?_) (θ_run_and (Cert.KernelIdeal.Attn.run_all m g) (ideal_quiet m g trivial))
    exact ⟨(h.1.1 c).1 6, (h.1.1 c).1 7, (h.1.1 c).1 8, h.2.1 c⟩
  · refine (θ_run _ _ _).mono (fun r h c => ?_) (Cert.ReferenceIdeal.Value.run (F := Ideal) m' g')
    obtain ⟨hQ, hK, hW, hG⟩ := Cert.Pre_finite.real _ _ _ _ (hp c)
    obtain ⟨e0, e1, e2, e3⟩ := ha c
    refine ⟨(h c).1.trans ?_, (h c).2.1.trans ?_, (h c).2.2.1.trans ?_, (h c).2.2.2⟩
    · rw [Cert.ReferenceIdeal.Read.val_main_v74_eq, e0, e1, e2, e3]
      exact (dq_value m c hQ hK hW hG).symm
    · rw [Cert.ReferenceIdeal.Read.val_main_v73_eq, e0, e1, e2, e3]
      exact (dk_value m c hQ hK hW hG).symm
    · rw [Cert.ReferenceIdeal.Read.val_main_v53_eq, e0, e1, e3]
      exact (dv_value m c hQ hK).symm

end Cert.Proof

end
-- ==== Proof.Weight.lean ====
module

public import proofs.«01_k».proof.Proof.Gen.Kernel2Ideal.Frame
public import Idealize.ShloMosaic.Lib.Pipeline.Value
public import Idealize.ShloMosaic.Lib.Pipeline.ValueKit
public import Idealize.ShloMosaic.Lib.Tactic
public import Idealize.ShloMosaic.Lib.Pointwise
public import Idealize.ShloMosaic.Lib.WordCmp
public import Idealize.ShloMosaic.Lib.StableHlo.Run

/-! The gradient of the input projection's weight: what the blocked product leaves in its array, and what the host hands
    it and makes of it. -/

@[expose] public section

set_option maxRecDepth 65536

noncomputable section

namespace Cert.Kernel2Ideal.Weight

open Cert.Kernel2Ideal Cert.Kernel2Ideal.Gen
open Idealize.ShloMosaic Idealize.ShloMosaic.TcCoe Idealize.ShloMosaic.Tactic Idealize.SL.Sem

theorem hz : (![0, 0] : Fin 2 → Nat) = fun _ => 0 := funext fun a => by fin_cases a <;> rfl

/-! ### One grid point -/

section Point

variable {F : FTy → Type} [FloatOps F]

/-- The block of zeros. -/
abbrev zero : Vec F S1024x3200 .f32 := k0_pay1

/-- The first point leaves its blocks' product added to zeros. -/
theorem out_A (c : Dev nD) (i : grid0.Coords) (a2 : Memref sig .tc .vmem S1024x1024 .bf16) (h2 : a2.IsWhole)
    (a3 : Memref sig .tc .vmem S1024x3200 .bf16) (h3 : a3.IsWhole) (a4 : Memref sig .tc .vmem S1024x3200 .f32) (h4 : a4.IsWhole)
    (hc : cond0_0 i) (x0 : Vec F S1024x1024 .bf16) (x1 : Vec F S1024x3200 .bf16) :
    out0_A_2 c i a2 h2 a3 h3 a4 h4 hc x0 x1 = k0_pay2 zero x0 x1 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x3200) hz, View.readCov_unit_zero (S := S1024x3200) _ hz]
  simp only [View.readAt_eq_ld, h2.read_unread, h3.read_unread, View.ld_unit_zero (S := S1024x3200) hz,
    View.ld_unit_zero (S := S1024x1024) hz]

/-- Every later point adds its blocks' product to what is there. -/
theorem out_B (c : Dev nD) (i : grid0.Coords) (a2 : Memref sig .tc .vmem S1024x1024 .bf16) (h2 : a2.IsWhole)
    (a3 : Memref sig .tc .vmem S1024x3200 .bf16) (h3 : a3.IsWhole) (a4 : Memref sig .tc .vmem S1024x3200 .f32) (h4 : a4.IsWhole)
    (hc : ¬cond0_0 i) (x0 : Vec F S1024x1024 .bf16) (x1 : Vec F S1024x3200 .bf16) (y : Vec F S1024x3200 .f32) :
    out0_B_2 c i a2 h2 a3 h3 a4 h4 hc x0 x1 y = k0_pay2 y x0 x1 := by
  unfold out0_B_2
  rw [View.read_writes_eq_canon _ _ _ (cover0_B_2 c i a2 h2 a3 h3 a4 h4 hc x0 x1 y)]
  unfold kernelRun0_B
  dsimp only
  rw [View.canon_unit_zero hz]
  simp only [View.readAt_eq_ld, h2.read_unread, h3.read_unread, h4.read_unread, View.ld_unit_zero (S := S1024x3200) hz,
    View.ld_unit_zero (S := S1024x1024) hz]

end Point

/-- A block's product, added, at an index. -/
theorem pay2_at (y : Vec Ideal S1024x3200 .f32) (x0 : Vec Ideal S1024x1024 .bf16) (x1 : Vec Ideal S1024x3200 .bf16)
    (i : Fin 1024) (j : Fin 3200) :
    k0_pay2 (F := Ideal) y x0 x1 (ix2 i j) = y (ix2 i j) + ∑ r : Fin 1024, x0 (ix2 r i) * x1 (ix2 r j) := by
  pointwise [k0_pay2]

theorem zero_at (i : Fin 1024) (j : Fin 3200) : (zero : Vec Ideal S1024x3200 .f32) (ix2 i j) = 0 := by
  pointwise [k0_pay1]

/-! ### The blocks -/

section Blocks

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

/-- Row `r` of the point's block of rows. -/
abbrev rw_ (t : ℕ) (ht : t < 8) (r : Fin 1024) : Fin 8192 := ⟨t * 1024 + r.val, by have := r.isLt; omega⟩

variable (m : (ℓ : Loc nD τ sig) → Buf (Elt Ideal) ℓ) (c : Dev nD) (t : Fin cfg0.N)

theorem lt8 : t.val < 8 := Nat.lt_of_lt_of_eq t.isLt N_0

theorem blk0 (r : Fin 1024) (i : Fin 1024) :
    iblk m c 0 t (ix2 r i) = V m c main_v9 (ix2 (rw_ t.val (lt8 t) r) i) := by
  blk_ext [iblk, idx0 t]
theorem blk1 (r : Fin 1024) (j : Fin 3200) :
    iblk m c 1 t (ix2 r j) = V m c main_v10 (ix2 (rw_ t.val (lt8 t) r) j) := by
  blk_ext [iblk, idx1 t]

/-- A block's part of the product. -/
def part (U : Vec Ideal S8192x1024 .bf16) (P : Vec Ideal S8192x3200 .bf16) (i : Fin 1024) (j : Fin 3200) (t : ℕ) : EReal :=
  if ht : t < 8 then ∑ r : Fin 1024, U (ix2 (rw_ t ht r) i) * P (ix2 (rw_ t ht r) j) else 0

/-- After a point the array's block holds the parts of the blocks so far. -/
theorem outs_at (i : Fin 1024) (j : Fin 3200) : ∀ (n : ℕ) (hn : n < cfg0.N), outsAt0 m c n hn (ix2 i j)
    = ∑ s ∈ Finset.range (n + 1), part (V m c main_v9) (V m c main_v10) i j s
  | 0, hn => by
    have h := (outsAt0_A m c ⟨0, hn⟩ rfl).trans (out_A ..)
    rw [show outsAt0 m c 0 hn = _ from h, pay2_at, zero_at, zero_add]
    simp only [blk0, blk1]
    show _ = ∑ s ∈ Finset.range 1, _
    rw [Finset.sum_range_one, part, dif_pos (by decide)]
  | n + 1, hn => by
    have hN : n + 1 < 8 := Nat.lt_of_lt_of_eq hn N_0
    have hB : ¬(⟨n + 1, hn⟩ : Fin cfg0.N).val % 8 = 0 := by dsimp only; omega
    have h := (outsAt0_B m c ⟨n + 1, hn⟩ hB).trans (out_B ..)
    rw [show outsAt0 m c (n + 1) hn = _ from h, pay2_at, Finset.sum_range_succ]
    refine congrArg₂ (· + ·) (outs_at i j n _) ?_
    simp only [blk0, blk1]
    rw [part, dif_pos hN]

/-- The whole product. -/
def prod (U : Vec Ideal S8192x1024 .bf16) (P : Vec Ideal S8192x3200 .bf16) : Vec Ideal S1024x3200 .f32 :=
  fun y => ∑ r : Fin 8192, U (ix2 r (y 0)) * P (ix2 r (y 1))

theorem sum_parts (U : Vec Ideal S8192x1024 .bf16) (P : Vec Ideal S8192x3200 .bf16) (i : Fin 1024) (j : Fin 3200) :
    ∑ s ∈ Finset.range 8, part U P i j s = ∑ r : Fin 8192, U (ix2 r i) * P (ix2 r j) := by
  rw [← Fin.sum_univ_eq_sum_range (fun s => part U P i j s) 8]
  have e : ∀ s : Fin 8, part U P i j s.val = ∑ r : Fin 1024, U (ix2 (finProdFinEquiv (s, r)) i) * P (ix2 (finProdFinEquiv (s, r)) j) := fun s => by
    rw [part, dif_pos s.isLt]
    refine Finset.sum_congr rfl fun r _ => ?_
    have : rw_ s.val s.isLt r = finProdFinEquiv (s, r) := Fin.ext (by simp only [rw_, finProdFinEquiv, Equiv.coe_fn_mk]; omega)
    rw [this]
  simp only [e]
  rw [← Fintype.sum_prod_type']
  exact Equiv.sum_comp (finProdFinEquiv (m := 8) (n := 1024)) fun r => U (ix2 r i) * P (ix2 r j)

theorem final : (dats m 0 c).arrAt 2 cfg0.N = prod (V m c main_v9) (V m c main_v10) := by
  refine (dats m 0 c).arrAt_eq_of_covers 2 _ (by decide +kernel) fun t hf y => ?_
  have h7 : t.val = 7 := by have := (flush0_2 t).mp hf; have := lt8 t; omega
  blk_simp
  rw [after0_2]
  have hy : y = ix2 (y 0) (y 1) := by funext u; fin_cases u <;> rfl
  refine (congrArg _ hy).trans ((outs_at m c (y 0) (y 1) t.val t.isLt).trans ?_)
  rw [h7]
  refine (show _ = prod (V m c main_v9) (V m c main_v10) (ix2 (y 0) (y 1)) from sum_parts _ _ _ _).trans ?_
  blk_ext [idx2 t]

end Blocks

/-! ### The host before and after -/

section Host

/-- The column of the version's order that a column of the weight goes to. -/
def place (n : Fin 3136) : Fin 3200 :=
  ⟨if n.val < 384 then n.val + 1024 else if n.val < 448 then n.val + 2560 else if n.val < 1984 then n.val + 960
    else if n.val < 2112 then n.val + 1024 else n.val - 2112, by have := n.isLt; split_ifs <;> omega⟩

/-- The columns put into the version's order, with columns of zeros at the end. -/
def ordered (P : Vec Ideal S4x2048x3136 .f32) : Vec Ideal S4x2048x3200 .f32 :=
  concatenate S4x2048x3200 2
    [⟨S4x2048x1024, extractStridedSlice S4x2048x1024 ![0, 0, 2112] P slices_S4x2048x3136_S4x2048x1024_0_0_2112⟩,
      ⟨S4x2048x384, extractStridedSlice S4x2048x384 ![0, 0, 0] P slices_S4x2048x3136_S4x2048x384_0_0_0⟩,
      ⟨S4x2048x1536, extractStridedSlice S4x2048x1536 ![0, 0, 448] P slices_S4x2048x3136_S4x2048x1536_0_0_448⟩,
      ⟨S4x2048x64, extractStridedSlice S4x2048x64 ![0, 0, 384] P slices_S4x2048x3136_S4x2048x64_0_0_384⟩,
      ⟨S4x2048x128, extractStridedSlice S4x2048x128 ![0, 0, 1984] P slices_S4x2048x3136_S4x2048x128_0_0_1984⟩,
      ⟨S4x2048x64, broadcastInDim S4x2048x64 ![] bcast_S_S4x2048x64 (constant (F := Ideal) S_ .f32 0x00000000#32)⟩]
    concatenates_S4x2048x1024_S4x2048x384_S4x2048x1536_S4x2048x64_S4x2048x128_S4x2048x64_S4x2048x3200_d2

/-- The columns put back into the weight's order. -/
def restored (W : Vec Ideal S1024x3200 .f32) : Vec Ideal S1024x3136 .f32 :=
  concatenate S1024x3136 1
    [⟨S1024x384, extractStridedSlice S1024x384 ![0, 1024] W slices_S1024x3200_S1024x384_0_1024⟩,
      ⟨S1024x64, extractStridedSlice S1024x64 ![0, 2944] W slices_S1024x3200_S1024x64_0_2944⟩,
      ⟨S1024x1536, extractStridedSlice S1024x1536 ![0, 1408] W slices_S1024x3200_S1024x1536_0_1408⟩,
      ⟨S1024x128, extractStridedSlice S1024x128 ![0, 3008] W slices_S1024x3200_S1024x128_0_3008⟩,
      ⟨S1024x1024, extractStridedSlice S1024x1024 ![0, 0] W slices_S1024x3200_S1024x1024_0_0⟩]
    concatenates_S1024x384_S1024x64_S1024x1536_S1024x128_S1024x1024_S1024x3136_d1

theorem restored_at (W : Vec Ideal S1024x3200 .f32) (i : Fin 1024) (n : Fin 3136) :
    restored W (ix2 i n) = W (ix2 i (place n)) := by
  pointwise [restored]
  have hn := n.isLt
  simp only [place]
  split_ifs <;> congr 2 <;> (try apply Fin.ext) <;> simp only <;> (try split_ifs) <;> omega

theorem place_val (n : Fin 3136) : (place n).val = if n.val < 384 then n.val + 1024 else if n.val < 448 then n.val + 2560
    else if n.val < 1984 then n.val + 960 else if n.val < 2112 then n.val + 1024 else n.val - 2112 := rfl

theorem ordered_at (P : Vec Ideal S4x2048x3136 .f32) (b : Fin 4) (t : Fin 2048) (n : Fin 3136) :
    ordered P (ix3 b t (place n)) = P (ix3 b t n) := by
  have hn := n.isLt
  have hp := place_val n
  by_cases h0 : n.val < 384
  · rw [if_pos h0] at hp
    unfold ordered
    refine (concatenate_apply_piece (t := S4x2048x3200) 2 _ _ (ix3 b t (place n)) 1 (by show 1 < 6; decide) S4x2048x384 _ rfl rfl 1024 rfl (ix3 b t ⟨n.val, by omega⟩) ?_ ?_).trans ?_
    · intro u hu
      fin_cases u
      · rfl
      · rfl
      · exact absurd rfl hu
    · show 1024 + n.val = (place n).val
      omega
    · pointwise
  by_cases h1 : n.val < 448
  · rw [if_neg h0] at hp; rw [if_pos h1] at hp
    unfold ordered
    refine (concatenate_apply_piece (t := S4x2048x3200) 2 _ _ (ix3 b t (place n)) 3 (by show 3 < 6; decide) S4x2048x64 _ rfl rfl 2944 rfl (ix3 b t ⟨n.val - 384, by omega⟩) ?_ ?_).trans ?_
    · intro u hu
      fin_cases u
      · rfl
      · rfl
      · exact absurd rfl hu
    · show 2944 + (n.val - 384) = (place n).val
      omega
    · pointwise
      exact congrArg (fun x => P (ix3 b t x)) (Fin.ext (by show _ = n.val; simp only; omega))
  by_cases h2 : n.val < 1984
  · rw [if_neg h0] at hp; rw [if_neg h1] at hp; rw [if_pos h2] at hp
    unfold ordered
    refine (concatenate_apply_piece (t := S4x2048x3200) 2 _ _ (ix3 b t (place n)) 2 (by show 2 < 6; decide) S4x2048x1536 _ rfl rfl 1408 rfl (ix3 b t ⟨n.val - 448, by omega⟩) ?_ ?_).trans ?_
    · intro u hu
      fin_cases u
      · rfl
      · rfl
      · exact absurd rfl hu
    · show 1408 + (n.val - 448) = (place n).val
      omega
    · pointwise
      exact congrArg (fun x => P (ix3 b t x)) (Fin.ext (by show _ = n.val; simp only; omega))
  by_cases h3 : n.val < 2112
  · rw [if_neg h0] at hp; rw [if_neg h1] at hp; rw [if_neg h2] at hp; rw [if_pos h3] at hp
    unfold ordered
    refine (concatenate_apply_piece (t := S4x2048x3200) 2 _ _ (ix3 b t (place n)) 4 (by show 4 < 6; decide) S4x2048x128 _ rfl rfl 3008 rfl (ix3 b t ⟨n.val - 1984, by omega⟩) ?_ ?_).trans ?_
    · intro u hu
      fin_cases u
      · rfl
      · rfl
      · exact absurd rfl hu
    · show 3008 + (n.val - 1984) = (place n).val
      omega
    · pointwise
      exact congrArg (fun x => P (ix3 b t x)) (Fin.ext (by show _ = n.val; simp only; omega))
  rw [if_neg h0] at hp; rw [if_neg h1] at hp; rw [if_neg h2] at hp; rw [if_neg h3] at hp
  unfold ordered
  refine (concatenate_apply_piece (t := S4x2048x3200) 2 _ _ (ix3 b t (place n)) 0 (by show 0 < 6; decide) S4x2048x1024 _ rfl rfl 0 rfl (ix3 b t ⟨n.val - 2112, by omega⟩) ?_ ?_).trans ?_
  · intro u hu
    fin_cases u
    · rfl
    · rfl
    · exact absurd rfl hu
  · show 0 + (n.val - 2112) = (place n).val
    omega
  · pointwise
    exact congrArg (fun x => P (ix3 b t x)) (Fin.ext (by show _ = n.val; simp only; omega))

end Host

end Cert.Kernel2Ideal.Weight

end
-- ==== Proof.WeightHost.lean ====
module

public import proofs.«01_k».proof.Proof.Weight
public import proofs.«01_k».proof.Proof.Gen.Reference2Ideal.Run
public import proofs.«01_k».proof.Defs
public import Idealize.ShloMosaic.Lib.Claim
public import Idealize.ShloMosaic.Lib.Quiescent

/-! The gradient of the input projection's weight: what the host hands the blocked product, what it makes of it, and the equality
    with the gradient of the plain projection. -/

@[expose] public section

set_option maxRecDepth 65536

noncomputable section

namespace Cert.Kernel2Ideal.Weight

open Cert.Kernel2Ideal Cert.Kernel2Ideal.Gen
open Idealize.ShloMosaic Idealize.ShloMosaic.TcCoe Idealize.ShloMosaic.Tactic Idealize.SL.Sem

section Host

variable (m : (ℓ : Loc nD τ sig) → Buf (Elt Ideal) ℓ) (c : Dev nD)

/-- The rows of the projection's operand, one below the other. -/
def rowsU (U : Vec Ideal S4x2048x1024 .f32) : Vec Ideal S8192x1024 .bf16 :=
  shapeCast S8192x1024 (truncf .bf16 U bitsLt_bf16_f32 : FVec Ideal S4x2048x1024 .bf16) shapeCasts_S4x2048x1024_S8192x1024

/-- The rows of the incoming gradient in the version's column order, one below the other. -/
def rowsP (P : Vec Ideal S4x2048x3136 .f32) : Vec Ideal S8192x3200 .bf16 :=
  shapeCast S8192x3200 (truncf .bf16 (ordered P) bitsLt_bf16_f32 : FVec Ideal S4x2048x3200 .bf16) shapeCasts_S4x2048x3200_S8192x3200

theorem V_main_v9 : V m c main_v9 = rowsU (m ((c.tc : Thread nD τ).loc main_arg0)) := by
  unfold V
  unfold V0
  simp only [List.flatten_cons, List.flatten_nil, List.append_nil]
  after_results_simp
  rfl

/-- The incoming gradient's columns are put in the version's order first. -/
theorem first_v6 (W : Valuation τ sig (Elt Ideal)) :
    StableHlo.after (hostOps0.take 8) W (Proc.devRef .tc main_v6) = ordered (W (Proc.devRef .tc main_arg1)) := by
  have e : StableHlo.after (hostOps0.take 8) W = ((hostOps0 (F := Ideal))[7]).result (StableHlo.after (hostOps0.take 7) W) := rfl
  have h0 : StableHlo.after (hostOps0.take 7) W (Proc.devRef .tc main_v0) = extractStridedSlice S4x2048x1024 ![0, 0, 2112] (W (Proc.devRef .tc main_arg1) : Vec Ideal S4x2048x3136 .f32) slices_S4x2048x3136_S4x2048x1024_0_0_2112 := by
    simp only [List.take_succ_cons, List.take_zero]; after_results_simp
  have h1 : StableHlo.after (hostOps0.take 7) W (Proc.devRef .tc main_v1) = extractStridedSlice S4x2048x384 ![0, 0, 0] (W (Proc.devRef .tc main_arg1) : Vec Ideal S4x2048x3136 .f32) slices_S4x2048x3136_S4x2048x384_0_0_0 := by
    simp only [List.take_succ_cons, List.take_zero]; after_results_simp
  have h2 : StableHlo.after (hostOps0.take 7) W (Proc.devRef .tc main_v2) = extractStridedSlice S4x2048x1536 ![0, 0, 448] (W (Proc.devRef .tc main_arg1) : Vec Ideal S4x2048x3136 .f32) slices_S4x2048x3136_S4x2048x1536_0_0_448 := by
    simp only [List.take_succ_cons, List.take_zero]; after_results_simp
  have h3 : StableHlo.after (hostOps0.take 7) W (Proc.devRef .tc main_v3) = extractStridedSlice S4x2048x64 ![0, 0, 384] (W (Proc.devRef .tc main_arg1) : Vec Ideal S4x2048x3136 .f32) slices_S4x2048x3136_S4x2048x64_0_0_384 := by
    simp only [List.take_succ_cons, List.take_zero]; after_results_simp
  have h4 : StableHlo.after (hostOps0.take 7) W (Proc.devRef .tc main_v4) = extractStridedSlice S4x2048x128 ![0, 0, 1984] (W (Proc.devRef .tc main_arg1) : Vec Ideal S4x2048x3136 .f32) slices_S4x2048x3136_S4x2048x128_0_0_1984 := by
    simp only [List.take_succ_cons, List.take_zero]; after_results_simp
  have h5 : StableHlo.after (hostOps0.take 7) W (Proc.devRef .tc main_v5) = broadcastInDim S4x2048x64 ![] bcast_S_S4x2048x64 (constant (F := Ideal) S_ .f32 0x00000000#32) := by
    simp only [List.take_succ_cons, List.take_zero]; after_results_simp
  rw [e]
  generalize StableHlo.after (hostOps0.take 7) W = Y at h0 h1 h2 h3 h4 h5
  simp only [List.getElem_cons_succ, List.getElem_cons_zero]
  refine (StableHlo.nary_result ..).trans ?_
  unfold ordered
  rw [← h0, ← h1, ← h2, ← h3, ← h4, ← h5]
  rfl

theorem V_main_v10 : V m c main_v10 = rowsP (m ((c.tc : Thread nD τ).loc main_arg1)) := by
  show StableHlo.after (hostOps0.drop 8) (StableHlo.after (hostOps0.take 8) fun b => m (c, b)) (Proc.devRef .tc main_v10) = _
  have h := first_v6 (fun b => m (c, b))
  generalize StableHlo.after (hostOps0.take 8) (fun b => m (c, b)) = Y at h
  simp only [List.drop_succ_cons, List.drop_zero]
  after_results_simp
  rw [h]
  rfl

/-- The row of the product a batch and a position have. -/
def row (b : Fin 4) (t : Fin 2048) : Fin 8192 := ⟨b.val * 2048 + t.val, by omega⟩

theorem row_batch (b : Fin 4) (t : Fin 2048) (h : (row b t).val / 2048 < 4) : (⟨(row b t).val / 2048, h⟩ : Fin 4) = b :=
  Fin.ext (by show (b.val * 2048 + t.val) / 2048 = b.val; omega)

theorem row_position (b : Fin 4) (t : Fin 2048) (h : (row b t).val % 2048 < 2048) : (⟨(row b t).val % 2048, h⟩ : Fin 2048) = t :=
  Fin.ext (by show (b.val * 2048 + t.val) % 2048 = t.val; omega)

theorem rowsU_at (U : Vec Ideal S4x2048x1024 .f32) (b : Fin 4) (t : Fin 2048) (i : Fin 1024) :
    rowsU U (ix2 (row b t) i) = U (ix3 b t i) := by
  pointwise [rowsU]
  rw [row_batch, row_position]

theorem rowsP_at (P : Vec Ideal S4x2048x3136 .f32) (b : Fin 4) (t : Fin 2048) (n : Fin 3136) :
    rowsP P (ix2 (row b t) (place n)) = P (ix3 b t n) := by
  rw [← ordered_at P b t n]
  unfold rowsP
  generalize ordered P = Z
  pointwise []
  rw [row_batch, row_position]

theorem sum_rows (f : Fin 8192 → EReal) : ∑ r : Fin 8192, f r = ∑ b : Fin 4, ∑ t : Fin 2048, f (row b t) := by
  have e (b : Fin 4) (t : Fin 2048) : row b t = finProdFinEquiv (b, t) :=
    Fin.ext (by simp only [row, finProdFinEquiv, Equiv.coe_fn_mk]; omega)
  simp only [e]
  rw [← Fintype.sum_prod_type']
  exact (Equiv.sum_comp (finProdFinEquiv (m := 4) (n := 2048)) f).symm

theorem reference_at (U : Vec Ideal S4x2048x1024 .f32) (P : Vec Ideal S4x2048x3136 .f32) (i : Fin 1024) (n : Fin 3136) :
    (transpose Cert.Reference2Ideal.S1024x3136 [1, 0] (Host.dotGeneral (F := Ideal) (φ₁ := .f32) (φ₂ := .f32) Cert.Reference2Ideal.dot_S4x2048x3136_S4x2048x1024_S3136x1024_01_01_2_2_n_n none P U) Cert.Reference2Ideal.Gen.transposes_S3136x1024_S1024x3136_1_0 : Vec Ideal S1024x3136 .f32) (ix2 i n)
      = ∑ b : Fin 4, ∑ t : Fin 2048, P (ix3 b t n) * U (ix3 b t i) := by
  pointwise []

/-- The host's last lines: the columns of what the product left, put back. -/
theorem last_v17 (W : Valuation τ sig (Elt Ideal)) :
    StableHlo.after hostOps1 W (Proc.devRef .tc main_v17) = restored (W (Proc.devRef .tc main_v11)) := by
  have e : StableHlo.after hostOps1 W = ((hostOps1 (F := Ideal))[5]).result (StableHlo.after (hostOps1.take 5) W) := rfl
  have h0 : StableHlo.after (hostOps1.take 5) W (Proc.devRef .tc main_v12) = extractStridedSlice S1024x384 ![0, 1024] (W (Proc.devRef .tc main_v11) : Vec Ideal S1024x3200 .f32) slices_S1024x3200_S1024x384_0_1024 := by
    simp only [List.take_succ_cons, List.take_zero]; after_results_simp
  have h1 : StableHlo.after (hostOps1.take 5) W (Proc.devRef .tc main_v13) = extractStridedSlice S1024x64 ![0, 2944] (W (Proc.devRef .tc main_v11) : Vec Ideal S1024x3200 .f32) slices_S1024x3200_S1024x64_0_2944 := by
    simp only [List.take_succ_cons, List.take_zero]; after_results_simp
  have h2 : StableHlo.after (hostOps1.take 5) W (Proc.devRef .tc main_v14) = extractStridedSlice S1024x1536 ![0, 1408] (W (Proc.devRef .tc main_v11) : Vec Ideal S1024x3200 .f32) slices_S1024x3200_S1024x1536_0_1408 := by
    simp only [List.take_succ_cons, List.take_zero]; after_results_simp
  have h3 : StableHlo.after (hostOps1.take 5) W (Proc.devRef .tc main_v15) = extractStridedSlice S1024x128 ![0, 3008] (W (Proc.devRef .tc main_v11) : Vec Ideal S1024x3200 .f32) slices_S1024x3200_S1024x128_0_3008 := by
    simp only [List.take_succ_cons, List.take_zero]; after_results_simp
  have h4 : StableHlo.after (hostOps1.take 5) W (Proc.devRef .tc main_v16) = extractStridedSlice S1024x1024 ![0, 0] (W (Proc.devRef .tc main_v11) : Vec Ideal S1024x3200 .f32) slices_S1024x3200_S1024x1024_0_0 := by
    simp only [List.take_succ_cons, List.take_zero]; after_results_simp
  rw [e]
  generalize StableHlo.after (hostOps1.take 5) W = Y at h0 h1 h2 h3 h4
  simp only [List.getElem_cons_succ, List.getElem_cons_zero]
  refine (StableHlo.nary_result ..).trans ?_
  unfold restored
  rw [← h0, ← h1, ← h2, ← h3, ← h4]
  rfl

theorem arrays_inj : Function.Injective (Pipeline.arrRef (cfgs 0).spec) := by decide +kernel

theorem tail : Pipeline.afterTail₀ cfgs (dats m) 0 (V0 m) [hostOps1] c main_v17 = restored ((dats m 0 c).arrAt 2 cfg0.N) := by
  unfold Pipeline.afterTail₀
  rw [show ([hostOps1] : List (List (HloOp τ sig (Elt Ideal)))).flatten = hostOps1 from rfl, last_v17]
  exact congrArg restored (Pipeline.withArrays_arr (cfgs 0).spec arrays_inj c (V0 m c) (fun w => (dats m 0 c).arrAt w (cfgs 0).N) 2)

/-- What the program leaves is the gradient of the plain projection. -/
theorem value : restored ((dats m 0 c).arrAt 2 cfg0.N)
    = (transpose Cert.Reference2Ideal.S1024x3136 [1, 0] (Host.dotGeneral (F := Ideal) (φ₁ := .f32) (φ₂ := .f32) Cert.Reference2Ideal.dot_S4x2048x3136_S4x2048x1024_S3136x1024_01_01_2_2_n_n none (m ((c.tc : Thread nD τ).loc main_arg1) : Vec Ideal S4x2048x3136 .f32) (m ((c.tc : Thread nD τ).loc main_arg0) : Vec Ideal S4x2048x1024 .f32)) Cert.Reference2Ideal.Gen.transposes_S3136x1024_S1024x3136_1_0 : Vec Ideal S1024x3136 .f32) := by
  funext y
  have hy : y = ix2 (y 0) (y 1) := by funext u; fin_cases u <;> rfl
  rw [hy]
  refine (restored_at _ _ _).trans (Eq.trans ?_ (reference_at _ _ _ _).symm)
  rw [final, V_main_v9, V_main_v10]
  refine (sum_rows fun r => rowsU _ (ix2 r (y 0)) * rowsP _ (ix2 r (place (y 1)))).trans ?_
  refine Finset.sum_congr rfl fun b _ => Finset.sum_congr rfl fun t _ => ?_
  show rowsU _ (ix2 (row b t) (y 0)) * rowsP _ (ix2 (row b t) (place (y 1))) = _
  exact (congrArg₂ (· * ·) (rowsU_at _ b t _) (rowsP_at _ b t _)).trans (mul_comm _ _)

end Host

end Cert.Kernel2Ideal.Weight

namespace Cert.Proof

open Idealize.ShloMosaic Idealize.SL.Sem

theorem reference2_quiet : Cert.quiescent_Reference2Ideal := fun m g _ =>
  (θ_run _ _ _).mono (fun r h => ⟨fun c => (h c).2, sem_eq_zero_of_no_sems rfl r.2⟩) (Cert.Reference2Ideal.Value.run (F := Ideal) m g)

open Cert.Kernel2Ideal Cert.Kernel2Ideal.Gen Cert.Kernel2Ideal.Weight in
theorem equal2 : Cert.algebraic_Kernel2Ideal_Reference2Ideal := fun m g m' g' hp ha => by
  refine ⟨fun c => restored ((dats m 0 c).arrAt 2 cfg0.N), ?_, ?_⟩
  · refine (θ_run _ _ _).mono (fun r h c => ?_) (θ_run_and (run_main m g) (unchanged m g))
    exact ⟨((h.1 c).2 main_v17 (Pipeline.mem_restRefs_of main_v17 (by decide) (by decide))).trans (tail m c), h.2 c⟩
  · refine (θ_run _ _ _).mono (fun r h c => ?_) (Cert.Reference2Ideal.Value.run (F := Ideal) m' g')
    obtain ⟨e0, e1⟩ := ha c
    refine ⟨(h c).1.trans ?_, (h c).2⟩
    rw [e0, e1]
    exact (value m c).symm

end Cert.Proof

end
-- ==== Proof.Norm.lean ====
module

public import proofs.«01_k».proof.Proof.Real
public import Idealize.ShloMosaic.Lib.Pointwise

/-! One row of the normalisation's gradient over the extended reals: the version's form and the plain gradient's agree for every row,
    a row with infinite entries included (its scale is zero). -/

@[expose] public section

noncomputable section

namespace Cert.Norm

open Idealize.ShloMosaic

/-- The bound under the root. -/
def eps : EReal := Ideal.ofBits .f32 0x358637BD#32

theorem eps_real : ∃ e : ℝ, 0 < e ∧ eps = (e : EReal) := by
  refine ⟨8796093 / 2 ^ 43, by norm_num, ?_⟩
  unfold eps
  simp [Ideal.ofBits, Ideal.ieee, -EReal.coe_mul]
  norm_num

theorem num_1024 : Ideal.ofBits .f32 0x44800000#32 = ((1024 : ℝ) : EReal) := by
  simp [Ideal.ofBits, Ideal.ieee, -EReal.coe_mul]
  norm_num

theorem num_inv : Ideal.ofBits .f32 0x3A800000#32 = ((1 / 1024 : ℝ) : EReal) := by
  simp [Ideal.ofBits, Ideal.ieee, -EReal.coe_mul]
  norm_num

theorem num_half : Ideal.ofBits .f32 0xBF000000#32 = ((-(1 / 2) : ℝ) : EReal) := by
  simp [Ideal.ofBits, Ideal.ieee, -EReal.coe_mul]
  norm_num

theorem pull {ι : Type*} (s : Finset ι) (c : ℝ) (hc : 0 ≤ c) (f : ι → EReal) : ∑ k ∈ s, (c : EReal) * f k = (c : EReal) * ∑ k ∈ s, f k := by
  classical
  induction s using Finset.induction_on with
  | empty => simp
  | insert a s ha ih =>
    rw [Finset.sum_insert ha, Finset.sum_insert ha, ih,
      EReal.left_distrib_of_nonneg_of_ne_top (EReal.coe_nonneg.mpr hc) (EReal.coe_ne_top c)]

theorem twice (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_add, ← EReal.coe_mul]; congr 1; ring

section Row

variable {ι : Type} [Fintype ι] (x d : ι → EReal)

/-- The mean of the squares, over the bound. -/
def var : EReal := (∑ k, x k * x k) * Ideal.ofBits .f32 0x3A800000#32 + eps

theorem var_div : Ideal.div (∑ k, x k * x k) (Ideal.ofBits .f32 0x44800000#32) + eps = var x := by
  rw [var, num_1024, num_inv, Ideal.div_coe (by norm_num)]

/-- The row's scale. -/
def scale : EReal := Ideal.rsqrt (var x)

theorem sq_nonneg (y : EReal) : 0 ≤ y * y := by
  rcases le_total 0 y with h | h
  · exact mul_nonneg h h
  · rw [← neg_mul_neg]
    exact mul_nonneg (EReal.neg_nonneg.mpr h) (EReal.neg_nonneg.mpr h)

theorem sum_nonneg : 0 ≤ ∑ k, x k * x k := Finset.sum_nonneg fun k _ => sq_nonneg (x k)

/-- A row has a real and positive shifted mean and real entries, or a scale of zero. -/
theorem cases : (var x = ⊤ ∧ scale x = 0) ∨ ∃ v : ℝ, 0 < v ∧ var x = (v : EReal) ∧ ∀ k, ∃ y : ℝ, x k = (y : EReal) := by
  obtain ⟨e, he, heq⟩ := eps_real
  by_cases ht : ∑ k, x k * x k = ⊤
  · refine Or.inl ?_
    have hv : var x = ⊤ := by
      rw [var, ht, num_inv, EReal.top_mul_coe_of_pos (by norm_num), heq, EReal.top_add_coe]
    exact ⟨hv, by rw [scale, hv, Ideal.rsqrt_top]⟩
  · have hb : ∑ k, x k * x k ≠ ⊥ := fun h => absurd (h ▸ sum_nonneg x) (by simp)
    obtain ⟨s, hs⟩ : ∃ s : ℝ, ∑ k, x k * x k = (s : EReal) := ⟨_, (EReal.coe_toReal ht hb).symm⟩
    have hs0 : 0 ≤ s := EReal.coe_nonneg.mp (hs ▸ sum_nonneg x)
    refine Or.inr ⟨s * (1 / 1024) + e, by positivity, ?_, fun k => ?_⟩
    · rw [var, hs, num_inv, heq, ← EReal.coe_mul, ← EReal.coe_add]
    · have hk : x k * x k ≤ (s : EReal) := hs ▸ Finset.single_le_sum (f := fun k => x k * x k) (fun k _ => sq_nonneg (x k)) (Finset.mem_univ k)
      have hlt := lt_of_le_of_lt hk (EReal.coe_lt_top s)
      refine ⟨(x k).toReal, (EReal.coe_toReal (fun h => ?_) fun h => ?_).symm⟩
      · rw [h] at hlt; exact absurd hlt (by simp)
      · rw [h] at hlt; exact absurd hlt (by simp)

/-- The gradient of a row's entry, in the version's form. -/
def back (i : ι) : EReal := scale x * (d i - x i * scale x * ((∑ k, d k * (x k * scale x)) * Ideal.ofBits .f32 0x3A800000#32))

/-- What the gradient of the scale sends back, in the plain form. -/
def send : EReal := Ideal.div ((∑ k, x k * d k) * (Ideal.ofBits .f32 0xBF000000#32 * Ideal.div (scale x) (var x))) (Ideal.ofBits .f32 0x44800000#32)

theorem back_eq (i : ι) : d i * scale x + x i * send x d + send x d * x i = back x d i := by
  unfold back send
  rw [num_1024, num_inv, num_half, Ideal.div_coe (show (1024 : ℝ) ≠ 0 by norm_num)]
  rcases cases x with ⟨hv, hs⟩ | ⟨v, hv0, hv, hx⟩
  · rw [hs, hv]
    have : Ideal.div 0 ⊤ = 0 := by rw [Ideal.div, if_neg (by simp), zero_mul]
    rw [this]
    simp
  · obtain ⟨y, hy⟩ := hx i
    have hsc : scale x = (((Real.sqrt v)⁻¹ : ℝ) : EReal) := by
      rw [scale, hv, Ideal.rsqrt_coe, if_neg hv0.not_gt, if_neg hv0.ne']
    have hr : (0 : ℝ) ≤ (Real.sqrt v)⁻¹ := by positivity
    have hvr : v⁻¹ = (Real.sqrt v)⁻¹ * (Real.sqrt v)⁻¹ := by
      rw [← mul_inv, Real.mul_self_sqrt hv0.le]
    have hq : (Real.sqrt v)⁻¹ / v = (Real.sqrt v)⁻¹ * ((Real.sqrt v)⁻¹ * (Real.sqrt v)⁻¹) := by rw [div_eq_mul_inv, hvr]
    rw [hsc, hv, hy, Cert.Attn.div_reals _ _ hv0.ne', hq]
    generalize (Real.sqrt v)⁻¹ = r at hr
    have h1 : ∑ k, d k * (x k * (r : EReal)) = (r : EReal) * ∑ k, x k * d k := by
      rw [← pull _ r hr]
      refine Finset.sum_congr rfl fun k _ => ?_
      rw [← mul_assoc, mul_comm, mul_comm (d k)]
    rw [h1]
    generalize ∑ k, x k * d k = S
    rw [sub_eq_add_neg, EReal.left_distrib_of_nonneg_of_ne_top (EReal.coe_nonneg.mpr hr) (EReal.coe_ne_top r), add_assoc,
      mul_comm (d i)]
    congr 1
    rw [mul_comm _ (y : EReal), twice]
    have hl : ((2 : ℝ) : EReal) * ((y : EReal) * (S * (((-(1 / 2) : ℝ) : EReal) * ((r * (r * r) : ℝ) : EReal)) * ((1 / 1024 : ℝ) : EReal)))
        = ((2 * (y * (-(1 / 2) * (r * (r * r)) * (1 / 1024))) : ℝ) : EReal) * S := by
      simp only [EReal.coe_mul]
      ac_rfl
    have hrr : (r : EReal) * -((y : EReal) * (r : EReal) * ((r : EReal) * S * ((1 / 1024 : ℝ) : EReal)))
        = ((-(r * (y * r * (r * (1 / 1024)))) : ℝ) : EReal) * S := by
      rw [mul_neg, EReal.coe_neg, neg_mul]
      simp only [EReal.coe_mul]
      congr 1
      ac_rfl
    refine Eq.trans ?_ (hl.trans (Eq.trans ?_ hrr.symm))
    · simp
    · congr 2
      ring

end Row

end Cert.Norm

end
-- ==== Proof.Mix.lean ====
module

public import proofs.«01_k».proof.Proof.Gen.Kernel3Ideal.Frame
public import proofs.«01_k».proof.Proof.Norm
public import Idealize.ShloMosaic.Lib.Pipeline.Value
public import Idealize.ShloMosaic.Lib.Pipeline.ValueKit
public import Idealize.ShloMosaic.Lib.Tactic
public import Idealize.ShloMosaic.Lib.Pointwise
public import Idealize.ShloMosaic.Lib.WordCmp
public import Idealize.ShloMosaic.Lib.StableHlo.Run

/-! The gradient of the projection's input: what one grid point leaves in its three blocks. -/

@[expose] public section

set_option maxRecDepth 65536

noncomputable section

namespace Cert.Kernel3Ideal.Mix

open Cert.Kernel3Ideal Cert.Kernel3Ideal.Gen
open Idealize.ShloMosaic Idealize.ShloMosaic.TcCoe Idealize.ShloMosaic.Tactic Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

section Point

variable {F : FTy → Type} [FloatOps F]

/-- The mixed columns of the incoming gradient's block. -/
def mixd (x3 : Vec F S1x512x2176 .f32) : Vec F S1x512x1792 .f32 :=
  View.ld x3 (Rect.unit (s := S1x512x2176) ![0, 0, 384] S1x512x1792.size inb_S1x512x2176_S1x512x1792_0_0_384)
/-- The mixed columns of the row after the block. -/
def next (x4 : Vec F S1x8x2176 .f32) : Vec F S1x1x1792 .f32 :=
  View.ld x4 (Rect.unit (s := S1x8x2176) ![0, 0, 384] S1x1x1792.size inb_S1x8x2176_S1x1x1792_0_0_384)
/-- The columns that are not mixed. -/
def unmixed (x3 : Vec F S1x512x2176 .f32) : Vec F S1x512x384 .f32 :=
  View.ld x3 (Rect.unit (s := S1x512x2176) ![0, 0, 0] S1x512x384.size inb_S1x512x2176_S1x512x384_0_0_0)

/-- The block of the projection's gradient. -/
def tile (i : grid0.Coords) (x2 : Vec F S1x512x1024 .f32) (x3 : Vec F S1x512x2176 .f32) (x4 : Vec F S1x8x2176 .f32) (x5 : Vec F S1x1792 .f32) :
    FVec F S512x3200 .bf16 := k0_pay3 i x5 (mixd x3) (next x4) x2 (unmixed x3)

variable (c : Dev nD) (i : grid0.Coords)
  (a2 : Memref sig .tc .vmem S1x512x1024 .f32) (h2 : a2.IsWhole) (a3 : Memref sig .tc .vmem S1x512x1024 .f32) (h3 : a3.IsWhole)
  (a4 : Memref sig .tc .vmem S1x512x1024 .f32) (h4 : a4.IsWhole) (a5 : Memref sig .tc .vmem S1x512x2176 .f32) (h5 : a5.IsWhole)
  (a6 : Memref sig .tc .vmem S1x8x2176 .f32) (h6 : a6.IsWhole) (a7 : Memref sig .tc .vmem S1x1792 .f32) (h7 : a7.IsWhole)
  (a8 : Memref sig .tc .vmem S3200x1024 .bf16) (h8 : a8.IsWhole) (a9 : Memref sig .tc .vmem S1x1024 .f32) (h9 : a9.IsWhole)
  (a10 : Memref sig .tc .vmem S1x512x1024 .f32) (h10 : a10.IsWhole) (a11 : Memref sig .tc .vmem S1x512x3200 .bf16) (h11 : a11.IsWhole)
  (a12 : Memref sig .tc .vmem S1x1024 .f32) (h12 : a12.IsWhole)
  (x0 : Vec F S1x512x1024 .f32) (x1 : Vec F S1x512x1024 .f32) (x2 : Vec F S1x512x1024 .f32) (x3 : Vec F S1x512x2176 .f32)
  (x4 : Vec F S1x8x2176 .f32) (x5 : Vec F S1x1792 .f32) (x6 : Vec F S3200x1024 .bf16) (x7 : Vec F S1x1024 .f32)

theorem out_A_8 (hc : cond0_0 i) : out0_A_8 c i a2 h2 a3 h3 a4 h4 a5 h5 a6 h6 a7 h7 a8 h8 a9 h9 a10 h10 a11 h11 a12 h12 hc x0 x1 x2 x3 x4 x5 x6 x7
    = k0_pay1 (k0_pay9 (tile i x2 x3 x4 x5) x6 x0 x7) x1 := by
  unfold out0_A_8
  rw [View.read_writes_eq_canon _ _ _ (cover0_A_8 c i a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero hz3]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

theorem out_A_9 (hc : cond0_0 i) : out0_A_9 c i a2 h2 a3 h3 a4 h4 a5 h5 a6 h6 a7 h7 a8 h8 a9 h9 a10 h10 a11 h11 a12 h12 hc x0 x1 x2 x3 x4 x5 x6 x7
    = k0_pay4 (tile i x2 x3 x4 x5) := by
  unfold out0_A_9
  rw [View.read_writes_eq_canon _ _ _ (cover0_A_9 c i a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_unit_zero hz3]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

theorem out_A_10 (hc : cond0_0 i) : out0_A_10 c i a2 h2 a3 h3 a4 h4 a5 h5 a6 h6 a7 h7 a8 h8 a9 h9 a10 h10 a11 h11 a12 h12 hc x0 x1 x2 x3 x4 x5 x6 x7
    = k0_pay10 (tile i x2 x3 x4 x5) x6 x0 k0_pay2 := by
  unfold out0_A_10
  rw [View.read_writes_eq_canon _ _ _ (cover0_A_10 c i a2 h2 a3 h3 a4 h4 a5 h5 a6 h6 a7 h7 a8 h8 a9 h9 a10 h10 a11 h11 a12 h12 hc x0 x1 x2 x3 x4 x5 x6 x7)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

theorem out_B_8 (hc : ¬cond0_0 i) (y : Vec F S1x1024 .f32) : out0_B_8 c i a2 h2 a3 h3 a4 h4 a5 h5 a6 h6 a7 h7 a8 h8 a9 h9 a10 h10 a11 h11 a12 h12 hc x0 x1 x2 x3 x4 x5 x6 x7 y
    = k0_pay1 (k0_pay9 (tile i x2 x3 x4 x5) x6 x0 x7) x1 := by
  unfold out0_B_8
  rw [View.read_writes_eq_canon _ _ _ (cover0_B_8 c i a2 h2 a3 h3 a4 h4 a5 h5 a6 h6 a7 h7 a8 h8 a9 h9 a10 h10 a11 h11 a12 h12 hc x0 x1 x2 x3 x4 x5 x6 x7 y)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

theorem out_B_9 (hc : ¬cond0_0 i) (y : Vec F S1x1024 .f32) : out0_B_9 c i a2 h2 a3 h3 a4 h4 a5 h5 a6 h6 a7 h7 a8 h8 a9 h9 a10 h10 a11 h11 a12 h12 hc x0 x1 x2 x3 x4 x5 x6 x7 y
    = k0_pay4 (tile i x2 x3 x4 x5) := by
  unfold out0_B_9
  rw [View.read_writes_eq_canon _ _ _ (cover0_B_9 c i a2 h2 a3 h3 a4 h4 a5 h5 a6 h6 a7 h7 a8 h8 a9 h9 a10 h10 a11 h11 a12 h12 hc x0 x1 x2 x3 x4 x5 x6 x7 y)]
  unfold kernelRun0_B
  dsimp only
  sl_unfold_words
  rw [View.canon_unit_zero hz3]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

theorem out_B_10 (hc : ¬cond0_0 i) (y : Vec F S1x1024 .f32) : out0_B_10 c i a2 h2 a3 h3 a4 h4 a5 h5 a6 h6 a7 h7 a8 h8 a9 h9 a10 h10 a11 h11 a12 h12 hc x0 x1 x2 x3 x4 x5 x6 x7 y
    = k0_pay10 (tile i x2 x3 x4 x5) x6 x0 y := by
  unfold out0_B_10
  rw [View.read_writes_eq_canon _ _ _ (cover0_B_10 c i a2 h2 a3 h3 a4 h4 a5 h5 a6 h6 a7 h7 a8 h8 a9 h9 a10 h10 a11 h11 a12 h12 hc x0 x1 x2 x3 x4 x5 x6 x7 y)]
  unfold kernelRun0_B
  dsimp only
  sl_unfold_words
  rw [View.canon_unit_zero hz2]
  simp only [View.readAt_eq_ld, h2.read_unread, h3.read_unread, h4.read_unread, h5.read_unread, h6.read_unread, h7.read_unread,
    h8.read_unread, h9.read_unread, h12.read_unread, View.ld_unit_zero (S := S1x512x1024) hz3, View.ld_unit_zero (S := S1x1792) hz2,
    View.ld_unit_zero (S := S3200x1024) hz2, View.ld_unit_zero (S := S1x1024) hz2]
  rfl

end Point

theorem mixd_at (x3 : Vec Ideal S1x512x2176 .f32) (r : Fin 512) (j : Fin 1792) :
    mixd x3 (ix3 0 r j) = x3 (ix3 0 r ⟨j.val + 384, by omega⟩) :=
  congrArg x3 (funext fun u => by fin_cases u <;> refine Fin.ext ?_ <;> simp [Rect.unit] <;> omega)

theorem next_at (x4 : Vec Ideal S1x8x2176 .f32) (j : Fin 1792) :
    next x4 (ix3 0 0 j) = x4 (ix3 0 0 ⟨j.val + 384, by omega⟩) :=
  congrArg x4 (funext fun u => by fin_cases u <;> refine Fin.ext ?_ <;> simp [Rect.unit] <;> omega)

theorem unmixed_at (x3 : Vec Ideal S1x512x2176 .f32) (r : Fin 512) (j : Fin 384) :
    unmixed x3 (ix3 0 r j) = x3 (ix3 0 r ⟨j.val, by omega⟩) :=
  congrArg x3 (funext fun u => by fin_cases u <;> refine Fin.ext ?_ <;> simp [Rect.unit] <;> omega)

theorem last_row : ∀ r : Fin 512, IntOp.cmpi .eq (BitVec.ofNat 32 r.val) 511#32 = if r.val = 511 then 1#1 else 0#1 := by decide +kernel
theorem last_tile : ∀ k : ℕ, k < 4 → Scalar.cmpi .slt (BitVec.ofNat 32 k) 3#32 = if k < 3 then 1#1 else 0#1 := by decide +kernel

theorem picked (r : Fin 512) (k : ℕ) (hk : k < 4) (a b : EReal) : Scalar.select (IntOp.cmpi .eq (BitVec.ofNat 32 r.val) 511#32)
    (Scalar.select (Scalar.cmpi .slt (BitVec.ofNat 32 k) 3#32) a 0) b = if r.val = 511 then (if k < 3 then a else 0) else b := by
  rw [last_row, last_tile k hk]
  split_ifs <;> rfl

theorem pay3_select (i : grid0.Coords) (v5 : Vec Ideal S1x1792 .f32) (v7 : Vec Ideal S1x512x1792 .f32) (v10 : Vec Ideal S1x1x1792 .f32)
    (v28 : Vec Ideal S1x512x1024 .f32) (v30 : Vec Ideal S1x512x384 .f32) (r : Fin 512) (j : Fin 3200) :
    k0_pay3 (F := Ideal) i v5 v7 v10 v28 v30 (ix2 r j) = if h : j.val < 1024 then v28 (ix3 0 r ⟨j.val, h⟩)
      else if h' : j.val - 1024 < 384 then v30 (ix3 0 r ⟨j.val - 1024, h'⟩)
      else v7 (ix3 0 r ⟨j.val - 1024 - 384, by omega⟩) * (1 - v5 (ix2 0 ⟨j.val - 1024 - 384, by omega⟩))
        + (Scalar.select (IntOp.cmpi .eq (BitVec.ofNat 32 r.val) 511#32)
            (Scalar.select (Scalar.cmpi .slt (BitVec.ofNat 32 (i 1).val) 3#32) (v10 (ix3 0 0 ⟨j.val - 1024 - 384, by omega⟩)) 0)
            (v7 (ix3 0 ⟨(r.val + 512 - 511) % 512, Nat.mod_lt _ (by decide)⟩ ⟨j.val - 1024 - 384, by omega⟩)))
          * v5 (ix2 0 ⟨j.val - 1024 - 384, by omega⟩) := by
  pointwise [k0_pay3]

/-- The block of the projection's gradient at an index: the last block of columns mixed with the row after. -/
theorem pay3_at (i : grid0.Coords) (v5 : Vec Ideal S1x1792 .f32) (v7 : Vec Ideal S1x512x1792 .f32) (v10 : Vec Ideal S1x1x1792 .f32)
    (v28 : Vec Ideal S1x512x1024 .f32) (v30 : Vec Ideal S1x512x384 .f32) (r : Fin 512) (j : Fin 3200) :
    k0_pay3 (F := Ideal) i v5 v7 v10 v28 v30 (ix2 r j) = if h : j.val < 1024 then v28 (ix3 0 r ⟨j.val, h⟩)
      else if h' : j.val - 1024 < 384 then v30 (ix3 0 r ⟨j.val - 1024, h'⟩)
      else v7 (ix3 0 r ⟨j.val - 1024 - 384, by omega⟩) * (1 - v5 (ix2 0 ⟨j.val - 1024 - 384, by omega⟩))
        + (if r.val = 511 then (if (i 1).val < 3 then v10 (ix3 0 0 ⟨j.val - 1024 - 384, by omega⟩) else 0)
            else v7 (ix3 0 ⟨(r.val + 512 - 511) % 512, Nat.mod_lt _ (by decide)⟩ ⟨j.val - 1024 - 384, by omega⟩))
          * v5 (ix2 0 ⟨j.val - 1024 - 384, by omega⟩) := by
  refine (pay3_select ..).trans ?_
  by_cases h : j.val < 1024
  · rw [dif_pos h, dif_pos h]
  by_cases h' : j.val - 1024 < 384
  · rw [dif_neg h, dif_neg h, dif_pos h', dif_pos h']
  rw [dif_neg h, dif_neg h, dif_neg h', dif_neg h']
  exact congrArg (fun z : EReal => _ + z * v5 (ix2 0 ⟨j.val - 1024 - 384, by omega⟩)) (picked r (i 1).val (i 1).isLt _ _)

theorem pay5_at (v33 : FVec Ideal S512x3200 .bf16) (v37 : Vec Ideal S3200x1024 .bf16) (r : Fin 512) (n : Fin 1024) :
    k0_pay5 (F := Ideal) v33 v37 (ix2 r n) = ∑ j : Fin 3200, v33 (ix2 r j) * v37 (ix2 j n) := by
  pointwise [k0_pay5]

theorem pay6_at (v40 : Vec Ideal S1x512x1024 .f32) (r : Fin 512) (n : Fin 1024) :
    k0_pay6 (F := Ideal) v40 (ix2 r n) = v40 (ix3 0 r n) := by
  pointwise [k0_pay6]

theorem pay7_at (v40 : Vec Ideal S1x512x1024 .f32) (r : Fin 512) :
    k0_pay7 (F := Ideal) v40 (ix2 r 0) = Cert.Norm.scale fun n : Fin 1024 => v40 (ix3 0 r n) := by
  have h := pay6_at v40 r
  unfold k0_pay7
  generalize k0_pay6 (F := Ideal) v40 = x at h
  pointwise []
  simp only [h]
  rfl

theorem pay8_at (v40 : Vec Ideal S1x512x1024 .f32) (r : Fin 512) (n : Fin 1024) :
    k0_pay8 (F := Ideal) v40 (ix2 r n) = v40 (ix3 0 r n) * Cert.Norm.scale fun n : Fin 1024 => v40 (ix3 0 r n) := by
  have h := pay6_at v40 r
  have h7 := pay7_at v40 r
  unfold k0_pay8
  generalize k0_pay6 (F := Ideal) v40 = x at h
  generalize k0_pay7 (F := Ideal) v40 = y at h7
  pointwise []
  rw [h]
  exact congrArg _ h7

theorem pay9_at (v33 : FVec Ideal S512x3200 .bf16) (v37 : Vec Ideal S3200x1024 .bf16) (v40 : Vec Ideal S1x512x1024 .f32) (v52 : Vec Ideal S1x1024 .f32)
    (r : Fin 512) (n : Fin 1024) : k0_pay9 (F := Ideal) v33 v37 v40 v52 (ix2 r n)
      = Cert.Norm.back (fun n : Fin 1024 => v40 (ix3 0 r n)) (fun n => (∑ j : Fin 3200, v33 (ix2 r j) * v37 (ix2 j n)) * v52 (ix2 0 n)) n := by
  have h5 := pay5_at v33 v37 r
  have h7 := pay7_at v40 r
  have h8 := pay8_at v40 r
  unfold k0_pay9
  generalize k0_pay5 (F := Ideal) v33 v37 = p at h5
  generalize k0_pay7 (F := Ideal) v40 = y at h7
  generalize k0_pay8 (F := Ideal) v40 = x at h8
  pointwise []
  rw [h7]
  simp only [h5, h8]
  rfl

theorem pay1_at (v64 : FVec Ideal S512x1024 .f32) (v72 : Vec Ideal S1x512x1024 .f32) (r : Fin 512) (n : Fin 1024) :
    k0_pay1 (F := Ideal) v64 v72 (ix3 0 r n) = v72 (ix3 0 r n) + v64 (ix2 r n) := by
  pointwise [k0_pay1]

theorem pay2_at (n : Fin 1024) : (k0_pay2 (F := Ideal)) (ix2 0 n) = 0 := by
  pointwise [k0_pay2]

theorem pay4_at (v33 : FVec Ideal S512x3200 .bf16) (r : Fin 512) (j : Fin 3200) :
    k0_pay4 (F := Ideal) v33 (ix3 0 r j) = v33 (ix2 r j) := by
  pointwise [k0_pay4]

theorem pay10_at (v33 : FVec Ideal S512x3200 .bf16) (v37 : Vec Ideal S3200x1024 .bf16) (v40 : Vec Ideal S1x512x1024 .f32) (v68 : Vec Ideal S1x1024 .f32)
    (n : Fin 1024) : k0_pay10 (F := Ideal) v33 v37 v40 v68 (ix2 0 n)
      = v68 (ix2 0 n) + ∑ r : Fin 512, (∑ j : Fin 3200, v33 (ix2 r j) * v37 (ix2 j n)) * (v40 (ix3 0 r n) * Cert.Norm.scale fun n : Fin 1024 => v40 (ix3 0 r n)) := by
  have h5 := fun r => pay5_at v33 v37 r
  have h8 := fun r => pay8_at v40 r
  unfold k0_pay10
  generalize k0_pay5 (F := Ideal) v33 v37 = p at h5
  generalize k0_pay8 (F := Ideal) v40 = x at h8
  pointwise []
  simp only [h5, h8]

/-! ### The blocks -/

section Blocks

theorem coord1 : ∀ t : Fin grid0.N, (grid0.coords t 1).val = t.val % 4 := by decide +kernel

theorem idx0 : ∀ t : Fin grid0.N, win0_0.index t = ![t.val / 4, t.val % 4, 0] := by decide +kernel
theorem idx1 : ∀ t : Fin grid0.N, win0_1.index t = ![t.val / 4, t.val % 4, 0] := by decide +kernel
theorem idx2 : ∀ t : Fin grid0.N, win0_2.index t = ![t.val / 4, t.val % 4, 0] := by decide +kernel
theorem idx3 : ∀ t : Fin grid0.N, win0_3.index t = ![t.val / 4, t.val % 4, 0] := by decide +kernel
theorem idx4 : ∀ t : Fin grid0.N, win0_4.index t = ![t.val / 4, min ((t.val % 4 + 1) * 64) 255, 0] := by decide +kernel
theorem idx5 : ∀ t : Fin grid0.N, win0_5.index t = ![0, 0] := by decide +kernel
theorem idx6 : ∀ t : Fin grid0.N, win0_6.index t = ![0, 0] := by decide +kernel
theorem idx7 : ∀ t : Fin grid0.N, win0_7.index t = ![0, 0] := by decide +kernel
theorem idx8 : ∀ t : Fin grid0.N, win0_8.index t = ![t.val / 4, t.val % 4, 0] := by decide +kernel
theorem idx9 : ∀ t : Fin grid0.N, win0_9.index t = ![t.val / 4, t.val % 4, 0] := by decide +kernel
theorem idx10 : ∀ t : Fin grid0.N, win0_10.index t = ![0, 0] := by decide +kernel

variable (m : (ℓ : Loc nD τ sig) → Buf (Elt Ideal) ℓ) (c : Dev nD) (t : Fin cfg0.N)

theorem lt16 : t.val < 16 := Nat.lt_of_lt_of_eq t.isLt N_0

/-- The point's batch. -/
abbrev bt : Fin 4 := ⟨t.val / 4, by have := lt16 t; omega⟩
/-- The position of a row of the point's block. -/
abbrev ps (r : Fin 512) : Fin 2048 := ⟨t.val % 4 * 512 + r.val, by have := r.isLt; omega⟩
/-- The position of the first row of the block of eight that the point takes for the row after its own. -/
abbrev nx : Fin 2048 := ⟨min ((t.val % 4 + 1) * 64) 255 * 8, by omega⟩

theorem blk0 (r : Fin 512) (n : Fin 1024) : iblk m c 0 t (ix3 0 r n) = V m c main_arg0 (ix3 (bt t) (ps t r) n) := by
  blk_ext [iblk, idx0 t]
theorem blk1 (r : Fin 512) (n : Fin 1024) : iblk m c 1 t (ix3 0 r n) = V m c main_arg4 (ix3 (bt t) (ps t r) n) := by
  blk_ext [iblk, idx1 t]
theorem blk2 (r : Fin 512) (n : Fin 1024) : iblk m c 2 t (ix3 0 r n) = V m c main_arg7 (ix3 (bt t) (ps t r) n) := by
  blk_ext [iblk, idx2 t]
theorem blk3 (r : Fin 512) (n : Fin 2176) : iblk m c 3 t (ix3 0 r n) = V m c main_v19 (ix3 (bt t) (ps t r) n) := by
  blk_ext [iblk, idx3 t]
theorem blk4 (n : Fin 2176) : iblk m c 4 t (ix3 0 0 n) = V m c main_v19 (ix3 (bt t) (nx t) n) := by
  blk_ext [iblk, idx4 t]
theorem blk5 (n : Fin 1792) : iblk m c 5 t (ix2 0 n) = V m c main_v13 (ix2 0 n) := by
  blk_ext [iblk, idx5 t]
theorem blk6 (j : Fin 3200) (n : Fin 1024) : iblk m c 6 t (ix2 j n) = V m c main_v8 (ix2 j n) := by
  blk_ext [iblk, idx6 t]
theorem blk7 (n : Fin 1024) : iblk m c 7 t (ix2 0 n) = V m c main_arg1 (ix2 0 n) := by
  blk_ext [iblk, idx7 t]

/-- A mixed column of the row after, zero after the last. -/
def after_ (D : Vec Ideal S4x2048x2176 .f32) (b : Fin 4) (s : Fin 2048) (j : Fin 1792) : EReal :=
  if h : s.val + 1 < 2048 then D (ix3 b ⟨s.val + 1, h⟩ ⟨j.val + 384, by omega⟩) else 0

/-- The projection's gradient in the version's column order. -/
def grad (D : Vec Ideal S4x2048x2176 .f32) (M : Vec Ideal S1x1792 .f32) (Z : Vec Ideal S4x2048x1024 .f32) (b : Fin 4) (s : Fin 2048) (j : Fin 3200) : EReal :=
  if h : j.val < 1024 then Z (ix3 b s ⟨j.val, h⟩)
  else if h' : j.val - 1024 < 384 then D (ix3 b s ⟨j.val - 1024, by omega⟩)
  else D (ix3 b s ⟨j.val - 1024 - 384 + 384, by omega⟩) * (1 - M (ix2 0 ⟨j.val - 1024 - 384, by omega⟩))
    + after_ D b s ⟨j.val - 1024 - 384, by omega⟩ * M (ix2 0 ⟨j.val - 1024 - 384, by omega⟩)

/-- The point's block of it. -/
abbrev tl : FVec Ideal S512x3200 .bf16 := tile (grid0.coords t) (iblk m c 2 t) (iblk m c 3 t) (iblk m c 4 t) (iblk m c 5 t)

theorem later_at (r : Fin 512) (j : Fin 1792) :
    (if r.val = 511 then (if t.val % 4 < 3 then next (iblk m c 4 t) (ix3 0 0 j) else 0)
      else mixd (iblk m c 3 t) (ix3 0 ⟨(r.val + 512 - 511) % 512, Nat.mod_lt _ (by decide)⟩ j)) = after_ (V m c main_v19) (bt t) (ps t r) j := by
  rw [next_at, mixd_at, blk3, blk4]
  generalize V m c main_v19 = D
  have ht := lt16 t
  have hr := r.isLt
  unfold after_
  by_cases hl : r.val = 511
  · rw [if_pos hl]
    by_cases h3 : t.val % 4 < 3
    · rw [if_pos h3, dif_pos (by show t.val % 4 * 512 + r.val + 1 < 2048; omega)]
      refine congrArg (fun z : Fin 2048 => D (ix3 (bt t) z ⟨j.val + 384, by omega⟩)) (Fin.ext ?_)
      show min ((t.val % 4 + 1) * 64) 255 * 8 = t.val % 4 * 512 + r.val + 1
      omega
    · rw [if_neg h3, dif_neg (by show ¬t.val % 4 * 512 + r.val + 1 < 2048; omega)]
  · rw [if_neg hl, dif_pos (by show t.val % 4 * 512 + r.val + 1 < 2048; omega)]
    refine congrArg (fun z : Fin 2048 => D (ix3 (bt t) z ⟨j.val + 384, by omega⟩)) (Fin.ext ?_)
    show t.val % 4 * 512 + (r.val + 512 - 511) % 512 = t.val % 4 * 512 + r.val + 1
    omega

theorem tile_at (r : Fin 512) (j : Fin 3200) :
    tl m c t (ix2 r j) = grad (V m c main_v19) (V m c main_v13) (V m c main_arg7) (bt t) (ps t r) j := by
  have ht := lt16 t
  have hr := r.isLt
  have hj := j.isLt
  refine (pay3_at ..).trans ?_
  unfold grad
  by_cases h : j.val < 1024
  · rw [dif_pos h, dif_pos h, blk2]
  rw [dif_neg h, dif_neg h]
  by_cases h' : j.val - 1024 < 384
  · rw [dif_pos h', dif_pos h', unmixed_at, blk3]
  rw [dif_neg h', dif_neg h', ← later_at m c t r, coord1, mixd_at (iblk m c 3 t) r, blk3 m c t r, blk5]

/-- The gradient of the normalised rows. -/
def du (P : Fin 4 → Fin 2048 → Fin 3200 → EReal) (W : Vec Ideal S3200x1024 .bf16) (b : Fin 4) (s : Fin 2048) (n : Fin 1024) : EReal :=
  ∑ j : Fin 3200, P b s j * W (ix2 j n)

/-- The gradient of the rows. -/
def dx (X H : Vec Ideal S4x2048x1024 .f32) (G : Vec Ideal S1x1024 .f32) (U : Fin 4 → Fin 2048 → Fin 1024 → EReal) (b : Fin 4) (s : Fin 2048) (n : Fin 1024) : EReal :=
  H (ix3 b s n) + Cert.Norm.back (fun n : Fin 1024 => X (ix3 b s n)) (fun n => U b s n * G (ix2 0 n)) n

/-- A row's part of the gradient of the gains. -/
def dg (X : Vec Ideal S4x2048x1024 .f32) (U : Fin 4 → Fin 2048 → Fin 1024 → EReal) (b : Fin 4) (s : Fin 2048) (n : Fin 1024) : EReal :=
  U b s n * (X (ix3 b s n) * Cert.Norm.scale fun n : Fin 1024 => X (ix3 b s n))

/-- The projection's gradient, of the arrays at the region's entry. -/
abbrev gP : Fin 4 → Fin 2048 → Fin 3200 → EReal := grad (V m c main_v19) (V m c main_v13) (V m c main_arg7)
/-- The normalised rows' gradient, of the arrays at the region's entry. -/
abbrev gU : Fin 4 → Fin 2048 → Fin 1024 → EReal := du (gP m c) (V m c main_v8)

theorem outs8 (r : Fin 512) (n : Fin 1024) : (outsAt0 m c t.val t.isLt).1 (ix3 0 r n)
    = dx (V m c main_arg0) (V m c main_arg4) (V m c main_arg1) (gU m c) (bt t) (ps t r) n := by
  have e : (outsAt0 m c t.val t.isLt).1 = k0_pay1 (k0_pay9 (tl m c t) (iblk m c 6 t) (iblk m c 0 t) (iblk m c 7 t)) (iblk m c 1 t) := by
    by_cases h : t.val % 16 = 0
    · refine (congrArg (Prod.fst) (outsAt0_A m c t h)).trans ?_
      dsimp only
      exact out_A_8 ..
    · refine (congrArg (Prod.fst) (outsAt0_B m c t h)).trans ?_
      dsimp only
      exact out_B_8 ..
  rw [e, pay1_at, pay9_at]
  simp only [blk0, blk1, blk6, blk7, tile_at]
  rfl

theorem outs9 (r : Fin 512) (j : Fin 3200) : (outsAt0 m c t.val t.isLt).2.1 (ix3 0 r j) = gP m c (bt t) (ps t r) j := by
  have e : (outsAt0 m c t.val t.isLt).2.1 = k0_pay4 (tl m c t) := by
    by_cases h : t.val % 16 = 0
    · refine (congrArg (fun z => z.2.1) (outsAt0_A m c t h)).trans ?_
      dsimp only
      exact out_A_9 ..
    · refine (congrArg (fun z => z.2.1) (outsAt0_B m c t h)).trans ?_
      dsimp only
      exact out_B_9 ..
  rw [e, pay4_at, tile_at]

/-- A point's part of the gradient of the gains. -/
def part (n : Fin 1024) (t : ℕ) : EReal :=
  if h : t < 16 then ∑ r : Fin 512, dg (V m c main_arg0) (gU m c) ⟨t / 4, by omega⟩ ⟨t % 4 * 512 + r.val, by have := r.isLt; omega⟩ n else 0

theorem outs10 (n : Fin 1024) : ∀ (k : ℕ) (hk : k < cfg0.N), (outsAt0 m c k hk).2.2 (ix2 0 n) = ∑ s ∈ Finset.range (k + 1), part m c n s
  | 0, hk => by
    refine (congrFun (congrArg (fun z => z.2.2) (outsAt0_A m c ⟨0, hk⟩ rfl)) _).trans ?_
    dsimp only
    rw [out_A_10, pay10_at, pay2_at, zero_add]
    show _ = ∑ s ∈ Finset.range 1, _
    rw [Finset.sum_range_one, part, dif_pos (by decide)]
    simp only [blk0, blk6, tile_at]
    rfl
  | k + 1, hk => by
    have hN : k + 1 < 16 := Nat.lt_of_lt_of_eq hk N_0
    refine (congrFun (congrArg (fun z => z.2.2) (outsAt0_B m c ⟨k + 1, hk⟩ (by dsimp only; omega))) _).trans ?_
    dsimp only
    rw [out_B_10, pay10_at, Finset.sum_range_succ]
    refine congrArg₂ (· + ·) (outs10 n k _) ?_
    rw [part, dif_pos hN]
    simp only [blk0, blk6, tile_at]
    rfl

/-- The function of three numbers as an array. -/
abbrev arr3 {n : ℕ} (f : Fin 4 → Fin 2048 → Fin n → EReal) : (⟨3, ![4, 2048, n]⟩ : Shape).Idx → EReal := fun y => f (y 0) (y 1) (y 2)

theorem final8 : (dats m 0 c).arrAt 8 cfg0.N
    = arr3 (dx (V m c main_arg0) (V m c main_arg4) (V m c main_arg1) (gU m c)) := by
  refine (dats m 0 c).arrAt_eq_of_covers 8 _ (by decide +kernel) fun t hf y => ?_
  blk_simp
  rw [after0_8]
  have hy : y = ix3 0 (y 1) (y 2) := by funext u; fin_cases u <;> first | rfl | exact Subsingleton.elim (α := Fin 1) _ _
  refine (congrArg _ hy).trans ((show _ = arr3 (dx (V m c main_arg0) (V m c main_arg4) (V m c main_arg1) (gU m c)) (ix3 (bt t) (ps t (y 1)) (y 2)) from outs8 m c t (y 1) (y 2)).trans ?_)
  generalize arr3 (dx (V m c main_arg0) (V m c main_arg4) (V m c main_arg1) (gU m c)) = f
  blk_ext [idx8 t]

theorem final9 : (dats m 0 c).arrAt 9 cfg0.N = arr3 (gP m c) := by
  refine (dats m 0 c).arrAt_eq_of_covers 9 _ (by decide +kernel) fun t hf y => ?_
  blk_simp
  rw [after0_9]
  have hy : y = ix3 0 (y 1) (y 2) := by funext u; fin_cases u <;> first | rfl | exact Subsingleton.elim (α := Fin 1) _ _
  refine (congrArg _ hy).trans ((show _ = arr3 (gP m c) (ix3 (bt t) (ps t (y 1)) (y 2)) from outs9 m c t (y 1) (y 2)).trans ?_)
  generalize arr3 (gP m c) = f
  blk_ext [idx9 t]

theorem sum_parts (n : Fin 1024) : ∑ s ∈ Finset.range 16, part m c n s = ∑ b : Fin 4, ∑ s : Fin 2048, dg (V m c main_arg0) (gU m c) b s n := by
  rw [← Fin.sum_univ_eq_sum_range (fun s => part m c n s) 16]
  have e : ∀ k : Fin 16, part m c n k.val = ∑ r : Fin 512, dg (V m c main_arg0) (gU m c) ⟨k.val / 4, by omega⟩ ⟨k.val % 4 * 512 + r.val, by have := r.isLt; omega⟩ n := fun k => by
    rw [part, dif_pos k.isLt]
  simp only [e]
  generalize dg (V m c main_arg0) (gU m c) = f
  have e4 : ∀ g : Fin 16 → EReal, ∑ k : Fin 16, g k = ∑ b : Fin 4, ∑ q : Fin 4, g ⟨b.val * 4 + q.val, by omega⟩ := fun g => by
    rw [← Fintype.sum_prod_type' (f := fun (b q : Fin 4) => g ⟨b.val * 4 + q.val, by omega⟩), ← Equiv.sum_comp (finProdFinEquiv (m := 4) (n := 4)) g]
    exact Finset.sum_congr rfl fun x _ => congrArg g (Fin.ext (by simp only [finProdFinEquiv, Equiv.coe_fn_mk]; omega))
  have e5 : ∀ g : Fin 2048 → EReal, ∑ k : Fin 2048, g k = ∑ b : Fin 4, ∑ q : Fin 512, g ⟨b.val * 512 + q.val, by omega⟩ := fun g => by
    rw [← Fintype.sum_prod_type' (f := fun (b : Fin 4) (q : Fin 512) => g ⟨b.val * 512 + q.val, by omega⟩), ← Equiv.sum_comp (finProdFinEquiv (m := 4) (n := 512)) g]
    exact Finset.sum_congr rfl fun x _ => congrArg g (Fin.ext (by simp only [finProdFinEquiv, Equiv.coe_fn_mk]; omega))
  rw [e4]
  refine Finset.sum_congr rfl fun b _ => ?_
  rw [e5]
  refine Finset.sum_congr rfl fun q _ => Finset.sum_congr rfl fun r _ => ?_
  congr 1 <;> exact Fin.ext (by dsimp only; omega)

/-- The sum of all the rows' parts. -/
def gains (f : Fin 4 → Fin 2048 → Fin 1024 → EReal) : Vec Ideal S1x1024 .f32 := fun y => ∑ b : Fin 4, ∑ s : Fin 2048, f b s (y 1)

theorem final10 : (dats m 0 c).arrAt 10 cfg0.N = gains (dg (V m c main_arg0) (gU m c)) := by
  refine (dats m 0 c).arrAt_eq_of_covers 10 _ (by decide +kernel) fun t hf y => ?_
  have h15 : t.val = 15 := by have := (flush0_10 t).mp hf; have := lt16 t; omega
  blk_simp
  rw [after0_10]
  have hy : y = ix2 0 (y 1) := by funext u; fin_cases u <;> first | rfl | exact Subsingleton.elim (α := Fin 1) _ _
  refine (congrArg _ hy).trans ((outs10 m c (y 1) t.val t.isLt).trans ?_)
  rw [h15]
  refine (show _ = gains (dg (V m c main_arg0) (gU m c)) (ix2 0 (y 1)) from sum_parts m c (y 1)).trans ?_
  generalize gains (dg (V m c main_arg0) (gU m c)) = f
  blk_ext [idx10 t]

end Blocks

end Cert.Kernel3Ideal.Mix

end
-- ==== Proof.MixHost.lean ====
module

public import proofs.«01_k».proof.Proof.Mix
public import proofs.«01_k».proof.Proof.Weight

/-! The gradient of the projection's operands: what the host hands the blocked program and what it makes of the results. -/

@[expose] public section

set_option maxRecDepth 65536

noncomputable section

namespace Cert.Kernel3Ideal.Mix

open Cert.Kernel3Ideal Cert.Kernel3Ideal.Gen
open Idealize.ShloMosaic Idealize.ShloMosaic.TcCoe Idealize.ShloMosaic.Tactic Idealize.SL.Sem
open Cert.Kernel2Ideal.Weight (place place_val)

/-! ### The arrays -/

/-- The weight's columns in the version's order, with columns of zeros at the end. -/
def weight (P : Vec Ideal S1024x3136 .f32) : Vec Ideal S1024x3200 .f32 :=
  concatenate S1024x3200 1
    [⟨S1024x1024, extractStridedSlice S1024x1024 ![0, 2112] P slices_S1024x3136_S1024x1024_0_2112⟩,
      ⟨S1024x384, extractStridedSlice S1024x384 ![0, 0] P slices_S1024x3136_S1024x384_0_0⟩,
      ⟨S1024x1536, extractStridedSlice S1024x1536 ![0, 448] P slices_S1024x3136_S1024x1536_0_448⟩,
      ⟨S1024x64, extractStridedSlice S1024x64 ![0, 384] P slices_S1024x3136_S1024x64_0_384⟩,
      ⟨S1024x128, extractStridedSlice S1024x128 ![0, 1984] P slices_S1024x3136_S1024x128_0_1984⟩,
      ⟨S1024x64, broadcastInDim S1024x64 ![] bcast_S_S1024x64 (constant (F := Ideal) S_ .f32 0x00000000#32)⟩]
    concatenates_S1024x1024_S1024x384_S1024x1536_S1024x64_S1024x128_S1024x64_S1024x3200_d1

/-- The weight as the program takes it, a row for a column. -/
def weightT (P : Vec Ideal S1024x3136 .f32) : Vec Ideal S3200x1024 .bf16 :=
  transpose S3200x1024 [1, 0] (truncf .bf16 (weight P) bitsLt_bf16_f32 : FVec Ideal S1024x3200 .bf16) transposes_S1024x3200_S3200x1024_1_0

/-- The mixing coefficients, zero for the columns that are not mixed. -/
def coeffs (M : Vec Ideal S1x1664 .f32) : Vec Ideal S1x1792 .f32 :=
  concatenate S1x1792 1
    [⟨S1x1536, extractStridedSlice S1x1536 ![0, 0] M slices_S1x1664_S1x1536_0_0⟩,
      ⟨S1x64, broadcastInDim S1x64 ![] bcast_S_S1x64 (constant (F := Ideal) S_ .f32 0x00000000#32)⟩,
      ⟨S1x128, extractStridedSlice S1x128 ![0, 1536] M slices_S1x1664_S1x128_0_1536⟩,
      ⟨S1x64, broadcastInDim S1x64 ![] bcast_S_S1x64 (constant (F := Ideal) S_ .f32 0x00000000#32)⟩]
    concatenates_S1x1536_S1x64_S1x128_S1x64_S1x1792_d1

/-- The incoming gradients of the first two parts of the projection, in the version's order. -/
def parts (A : Vec Ideal S4x2048x448 .f32) (B : Vec Ideal S4x2048x1664 .f32) : Vec Ideal S4x2048x2176 .f32 :=
  concatenate S4x2048x2176 2
    [⟨S4x2048x384, extractStridedSlice S4x2048x384 ![0, 0, 0] A slices_S4x2048x448_S4x2048x384_0_0_0⟩,
      ⟨S4x2048x1536, extractStridedSlice S4x2048x1536 ![0, 0, 0] B slices_S4x2048x1664_S4x2048x1536_0_0_0⟩,
      ⟨S4x2048x64, extractStridedSlice S4x2048x64 ![0, 0, 384] A slices_S4x2048x448_S4x2048x64_0_0_384⟩,
      ⟨S4x2048x128, extractStridedSlice S4x2048x128 ![0, 0, 1536] B slices_S4x2048x1664_S4x2048x128_0_0_1536⟩,
      ⟨S4x2048x64, broadcastInDim S4x2048x64 ![] bcast_S_S4x2048x64 (constant (F := Ideal) S_ .f32 0x00000000#32)⟩]
    concatenates_S4x2048x384_S4x2048x1536_S4x2048x64_S4x2048x128_S4x2048x64_S4x2048x2176_d2

/-- The columns of the projection's gradient put back into the projection's order. -/
def restored (W : Vec Ideal S4x2048x3200 .f32) : Vec Ideal S4x2048x3136 .f32 :=
  concatenate S4x2048x3136 2
    [⟨S4x2048x384, extractStridedSlice S4x2048x384 ![0, 0, 1024] W slices_S4x2048x3200_S4x2048x384_0_0_1024⟩,
      ⟨S4x2048x64, extractStridedSlice S4x2048x64 ![0, 0, 2944] W slices_S4x2048x3200_S4x2048x64_0_0_2944⟩,
      ⟨S4x2048x1536, extractStridedSlice S4x2048x1536 ![0, 0, 1408] W slices_S4x2048x3200_S4x2048x1536_0_0_1408⟩,
      ⟨S4x2048x128, extractStridedSlice S4x2048x128 ![0, 0, 3008] W slices_S4x2048x3200_S4x2048x128_0_0_3008⟩,
      ⟨S4x2048x1024, extractStridedSlice S4x2048x1024 ![0, 0, 0] W slices_S4x2048x3200_S4x2048x1024_0_0_0⟩]
    concatenates_S4x2048x384_S4x2048x64_S4x2048x1536_S4x2048x128_S4x2048x1024_S4x2048x3136_d2

theorem restored_at (W : Vec Ideal S4x2048x3200 .f32) (b : Fin 4) (s : Fin 2048) (n : Fin 3136) :
    restored W (ix3 b s n) = W (ix3 b s (place n)) := by
  pointwise [restored]
  have hn := n.isLt
  simp only [place]
  split_ifs <;> congr 2 <;> (try apply Fin.ext) <;> simp only <;> (try split_ifs) <;> omega

theorem coeffs_mixed (M : Vec Ideal S1x1664 .f32) (k : Fin 1536) : coeffs M (ix2 0 ⟨k.val, by omega⟩) = M (ix2 0 ⟨k.val, by omega⟩) := by
  have hk := k.isLt
  pointwise [coeffs]

theorem coeffs_plain (M : Vec Ideal S1x1664 .f32) (k : Fin 64) : coeffs M (ix2 0 ⟨1536 + k.val, by omega⟩) = 0 := by
  have hk := k.isLt
  pointwise [coeffs]

theorem coeffs_last (M : Vec Ideal S1x1664 .f32) (k : Fin 128) : coeffs M (ix2 0 ⟨1600 + k.val, by omega⟩) = M (ix2 0 ⟨1536 + k.val, by omega⟩) := by
  have hk := k.isLt
  pointwise [coeffs]
  rw [dif_neg (by omega), dif_neg (by omega), dif_pos (by omega)]
  exact congrArg (fun x => M (ix2 0 x)) (Fin.ext (by simp only; omega))

theorem parts_first (A : Vec Ideal S4x2048x448 .f32) (B : Vec Ideal S4x2048x1664 .f32) (b : Fin 4) (s : Fin 2048) (k : Fin 384) :
    parts A B (ix3 b s ⟨k.val, by omega⟩) = A (ix3 b s ⟨k.val, by omega⟩) := by
  have hk := k.isLt
  pointwise [parts]

theorem parts_mixed (A : Vec Ideal S4x2048x448 .f32) (B : Vec Ideal S4x2048x1664 .f32) (b : Fin 4) (s : Fin 2048) (k : Fin 1536) :
    parts A B (ix3 b s ⟨k.val + 384, by omega⟩) = B (ix3 b s ⟨k.val, by omega⟩) := by
  have hk := k.isLt
  pointwise [parts]
  rw [dif_neg (by omega), dif_pos (by omega)]
  exact congrArg (fun x => B (ix3 b s x)) (Fin.ext (by simp only; omega))

theorem parts_plain (A : Vec Ideal S4x2048x448 .f32) (B : Vec Ideal S4x2048x1664 .f32) (b : Fin 4) (s : Fin 2048) (k : Fin 64) :
    parts A B (ix3 b s ⟨1536 + k.val + 384, by omega⟩) = A (ix3 b s ⟨384 + k.val, by omega⟩) := by
  have hk := k.isLt
  pointwise [parts]
  rw [dif_neg (by omega), dif_neg (by omega), dif_pos (by omega)]
  exact congrArg (fun x => A (ix3 b s x)) (Fin.ext (by simp only; omega))

theorem parts_last (A : Vec Ideal S4x2048x448 .f32) (B : Vec Ideal S4x2048x1664 .f32) (b : Fin 4) (s : Fin 2048) (k : Fin 128) :
    parts A B (ix3 b s ⟨1600 + k.val + 384, by omega⟩) = B (ix3 b s ⟨1536 + k.val, by omega⟩) := by
  have hk := k.isLt
  pointwise [parts]
  rw [dif_neg (by omega), dif_neg (by omega), dif_neg (by omega), dif_pos (by omega)]
  exact congrArg (fun x => B (ix3 b s x)) (Fin.ext (by simp only; omega))

theorem weightT_at (P : Vec Ideal S1024x3136 .f32) (j : Fin 3200) (n : Fin 1024) :
    weightT P (ix2 j n) = weight P (ix2 n j) := by
  unfold weightT
  generalize weight P = Z
  pointwise []

theorem weight_at (P : Vec Ideal S1024x3136 .f32) (j : Fin 3200) (n : Fin 1024) :
    weight P (ix2 n j) = if h : j.val < 1024 then P (ix2 n ⟨2112 + j.val, by omega⟩)
      else if h : j.val - 1024 < 384 then P (ix2 n ⟨j.val - 1024, by omega⟩)
      else if h : j.val - 1024 - 384 < 1536 then P (ix2 n ⟨448 + (j.val - 1024 - 384), by omega⟩)
      else if h : j.val - 1024 - 384 - 1536 < 64 then P (ix2 n ⟨384 + (j.val - 1024 - 384 - 1536), by omega⟩)
      else if h : j.val - 1024 - 384 - 1536 - 64 < 128 then P (ix2 n ⟨1984 + (j.val - 1024 - 384 - 1536 - 64), by omega⟩) else 0 := by
  pointwise [weight]

theorem weightT_place (P : Vec Ideal S1024x3136 .f32) (j : Fin 3136) (n : Fin 1024) :
    weightT P (ix2 (place j) n) = P (ix2 n j) := by
  rw [weightT_at, weight_at]
  have hj := j.isLt
  have hp := place_val j
  generalize place j = q at hp
  split_ifs at hp <;> split_ifs <;>
    first | omega | exact congrArg (fun x => P (ix2 n x)) (Fin.ext (by simp only; omega))

theorem weightT_end (P : Vec Ideal S1024x3136 .f32) (j : Fin 3200) (n : Fin 1024) (hj : 3136 ≤ j.val) :
    weightT P (ix2 j n) = 0 := by
  rw [weightT_at, weight_at, dif_neg (by omega), dif_neg (by omega), dif_neg (by omega), dif_neg (by omega), dif_neg (by omega)]

theorem place_inj : Function.Injective place := fun p q h => by
  have h' : (place p).val = (place q).val := congrArg Fin.val h
  rw [place_val, place_val] at h'
  have := p.isLt
  have := q.isLt
  refine Fin.ext ?_
  split_ifs at h' <;> omega

theorem place_onto (j : Fin 3200) (hj : j.val < 3136) : ∃ n, place n = j := by
  refine ⟨⟨if j.val < 1024 then j.val + 2112 else if j.val < 1408 then j.val - 1024 else if j.val < 2944 then j.val - 960
    else if j.val < 3008 then j.val - 2560 else j.val - 1024, by split_ifs <;> omega⟩, Fin.ext ?_⟩
  rw [place_val]
  dsimp only
  split_ifs <;> omega

/-- A product with the weight, over the version's columns, is the sum over the projection's own. -/
theorem sum_place (f : Fin 3200 → EReal) (P : Vec Ideal S1024x3136 .f32) (n : Fin 1024) :
    ∑ j : Fin 3200, f j * weightT P (ix2 j n) = ∑ k : Fin 3136, f (place k) * P (ix2 n k) := by
  refine (Fintype.sum_of_injective place place_inj _ _ (fun j hj => ?_) fun k => ?_).symm
  · rw [weightT_end P j n (by
      by_contra h
      obtain ⟨k, hk⟩ := place_onto j (by omega)
      exact hj ⟨k, hk⟩), mul_zero]
  · rw [weightT_place]

/-! ### The projection's gradient -/

/-- A coefficient's part of a row after, zero after the last. -/
def follow (B : Vec Ideal S4x2048x1664 .f32) (b : Fin 4) (s : Fin 2048) (k : Fin 1664) : EReal :=
  if h : s.val + 1 < 2048 then B (ix3 b ⟨s.val + 1, h⟩ k) else 0

/-- The projection's gradient in the projection's order. -/
def plain (A : Vec Ideal S4x2048x448 .f32) (B : Vec Ideal S4x2048x1664 .f32) (M : Vec Ideal S1x1664 .f32) (Z : Vec Ideal S4x2048x1024 .f32)
    (b : Fin 4) (s : Fin 2048) (n : Fin 3136) : EReal :=
  if h : n.val < 448 then A (ix3 b s ⟨n.val, h⟩)
  else if h' : n.val - 448 < 1664 then
    B (ix3 b s ⟨n.val - 448, h'⟩) * (1 - M (ix2 0 ⟨n.val - 448, h'⟩)) + follow B b s ⟨n.val - 448, h'⟩ * M (ix2 0 ⟨n.val - 448, h'⟩)
  else Z (ix3 b s ⟨n.val - 448 - 1664, by omega⟩)

theorem after_mixed (A : Vec Ideal S4x2048x448 .f32) (B : Vec Ideal S4x2048x1664 .f32) (b : Fin 4) (s : Fin 2048) (k : Fin 1536) :
    after_ (parts A B) b s ⟨k.val, by omega⟩ = follow B b s ⟨k.val, by omega⟩ := by
  unfold after_ follow
  split_ifs
  · exact parts_mixed A B b _ k
  · rfl

theorem after_last (A : Vec Ideal S4x2048x448 .f32) (B : Vec Ideal S4x2048x1664 .f32) (b : Fin 4) (s : Fin 2048) (k : Fin 128) :
    after_ (parts A B) b s ⟨1600 + k.val, by omega⟩ = follow B b s ⟨1536 + k.val, by omega⟩ := by
  unfold after_ follow
  split_ifs
  · exact parts_last A B b _ k
  · rfl

/-- The version's gradient at a mixed column given by its place among the mixed ones. -/
theorem grad_mixed (D : Vec Ideal S4x2048x2176 .f32) (M : Vec Ideal S1x1792 .f32) (Z : Vec Ideal S4x2048x1024 .f32) (b : Fin 4) (s : Fin 2048)
    (j : Fin 3200) (k : Fin 1792) (h : j.val = 1408 + k.val) :
    grad D M Z b s j = D (ix3 b s ⟨k.val + 384, by omega⟩) * (1 - M (ix2 0 k)) + after_ D b s k * M (ix2 0 k) := by
  have e : j.val - 1024 - 384 = k.val := by omega
  unfold grad
  rw [dif_neg (by omega), dif_neg (by omega)]
  simp only [e]

theorem grad_place (A : Vec Ideal S4x2048x448 .f32) (B : Vec Ideal S4x2048x1664 .f32) (M : Vec Ideal S1x1664 .f32) (Z : Vec Ideal S4x2048x1024 .f32)
    (b : Fin 4) (s : Fin 2048) (n : Fin 3136) :
    grad (parts A B) (coeffs M) Z b s (place n) = plain A B M Z b s n := by
  have hn := n.isLt
  have hp := place_val n
  generalize place n = q at hp
  unfold plain
  by_cases h0 : n.val < 384
  · rw [if_pos h0] at hp
    rw [dif_pos (by omega)]
    unfold grad
    rw [dif_neg (by omega), dif_pos (by omega)]
    refine Eq.trans ?_ (parts_first A B b s ⟨n.val, h0⟩)
    exact congrArg (fun x => parts A B (ix3 b s x)) (Fin.ext (by simp only; omega))
  by_cases h1 : n.val < 448
  · rw [if_neg h0, if_pos h1] at hp
    rw [dif_pos h1]
    refine (grad_mixed _ _ _ b s q ⟨1536 + (⟨n.val - 384, by omega⟩ : Fin 64).val, by simp only; omega⟩ (by simp only; omega)).trans ?_
    rw [coeffs_plain, mul_zero, sub_zero, mul_one, add_zero]
    refine (parts_plain A B b s _).trans ?_
    exact congrArg (fun x => A (ix3 b s x)) (Fin.ext (by simp only; omega))
  by_cases h2 : n.val < 1984
  · rw [if_neg h0, if_neg h1, if_pos h2] at hp
    rw [dif_neg h1, dif_pos (by omega)]
    refine (grad_mixed _ _ _ b s q ⟨(⟨n.val - 448, by omega⟩ : Fin 1536).val, by simp only; omega⟩ (by simp only; omega)).trans ?_
    rw [coeffs_mixed, after_mixed, parts_mixed A B b s ⟨n.val - 448, by omega⟩]
  by_cases h3 : n.val < 2112
  · rw [if_neg h0, if_neg h1, if_neg h2, if_pos h3] at hp
    rw [dif_neg h1, dif_pos (by omega)]
    refine (grad_mixed _ _ _ b s q ⟨1600 + (⟨n.val - 1984, by omega⟩ : Fin 128).val, by simp only; omega⟩ (by simp only; omega)).trans ?_
    rw [coeffs_last, after_last, parts_last A B b s ⟨n.val - 1984, by omega⟩]
    have e : (⟨1536 + (⟨n.val - 1984, by omega⟩ : Fin 128).val, by simp only; omega⟩ : Fin 1664) = ⟨n.val - 448, by omega⟩ :=
      Fin.ext (by simp only; omega)
    rw [e]
  · rw [if_neg h0, if_neg h1, if_neg h2, if_neg h3] at hp
    rw [dif_neg h1, dif_neg (by omega)]
    unfold grad
    rw [dif_pos (by omega)]
    exact congrArg (fun x => Z (ix3 b s x)) (Fin.ext (by simp only; omega))

/-! ### The host before and after -/

section Host

variable (m : (ℓ : Loc nD τ sig) → Buf (Elt Ideal) ℓ) (c : Dev nD)

/-- The weight's columns are put in the version's order first. -/
theorem first_v6 (W : Valuation τ sig (Elt Ideal)) :
    StableHlo.after (hostOps0.take 8) W (Proc.devRef .tc main_v6) = weight (W (Proc.devRef .tc main_arg2)) := by
  have e : StableHlo.after (hostOps0.take 8) W = ((hostOps0 (F := Ideal))[7]).result (StableHlo.after (hostOps0.take 7) W) := rfl
  have h0 : StableHlo.after (hostOps0.take 7) W (Proc.devRef .tc main_v0) = extractStridedSlice S1024x1024 ![0, 2112] (W (Proc.devRef .tc main_arg2) : Vec Ideal S1024x3136 .f32) slices_S1024x3136_S1024x1024_0_2112 := by
    simp only [List.take_succ_cons, List.take_zero, List.drop_succ_cons, List.drop_zero]; after_results_simp
  have h1 : StableHlo.after (hostOps0.take 7) W (Proc.devRef .tc main_v1) = extractStridedSlice S1024x384 ![0, 0] (W (Proc.devRef .tc main_arg2) : Vec Ideal S1024x3136 .f32) slices_S1024x3136_S1024x384_0_0 := by
    simp only [List.take_succ_cons, List.take_zero, List.drop_succ_cons, List.drop_zero]; after_results_simp
  have h2 : StableHlo.after (hostOps0.take 7) W (Proc.devRef .tc main_v2) = extractStridedSlice S1024x1536 ![0, 448] (W (Proc.devRef .tc main_arg2) : Vec Ideal S1024x3136 .f32) slices_S1024x3136_S1024x1536_0_448 := by
    simp only [List.take_succ_cons, List.take_zero, List.drop_succ_cons, List.drop_zero]; after_results_simp
  have h3 : StableHlo.after (hostOps0.take 7) W (Proc.devRef .tc main_v3) = extractStridedSlice S1024x64 ![0, 384] (W (Proc.devRef .tc main_arg2) : Vec Ideal S1024x3136 .f32) slices_S1024x3136_S1024x64_0_384 := by
    simp only [List.take_succ_cons, List.take_zero, List.drop_succ_cons, List.drop_zero]; after_results_simp
  have h4 : StableHlo.after (hostOps0.take 7) W (Proc.devRef .tc main_v4) = extractStridedSlice S1024x128 ![0, 1984] (W (Proc.devRef .tc main_arg2) : Vec Ideal S1024x3136 .f32) slices_S1024x3136_S1024x128_0_1984 := by
    simp only [List.take_succ_cons, List.take_zero, List.drop_succ_cons, List.drop_zero]; after_results_simp
  have h5 : StableHlo.after (hostOps0.take 7) W (Proc.devRef .tc main_v5) = broadcastInDim S1024x64 ![] bcast_S_S1024x64 (constant (F := Ideal) S_ .f32 0x00000000#32) := by
    simp only [List.take_succ_cons, List.take_zero, List.drop_succ_cons, List.drop_zero]; after_results_simp
  rw [e]
  generalize StableHlo.after (hostOps0.take 7) W = Y at h0 h1 h2 h3 h4 h5
  simp only [List.getElem_cons_succ, List.getElem_cons_zero]
  refine (StableHlo.nary_result ..).trans ?_
  unfold weight
  rw [← h0, ← h1, ← h2, ← h3, ← h4, ← h5]
  rfl

/-- The mixing coefficients come next. -/
theorem next_v13 (W : Valuation τ sig (Elt Ideal)) :
    StableHlo.after ((hostOps0.take 17).drop 8) W (Proc.devRef .tc main_v13) = coeffs (W (Proc.devRef .tc main_arg3)) := by
  have e : StableHlo.after ((hostOps0.take 17).drop 8) W = ((hostOps0 (F := Ideal))[16]).result (StableHlo.after ((hostOps0.take 16).drop 8) W) := rfl
  have h0 : StableHlo.after ((hostOps0.take 16).drop 8) W (Proc.devRef .tc main_v9) = extractStridedSlice S1x1536 ![0, 0] (W (Proc.devRef .tc main_arg3) : Vec Ideal S1x1664 .f32) slices_S1x1664_S1x1536_0_0 := by
    simp only [List.take_succ_cons, List.take_zero, List.drop_succ_cons, List.drop_zero]; after_results_simp
  have h1 : StableHlo.after ((hostOps0.take 16).drop 8) W (Proc.devRef .tc main_v10) = broadcastInDim S1x64 ![] bcast_S_S1x64 (constant (F := Ideal) S_ .f32 0x00000000#32) := by
    simp only [List.take_succ_cons, List.take_zero, List.drop_succ_cons, List.drop_zero]; after_results_simp
  have h2 : StableHlo.after ((hostOps0.take 16).drop 8) W (Proc.devRef .tc main_v11) = extractStridedSlice S1x128 ![0, 1536] (W (Proc.devRef .tc main_arg3) : Vec Ideal S1x1664 .f32) slices_S1x1664_S1x128_0_1536 := by
    simp only [List.take_succ_cons, List.take_zero, List.drop_succ_cons, List.drop_zero]; after_results_simp
  have h3 : StableHlo.after ((hostOps0.take 16).drop 8) W (Proc.devRef .tc main_v12) = broadcastInDim S1x64 ![] bcast_S_S1x64 (constant (F := Ideal) S_ .f32 0x00000000#32) := by
    simp only [List.take_succ_cons, List.take_zero, List.drop_succ_cons, List.drop_zero]; after_results_simp
  rw [e]
  generalize StableHlo.after ((hostOps0.take 16).drop 8) W = Y at h0 h1 h2 h3
  simp only [List.getElem_cons_succ, List.getElem_cons_zero]
  refine (StableHlo.nary_result ..).trans ?_
  unfold coeffs
  show concatenate S1x1792 1
    [⟨S1x1536, (Y (Proc.devRef .tc main_v9) : Vec Ideal S1x1536 .f32)⟩, ⟨S1x64, (Y (Proc.devRef .tc main_v10) : Vec Ideal S1x64 .f32)⟩,
      ⟨S1x128, (Y (Proc.devRef .tc main_v11) : Vec Ideal S1x128 .f32)⟩, ⟨S1x64, (Y (Proc.devRef .tc main_v12) : Vec Ideal S1x64 .f32)⟩]
    concatenates_S1x1536_S1x64_S1x128_S1x64_S1x1792_d1 = _
  rw [h0, h1, h2, h3]

/-- The incoming gradients come last. -/
theorem last_v19 (W : Valuation τ sig (Elt Ideal)) :
    StableHlo.after (hostOps0.drop 17) W (Proc.devRef .tc main_v19) = parts (W (Proc.devRef .tc main_arg5)) (W (Proc.devRef .tc main_arg6)) := by
  have e : StableHlo.after (hostOps0.drop 17) W = ((hostOps0 (F := Ideal))[23]).result (StableHlo.after ((hostOps0.take 23).drop 17) W) := rfl
  have h0 : StableHlo.after ((hostOps0.take 23).drop 17) W (Proc.devRef .tc main_v14) = extractStridedSlice S4x2048x384 ![0, 0, 0] (W (Proc.devRef .tc main_arg5) : Vec Ideal S4x2048x448 .f32) slices_S4x2048x448_S4x2048x384_0_0_0 := by
    simp only [List.take_succ_cons, List.take_zero, List.drop_succ_cons, List.drop_zero]; after_results_simp
  have h1 : StableHlo.after ((hostOps0.take 23).drop 17) W (Proc.devRef .tc main_v15) = extractStridedSlice S4x2048x1536 ![0, 0, 0] (W (Proc.devRef .tc main_arg6) : Vec Ideal S4x2048x1664 .f32) slices_S4x2048x1664_S4x2048x1536_0_0_0 := by
    simp only [List.take_succ_cons, List.take_zero, List.drop_succ_cons, List.drop_zero]; after_results_simp
  have h2 : StableHlo.after ((hostOps0.take 23).drop 17) W (Proc.devRef .tc main_v16) = extractStridedSlice S4x2048x64 ![0, 0, 384] (W (Proc.devRef .tc main_arg5) : Vec Ideal S4x2048x448 .f32) slices_S4x2048x448_S4x2048x64_0_0_384 := by
    simp only [List.take_succ_cons, List.take_zero, List.drop_succ_cons, List.drop_zero]; after_results_simp
  have h3 : StableHlo.after ((hostOps0.take 23).drop 17) W (Proc.devRef .tc main_v17) = extractStridedSlice S4x2048x128 ![0, 0, 1536] (W (Proc.devRef .tc main_arg6) : Vec Ideal S4x2048x1664 .f32) slices_S4x2048x1664_S4x2048x128_0_0_1536 := by
    simp only [List.take_succ_cons, List.take_zero, List.drop_succ_cons, List.drop_zero]; after_results_simp
  have h4 : StableHlo.after ((hostOps0.take 23).drop 17) W (Proc.devRef .tc main_v18) = broadcastInDim S4x2048x64 ![] bcast_S_S4x2048x64 (constant (F := Ideal) S_ .f32 0x00000000#32) := by
    simp only [List.take_succ_cons, List.take_zero, List.drop_succ_cons, List.drop_zero]; after_results_simp
  rw [e]
  generalize StableHlo.after ((hostOps0.take 23).drop 17) W = Y at h0 h1 h2 h3 h4
  simp only [List.getElem_cons_succ, List.getElem_cons_zero]
  refine (StableHlo.nary_result ..).trans ?_
  unfold parts
  rw [← h0, ← h1, ← h2, ← h3, ← h4]
  rfl

/-- The stretches of the host's lines before the program. -/
abbrev stretch₁ : Valuation τ sig (Elt Ideal) := StableHlo.after (hostOps0.take 8) fun b => m (c, b)
/-- After the mixing coefficients. -/
abbrev stretch₂ : Valuation τ sig (Elt Ideal) := StableHlo.after ((hostOps0.take 17).drop 8) (stretch₁ m c)

theorem V_stretch (b : Ref sig .tc) : V m c b = StableHlo.after (hostOps0.drop 17) (stretch₂ m c) (Proc.devRef .tc b) := rfl

theorem V_main_v8 : V m c main_v8 = weightT (m ((c.tc : Thread nD τ).loc main_arg2)) := by
  refine (V_stretch m c main_v8).trans ?_
  have h := first_v6 (fun b => m (c, b))
  unfold stretch₂ stretch₁
  generalize StableHlo.after (hostOps0.take 8) (fun b => m (c, b)) = Y at h
  have h2 : StableHlo.after ((hostOps0.take 17).drop 8) Y (Proc.devRef .tc main_v8) = weightT (m (c, Proc.devRef .tc main_arg2)) := by
    simp only [List.take_succ_cons, List.take_zero, List.drop_succ_cons, List.drop_zero]
    after_results_simp
    rw [h]
    rfl
  generalize StableHlo.after ((hostOps0.take 17).drop 8) Y = Z at h2
  simp only [List.drop_succ_cons, List.drop_zero]
  after_results_simp
  exact h2

theorem V_main_v13 : V m c main_v13 = coeffs (m ((c.tc : Thread nD τ).loc main_arg3)) := by
  refine (V_stretch m c main_v13).trans ?_
  have h : stretch₁ m c (Proc.devRef .tc main_arg3) = m (c, Proc.devRef .tc main_arg3) := by
    unfold stretch₁
    simp only [List.take_succ_cons, List.take_zero]
    after_results_simp
  have h2 := next_v13 (stretch₁ m c)
  rw [h] at h2
  unfold stretch₂
  generalize StableHlo.after ((hostOps0.take 17).drop 8) (stretch₁ m c) = Z at h2
  simp only [List.drop_succ_cons, List.drop_zero]
  after_results_simp
  exact h2

theorem V_main_v19 : V m c main_v19 = parts (m ((c.tc : Thread nD τ).loc main_arg5)) (m ((c.tc : Thread nD τ).loc main_arg6)) := by
  refine (V_stretch m c main_v19).trans ((last_v19 (stretch₂ m c)).trans ?_)
  have h5 : stretch₂ m c (Proc.devRef .tc main_arg5) = m (c, Proc.devRef .tc main_arg5) := by
    unfold stretch₂ stretch₁
    simp only [List.take_succ_cons, List.take_zero, List.drop_succ_cons, List.drop_zero]
    after_results_simp
  have h6 : stretch₂ m c (Proc.devRef .tc main_arg6) = m (c, Proc.devRef .tc main_arg6) := by
    unfold stretch₂ stretch₁
    simp only [List.take_succ_cons, List.take_zero, List.drop_succ_cons, List.drop_zero]
    after_results_simp
  exact congrArg₂ parts h5 h6

/-- The host's last lines: the columns of the projection's gradient, put back. -/
theorem last_v27 (W : Valuation τ sig (Elt Ideal)) :
    StableHlo.after (hostOps1) W (Proc.devRef .tc main_v27) = restored (extf .f32 (W (Proc.devRef .tc main_v20_1) : FVec Ideal S4x2048x3200 .bf16) bitsLt_bf16_f32 : FVec Ideal S4x2048x3200 .f32) := by
  have e : StableHlo.after (hostOps1) W = ((hostOps1 (F := Ideal))[6]).result (StableHlo.after (hostOps1.take 6) W) := rfl
  have h0 : StableHlo.after (hostOps1.take 6) W (Proc.devRef .tc main_v22) = extractStridedSlice S4x2048x384 ![0, 0, 1024] (extf .f32 (W (Proc.devRef .tc main_v20_1) : FVec Ideal S4x2048x3200 .bf16) bitsLt_bf16_f32 : FVec Ideal S4x2048x3200 .f32) slices_S4x2048x3200_S4x2048x384_0_0_1024 := by
    simp only [List.take_succ_cons, List.take_zero, List.drop_succ_cons, List.drop_zero]; after_results_simp
  have h1 : StableHlo.after (hostOps1.take 6) W (Proc.devRef .tc main_v23) = extractStridedSlice S4x2048x64 ![0, 0, 2944] (extf .f32 (W (Proc.devRef .tc main_v20_1) : FVec Ideal S4x2048x3200 .bf16) bitsLt_bf16_f32 : FVec Ideal S4x2048x3200 .f32) slices_S4x2048x3200_S4x2048x64_0_0_2944 := by
    simp only [List.take_succ_cons, List.take_zero, List.drop_succ_cons, List.drop_zero]; after_results_simp
  have h2 : StableHlo.after (hostOps1.take 6) W (Proc.devRef .tc main_v24) = extractStridedSlice S4x2048x1536 ![0, 0, 1408] (extf .f32 (W (Proc.devRef .tc main_v20_1) : FVec Ideal S4x2048x3200 .bf16) bitsLt_bf16_f32 : FVec Ideal S4x2048x3200 .f32) slices_S4x2048x3200_S4x2048x1536_0_0_1408 := by
    simp only [List.take_succ_cons, List.take_zero, List.drop_succ_cons, List.drop_zero]; after_results_simp
  have h3 : StableHlo.after (hostOps1.take 6) W (Proc.devRef .tc main_v25) = extractStridedSlice S4x2048x128 ![0, 0, 3008] (extf .f32 (W (Proc.devRef .tc main_v20_1) : FVec Ideal S4x2048x3200 .bf16) bitsLt_bf16_f32 : FVec Ideal S4x2048x3200 .f32) slices_S4x2048x3200_S4x2048x128_0_0_3008 := by
    simp only [List.take_succ_cons, List.take_zero, List.drop_succ_cons, List.drop_zero]; after_results_simp
  have h4 : StableHlo.after (hostOps1.take 6) W (Proc.devRef .tc main_v26) = extractStridedSlice S4x2048x1024 ![0, 0, 0] (extf .f32 (W (Proc.devRef .tc main_v20_1) : FVec Ideal S4x2048x3200 .bf16) bitsLt_bf16_f32 : FVec Ideal S4x2048x3200 .f32) slices_S4x2048x3200_S4x2048x1024_0_0_0 := by
    simp only [List.take_succ_cons, List.take_zero, List.drop_succ_cons, List.drop_zero]; after_results_simp
  rw [e]
  generalize StableHlo.after (hostOps1.take 6) W = Y at h0 h1 h2 h3 h4
  simp only [List.getElem_cons_succ, List.getElem_cons_zero]
  refine (StableHlo.nary_result ..).trans ?_
  unfold restored
  rw [← h0, ← h1, ← h2, ← h3, ← h4]
  rfl

theorem tail : Pipeline.afterTail₀ cfgs (dats m) 0 (V0 m) [hostOps1] c main_v27 = restored (arr3 (gP m c)) := by
  unfold Pipeline.afterTail₀
  rw [show ([hostOps1] : List (List (HloOp τ sig (Elt Ideal)))).flatten = hostOps1 from rfl, last_v27]
  refine congrArg restored (Eq.trans ?_ (final9 m c))
  exact (dats m 0 c).withArrays_arrAt sharedIn0 (V0 m c) (A_eq m c) 9

end Host

end Cert.Kernel3Ideal.Mix

end
-- ==== Proof.PreMix.lean ====
module

public import proofs.«01_k».proof.Pre_finite3
public import proofs.«01_k».proof.Proof.Pre

/-! What the condition on the arguments of the projection's input gradient says: the gradient of the mixed columns is of reals. -/

@[expose] public section

noncomputable section

namespace Cert.Pre_finite3

open Idealize.ShloMosaic

theorem facts : Facts where
  bcast_S_S4x2048x1664 := by decide
  reducesTo_S4x2048x1664_S_d0_1_2 := by decide
  h_S_ := by decide

variable [Facts]
open Facts

instance : Subsingleton S_.Idx := ⟨fun a b => funext fun k => k.elim0⟩

/-- Every entry of the gradient of the mixed columns is a real. -/
theorem real (X : FVec Ideal S4x2048x1024 .f32) (G : FVec Ideal S1x1024 .f32) (W : FVec Ideal S1024x3136 .f32) (M : FVec Ideal S1x1664 .f32)
    (H : FVec Ideal S4x2048x1024 .f32) (A : FVec Ideal S4x2048x448 .f32) (P : FVec Ideal S4x2048x1664 .f32) (Z : FVec Ideal S4x2048x1024 .f32)
    (h : fn (F := Ideal) X G W M H A P Z = fun _ => 1#1) (i : S4x2048x1664.Idx) : ∃ y : ℝ, P i = (y : EReal) :=
  @Cert.Pre_finite.real_of_lt Cert.Pre_finite.facts (P i) (Host.reduce_andi_all _ _ _ _ _ (congrFun h (Shape.Idx.first h_S_)) i)

end Cert.Pre_finite3

end
-- ==== Proof.MixRef.lean ====
module

public import proofs.«01_k».proof.Proof.MixHost
public import proofs.«01_k».proof.Proof.PreMix
public import proofs.«01_k».proof.Proof.Gen.Reference3Ideal.Read
public import proofs.«01_k».proof.Proof.Gen.Reference3Ideal.Run
public import proofs.«01_k».proof.Defs
public import Idealize.ShloMosaic.Lib.KernelVsHost

/-! The gradient of the projection's operands: the plain gradient read at an index. -/

@[expose] public section

set_option maxRecDepth 65536

noncomputable section

namespace Cert.Reference3Ideal.Mix

open Cert.Reference3Ideal Cert.Reference3Ideal.Gen Cert.Reference3Ideal.Read
open Idealize.ShloMosaic Idealize.ShloMosaic.TcCoe Idealize.ShloMosaic.Tactic Idealize.SL.Sem
open Cert.Kernel3Ideal.Mix (follow plain du dx dg)

variable (X : Vec Ideal S4x2048x1024 .f32) (G : Vec Ideal S1x1024 .f32) (W : Vec Ideal S1024x3136 .f32) (M : Vec Ideal S1x1664 .f32)
  (H : Vec Ideal S4x2048x1024 .f32) (A : Vec Ideal S4x2048x448 .f32) (B : Vec Ideal S4x2048x1664 .f32) (Z : Vec Ideal S4x2048x1024 .f32)
  (b : Fin 4) (s : Fin 2048)

/-- What the mixing takes from a row. -/
theorem v33_at (k : Fin 1664) : val_main_v33 (F := Ideal) M B (ix3 b s k) = B (ix3 b s k) * M (ix2 0 k) := by
  pointwise [val_main_v33, val_main_v31, val_main_v32, val_main_v26]

theorem v35_at (k : Fin 1664) : val_main_v35 (F := Ideal) M B (ix3 b s k) = B (ix3 b s k) + -(B (ix3 b s k) * M (ix2 0 k)) := by
  rw [← v33_at]
  pointwise [val_main_v35, val_main_v30, val_main_v34]

/-- The row after's part. -/
theorem v38_at (k : Fin 1664) : val_main_v38 (F := Ideal) M B (ix3 b s k)
    = if h : s.val + 1 < 2048 then val_main_v33 (F := Ideal) M B (ix3 b ⟨s.val + 1, h⟩ k) else 0 := by
  unfold val_main_v38
  by_cases h : s.val + 1 < 2048
  · rw [dif_pos h]
    refine (pad_apply_of_inside _ _ _ _ _ _ _ _ (ix3 b ⟨s.val, by omega⟩ k) ?_).trans ?_
    · intro a
      fin_cases a <;> simp
    · unfold val_main_v37
      generalize val_main_v33 (F := Ideal) M B = Y
      pointwise []
      exact congrArg (fun x => Y (ix3 b x k)) (Fin.ext (by simp only; omega))
  · rw [dif_neg h]
    refine (pad_apply_of_not_inside _ _ _ _ _ _ _ _ (1 : Fin 3) ?_).trans ?_
    · show ¬(0 ≤ s.val ∧ (s.val - 0) % (0 + 1) = 0 ∧ (s.val - 0) / (0 + 1) < 2047)
      rw [Nat.div_one]
      omega
    · pointwise [val_main_cst_5]

theorem v40_at (n : Fin 3136) : val_main_v40 (F := Ideal) M A B Z (ix3 b s n)
    = if h : n.val < 448 then A (ix3 b s ⟨n.val, h⟩)
      else if h' : n.val - 448 < 1664 then val_main_v39 (F := Ideal) M B (ix3 b s ⟨n.val - 448, h'⟩)
      else Z (ix3 b s ⟨n.val - 448 - 1664, by omega⟩) := by
  unfold val_main_v40
  generalize val_main_v39 (F := Ideal) M B = Y
  pointwise []

theorem v41_at (n : Fin 1024) : val_main_v41 (F := Ideal) W M A B Z (ix3 b s n)
    = ∑ k : Fin 3136, val_main_v40 (F := Ideal) M A B Z (ix3 b s k) * W (ix2 n k) := by
  unfold val_main_v41
  generalize val_main_v40 (F := Ideal) M A B Z = Y
  pointwise []

theorem v6_at : val_main_v6 (F := Ideal) X (ix3 b s 0) = Cert.Norm.var fun n : Fin 1024 => X (ix3 b s n) := by
  rw [← Cert.Norm.var_div]
  pointwise [val_main_v6, val_main_v5, val_main_v4, val_main_v3, val_main_v2, val_main_v1, val_main_v0, val_main_cst, val_main_cst_0, val_main_cst_1]
  rfl

theorem v7_at : val_main_v7 (F := Ideal) X (ix3 b s 0) = Cert.Norm.scale fun n : Fin 1024 => X (ix3 b s n) := by
  unfold Cert.Norm.scale
  rw [← v6_at]
  unfold val_main_v7
  generalize val_main_v6 (F := Ideal) X = Y
  pointwise []

theorem v10_at : val_main_v10 (F := Ideal) X (ix3 b s 0) = Ideal.ofBits .f32 0xBF000000#32
    * Ideal.div (Cert.Norm.scale fun n : Fin 1024 => X (ix3 b s n)) (Cert.Norm.var fun n : Fin 1024 => X (ix3 b s n)) := by
  rw [← v6_at, ← v7_at]
  unfold val_main_v10 val_main_v8
  generalize val_main_v6 (F := Ideal) X = Y
  generalize val_main_v7 (F := Ideal) X = Y'
  pointwise [val_main_v9, val_main_cst_2]

/-- The gradient of the normalised rows, read off the reference. -/
abbrev u : Fin 4 → Fin 2048 → Fin 1024 → EReal := fun b s n => val_main_v41 (F := Ideal) W M A B Z (ix3 b s n)

theorem v46_at (n : Fin 1024) : val_main_v46 (F := Ideal) G W M A B Z (ix3 b s n) = u W M A B Z b s n * G (ix2 0 n) := by
  unfold val_main_v46 u
  generalize val_main_v41 (F := Ideal) W M A B Z = Y
  pointwise [val_main_v45, val_main_v13]

theorem v51_at : val_main_v51 (F := Ideal) X G W M A B Z (ix3 b s 0) = ∑ n : Fin 1024, X (ix3 b s n) * (u W M A B Z b s n * G (ix2 0 n)) := by
  refine Eq.trans (b := ∑ n : Fin 1024, X (ix3 b s n) * val_main_v46 (F := Ideal) G W M A B Z (ix3 b s n)) ?_
    (Finset.sum_congr rfl fun n _ => by rw [v46_at])
  unfold val_main_v51 val_main_v50 val_main_v49
  generalize val_main_v46 (F := Ideal) G W M A B Z = Y
  pointwise [val_main_cst_8]

theorem v58_bcast (n : Fin 1024) : val_main_v58 (F := Ideal) X G W M A B Z (ix3 b s n)
    = Cert.Norm.send (fun n : Fin 1024 => X (ix3 b s n)) (fun n => u W M A B Z b s n * G (ix2 0 n)) := by
  unfold Cert.Norm.send
  rw [← v51_at, ← v10_at]
  unfold val_main_v58 val_main_v57 val_main_v56 val_main_v54
  generalize val_main_v51 (F := Ideal) X G W M A B Z = Y
  generalize val_main_v10 (F := Ideal) X = Y'
  pointwise [val_main_v55, val_main_cst_9, val_main_cst_10]
  exact Fin.sum_univ_one _

theorem v63_at (n : Fin 1024) : val_main_v63 (F := Ideal) X G W M H A B Z (ix3 b s n) = dx X H G (u W M A B Z) b s n := by
  unfold dx
  rw [← Cert.Norm.back_eq, ← v58_bcast X G W M A B Z b s n, ← v46_at, ← v7_at]
  unfold val_main_v63 val_main_v62 val_main_v61 val_main_v60 val_main_v59 val_main_v53 val_main_v52
  generalize val_main_v58 (F := Ideal) X G W M A B Z = Y
  generalize val_main_v46 (F := Ideal) G W M A B Z = Y'
  generalize val_main_v7 (F := Ideal) X = Y''
  pointwise []

theorem v42_at (n : Fin 1024) : val_main_v42 (F := Ideal) X W M A B Z (ix3 b s n) = dg X (u W M A B Z) b s n := by
  unfold dg u
  rw [← v7_at, mul_comm]
  unfold val_main_v42 val_main_v12 val_main_v11
  generalize val_main_v41 (F := Ideal) W M A B Z = Y
  generalize val_main_v7 (F := Ideal) X = Y'
  pointwise []

/-- A host's sum over the first two of three axes. -/
theorem sum_first {n0 n1 n2 : ℕ} (h : (⟨3, ![n0, n1, n2]⟩ : Shape).ReducesTo [0, 1] ⟨1, ![n2]⟩) (v : (⟨3, ![n0, n1, n2]⟩ : Shape).Idx → EReal)
    (z : EReal) (k : Fin n2) : Ideal.hostReduceAdd h v z (ix1 k) = z + ∑ a : Fin n0, ∑ b : Fin n1, v (ix3 a b k) := by
  refine congrArg (z + ·) ?_
  rw [← Fintype.sum_prod_type' (f := fun a b => v (ix3 a b k))]
  refine Finset.sum_bij' (fun i _ => ((i 0, i 1) : Fin n0 × Fin n1)) (fun p _ => ix3 p.1 p.2 k) (fun _ _ => Finset.mem_univ _) ?_ ?_ ?_ ?_
  · intro p _
    rw [Finset.mem_filter]
    refine ⟨Finset.mem_univ _, ?_⟩
    funext a
    match a with
    | ⟨0, _⟩ => rfl
  · intro i hi
    have e := congrArg Fin.val (congrFun (Finset.mem_filter.mp hi).2 0)
    funext a
    match a with
    | ⟨0, _⟩ => rfl
    | ⟨1, _⟩ => rfl
    | ⟨2, _⟩ => exact Fin.ext e.symm
  · intro p _
    rfl
  · intro i hi
    have e := congrArg Fin.val (congrFun (Finset.mem_filter.mp hi).2 0)
    refine congrArg v ?_
    funext a
    match a with
    | ⟨0, _⟩ => rfl
    | ⟨1, _⟩ => rfl
    | ⟨2, _⟩ => exact Fin.ext e

theorem v43_at (n : Fin 1024) : val_main_v43 (F := Ideal) X W M A B Z (ix1 n) = ∑ b : Fin 4, ∑ s : Fin 2048, dg X (u W M A B Z) b s n := by
  simp only [← v42_at]
  unfold val_main_v43
  generalize val_main_v42 (F := Ideal) X W M A B Z = Y
  refine (sum_first _ _ _ n).trans ?_
  refine (congrArg (· + _) (show _ = (0 : EReal) from ?_)).trans (zero_add _)
  pointwise [val_main_cst_6]

theorem v47_at (n : Fin 1024) : val_main_v47 (F := Ideal) X W M A B Z (ix1 n) = val_main_v43 (F := Ideal) X W M A B Z (ix1 n) := by
  unfold val_main_v47 val_main_v44
  generalize val_main_v43 (F := Ideal) X W M A B Z = Y
  refine (sum_first _ _ _ n).trans ?_
  refine (congrArg (· + _) (show _ = (0 : EReal) from ?_)).trans ((zero_add _).trans ?_)
  · pointwise [val_main_cst_7]
  · refine (Fin.sum_univ_one _).trans ((Fin.sum_univ_one _).trans ?_)
    pointwise []

theorem v48_at (n : Fin 1024) : val_main_v48 (F := Ideal) X W M A B Z (ix2 0 n) = ∑ b : Fin 4, ∑ s : Fin 2048, dg X (u W M A B Z) b s n := by
  rw [← v43_at, ← v47_at]
  unfold val_main_v48
  generalize val_main_v47 (F := Ideal) X W M A B Z = Y
  pointwise []

/-! ### The projection's gradient -/

/-- A finite number less its part, the part taken from it. -/
theorem less (y : ℝ) (u : EReal) : (y : EReal) * (1 - u) = y + -(y * u) := by
  induction u with
  | coe v =>
    rw [← EReal.coe_one, ← EReal.coe_sub, ← EReal.coe_mul, ← EReal.coe_mul, ← EReal.coe_neg, ← EReal.coe_add]
    exact congrArg _ (by ring)
  | top =>
    rw [sub_eq_add_neg, EReal.neg_top, EReal.add_bot]
    rcases lt_trichotomy y 0 with h | h | h
    · rw [EReal.coe_mul_bot_of_neg h, EReal.coe_mul_top_of_neg h, EReal.neg_bot, EReal.coe_add_top]
    · rw [h, EReal.coe_zero, zero_mul, zero_mul, neg_zero, add_zero]
    · rw [EReal.coe_mul_bot_of_pos h, EReal.coe_mul_top_of_pos h, EReal.neg_top, EReal.add_bot]
  | bot =>
    rw [sub_eq_add_neg, EReal.neg_bot, ← EReal.coe_one, EReal.coe_add_top]
    rcases lt_trichotomy y 0 with h | h | h
    · rw [EReal.coe_mul_bot_of_neg h, EReal.coe_mul_top_of_neg h, EReal.neg_top, EReal.add_bot]
    · rw [h, EReal.coe_zero, zero_mul, zero_mul, neg_zero, add_zero]
    · rw [EReal.coe_mul_bot_of_pos h, EReal.coe_mul_top_of_pos h, EReal.neg_bot, EReal.coe_add_top]

theorem v40_plain (hB : ∀ i, ∃ y : ℝ, B i = y) (n : Fin 3136) : val_main_v40 (F := Ideal) M A B Z (ix3 b s n) = plain A B M Z b s n := by
  rw [v40_at]
  unfold plain
  by_cases h : n.val < 448
  · rw [dif_pos h, dif_pos h]
  by_cases h' : n.val - 448 < 1664
  · rw [dif_neg h, dif_neg h, dif_pos h', dif_pos h']
    generalize (⟨n.val - 448, h'⟩ : Fin 1664) = k
    show val_main_v35 (F := Ideal) M B (ix3 b s k) + val_main_v38 (F := Ideal) M B (ix3 b s k) = _
    rw [v35_at, v38_at]
    obtain ⟨y, hy⟩ := hB (ix3 b s k)
    rw [hy, less]
    refine congrArg (fun z : EReal => (y : EReal) + -(y * M (ix2 0 k)) + z) ?_
    unfold follow
    split_ifs
    · rw [v33_at]
    · rw [zero_mul]
  · rw [dif_neg h, dif_neg h, dif_neg h', dif_neg h']

end Cert.Reference3Ideal.Mix

end
-- ==== Proof.MixEqual.lean ====
module

public import proofs.«01_k».proof.Proof.MixRef

/-! The gradient of the projection's operands: the claims. -/

@[expose] public section

set_option maxRecDepth 65536

noncomputable section

namespace Cert.Kernel3Ideal.Mix

open Cert.Kernel3Ideal Cert.Kernel3Ideal.Gen
open Idealize.ShloMosaic Idealize.ShloMosaic.TcCoe Idealize.ShloMosaic.Tactic Idealize.SL.Sem
open Cert.Kernel2Ideal.Weight (place)
open Cert.Reference3Ideal.Read (val_main_v63 val_main_v40 val_main_v48)
open Cert.Reference3Ideal.Mix (u v41_at v63_at v48_at v40_plain)

variable (m : (ℓ : Loc nD τ sig) → Buf (Elt Ideal) ℓ) (c : Dev nD)

/-- The gradient of the columns, at a column of the weight. -/
theorem gP_place (b : Fin 4) (s : Fin 2048) (n : Fin 3136) : gP m c b s (place n)
    = plain (m ((c.tc : Thread nD τ).loc main_arg5)) (m ((c.tc : Thread nD τ).loc main_arg6)) (m ((c.tc : Thread nD τ).loc main_arg3)) (m ((c.tc : Thread nD τ).loc main_arg7)) b s n := by
  unfold gP
  rw [V_main_v19, V_main_v13, V_main_arg7]
  exact grad_place _ _ _ _ b s n

variable (hB : ∀ i : S4x2048x1664.Idx, ∃ y : ℝ, (show EReal from (m ((c.tc : Thread nD τ).loc main_arg6) : Vec Ideal S4x2048x1664 .f32) i) = (y : EReal))
include hB

theorem gU_eq : gU m c = u (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  funext b s n
  refine Eq.trans ?_ (v41_at _ _ _ _ _ b s n).symm
  unfold gU du
  rw [V_main_v8]
  refine (sum_place (gP m c b s) _ n).trans (Finset.sum_congr rfl fun k _ => ?_)
  rw [gP_place]
  exact congrArg (fun x : EReal => x * _) (v40_plain _ _ _ _ b s hB k).symm

theorem value8 : arr3 (dx (V m c main_arg0) (V m c main_arg4) (V m c main_arg1) (gU m c))
    = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  funext y
  have hy : y = ix3 (y 0) (y 1) (y 2) := by funext u; fin_cases u <;> rfl
  rw [gU_eq m c hB, V_main_arg0, V_main_arg4, V_main_arg1]
  exact (v63_at _ _ _ _ _ _ _ _ (y 0) (y 1) (y 2)).symm.trans (congrArg _ hy.symm)

theorem value9 : restored (arr3 (gP m c))
    = val_main_v40 (F := Ideal) (m ((c.tc : Thread nD τ).loc main_arg3)) (m ((c.tc : Thread nD τ).loc main_arg5)) (m ((c.tc : Thread nD τ).loc main_arg6)) (m ((c.tc : Thread nD τ).loc main_arg7)) := by
  funext y
  have hy : y = ix3 (y 0) (y 1) (y 2) := by funext u; fin_cases u <;> rfl
  rw [hy]
  refine (restored_at _ _ _ _).trans (Eq.trans ?_ (v40_plain _ _ _ _ (y 0) (y 1) hB (y 2)).symm)
  exact gP_place m c (y 0) (y 1) (y 2)

theorem value10 : gains (dg (V m c main_arg0) (gU m c))
    = val_main_v48 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) := by
  funext y
  have hy : y = ix2 0 (y 1) := by funext u; fin_cases u <;> first | rfl | exact Subsingleton.elim (α := Fin 1) _ _
  rw [gU_eq m c hB, V_main_arg0]
  exact (v48_at _ _ _ _ _ _ (y 1)).symm.trans (congrArg _ hy.symm)

end Cert.Kernel3Ideal.Mix

namespace Cert.Proof

open Idealize.ShloMosaic Idealize.SL.Sem

attribute [local instance] Cert.Pre_finite3.facts

theorem reference3_quiet : Cert.quiescent_Reference3Ideal := fun m g _ =>
  (θ_run _ _ _).mono (fun r h => ⟨fun c => (h c).2.2.2, sem_eq_zero_of_no_sems rfl r.2⟩) (Cert.Reference3Ideal.Value.run (F := Ideal) m g)

open Cert.Kernel3Ideal Cert.Kernel3Ideal.Gen Cert.Kernel3Ideal.Mix in
theorem equal3 : Cert.algebraic_Kernel3Ideal_Reference3Ideal_pre_finite3 := fun m g m' g' hp ha => by
  refine ⟨fun c => (dats m 0 c).arrAt 8 cfg0.N, fun c => restored (arr3 (gP m c)), fun c => (dats m 0 c).arrAt 10 cfg0.N, ?_, ?_⟩
  · refine (θ_run _ _ _).mono (fun r h c => ?_) (θ_run_and (run_main m g) (unchanged m g))
    exact ⟨(h.1 c).1 8, ((h.1 c).2 main_v27 (Pipeline.mem_restRefs_of main_v27 (by decide) (by decide))).trans (tail m c), (h.1 c).1 10, h.2 c⟩
  · refine (θ_run _ _ _).mono (fun r h c => ?_) (Cert.Reference3Ideal.Value.run (F := Ideal) m' g')
    have hB := Cert.Pre_finite3.real _ _ _ _ _ _ _ _ (hp c)
    obtain ⟨e0, e1, e2, e3, e4, e5, e6, e7⟩ := ha c
    refine ⟨(h c).1.trans ?_, (h c).2.1.trans ?_, (h c).2.2.1.trans ?_, (h c).2.2.2⟩
    · refine (Cert.Reference3Ideal.Read.val_main_v63_eq m' c).trans ?_
      rw [e0, e1, e2, e3, e4, e5, e6, e7]
      exact ((final8 m c).trans (value8 m c hB)).symm
    · refine (Cert.Reference3Ideal.Read.val_main_v40_eq _ _ _ _).trans ?_
      rw [e3, e5, e6, e7]
      exact (value9 m c hB).symm
    · refine (Cert.Reference3Ideal.Read.val_main_v48_eq _ _ _ _ _ _).trans ?_
      rw [e0, e2, e3, e5, e6, e7]
      exact ((final10 m c).trans (value10 m c hB)).symm

end Cert.Proof

end
-- ==== Proof.FwdRun.lean ====
module

public import proofs.«01_k».proof.Proof.Gen.Kernel4Ideal.Frame.Runs

/-! The pieces that the forward projection's body leaves, with what is known of them. -/

@[expose] public section

noncomputable section

namespace Cert.Kernel4Ideal.Fwd

open Cert.Kernel4Ideal Cert.Kernel4Ideal.Gen
open Idealize.ShloMosaic Idealize.ShloMosaic.Tactic

/-- The pieces written in the twelve results, in their order, and in the row handed on; and a statement of all thirteen. -/
structure Pieces (F : FTy → Type) [FloatOps F]
    (P : List (View.Piece (Elt F) S1x512x1024 .bf16) → List (View.Piece (Elt F) S1x512x1024 .f32)
      → List (View.Piece (Elt F) S1x512x2176 .f32) → List (View.Piece (Elt F) S1x512x1024 .bf16)
      → List (View.Piece (Elt F) S1x512x1024 .bf16) → List (View.Piece (Elt F) S1x512x512 .bf16)
      → List (View.Piece (Elt F) S1x512x512 .f32) → List (View.Piece (Elt F) S1x512x512 .f32)
      → List (View.Piece (Elt F) S1x512x512 .f32) → List (View.Piece (Elt F) S1x512x512 .f32)
      → List (View.Piece (Elt F) S1x512x512 .f32) → List (View.Piece (Elt F) S1x512x512 .f32)
      → List (View.Piece (Elt F) S8x1792 .f32) → Prop) where
  u : List (View.Piece (Elt F) S1x512x1024 .bf16)
  z : List (View.Piece (Elt F) S1x512x1024 .f32)
  r : List (View.Piece (Elt F) S1x512x2176 .f32)
  q : List (View.Piece (Elt F) S1x512x1024 .bf16)
  k : List (View.Piece (Elt F) S1x512x1024 .bf16)
  v : List (View.Piece (Elt F) S1x512x512 .bf16)
  rw : List (View.Piece (Elt F) S1x512x512 .f32)
  ww : List (View.Piece (Elt F) S1x512x512 .f32)
  kw : List (View.Piece (Elt F) S1x512x512 .f32)
  vw : List (View.Piece (Elt F) S1x512x512 .f32)
  al : List (View.Piece (Elt F) S1x512x512 .f32)
  be : List (View.Piece (Elt F) S1x512x512 .f32)
  carry : List (View.Piece (Elt F) S8x1792 .f32)
  sound : P u z r q k v rw ww kw vw al be carry

end Cert.Kernel4Ideal.Fwd

end
-- ==== Proof.FwdA.lean ====
module

public import proofs.«01_k».proof.Proof.FwdRun

/-! The forward projection's body, run where its branch is taken. -/

@[expose] public section

set_option maxRecDepth 16384

noncomputable section

namespace Cert.Kernel4Ideal.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (arg2 : Memref sig .tc .vmem S1x512x1024 .f32) (harg2 : arg2.IsWhole)
  (arg3 : Memref sig .tc .vmem S1x512x1 .f32) (harg3 : arg3.IsWhole)
  (arg4 : Memref sig .tc .vmem S1x128 .f32) (harg4 : arg4.IsWhole)
  (arg5 : Memref sig .tc .vmem S1x1024 .f32) (harg5 : arg5.IsWhole)
  (arg6 : Memref sig .tc .vmem S1024x3200 .bf16) (harg6 : arg6.IsWhole)
  (arg7 : Memref sig .tc .vmem S1x256 .f32) (harg7 : arg7.IsWhole)
  (arg8 : Memref sig .tc .vmem S256x1024 .bf16) (harg8 : arg8.IsWhole)
  (arg9 : Memref sig .tc .vmem S1x128 .f32) (harg9 : arg9.IsWhole)
  (arg10 : Memref sig .tc .vmem S128x1024 .bf16) (harg10 : arg10.IsWhole)
  (arg11 : Memref sig .tc .vmem S1x1792 .f32) (harg11 : arg11.IsWhole)
  (arg12 : Memref sig .tc .vmem S1x512 .f32) (harg12 : arg12.IsWhole)
  (arg13 : Memref sig .tc .vmem S256x512 .bf16) (harg13 : arg13.IsWhole)
  (arg14 : Memref sig .tc .vmem S1x512 .f32) (harg14 : arg14.IsWhole)
  (arg15 : Memref sig .tc .vmem S256x512 .bf16) (harg15 : arg15.IsWhole)
  (arg16 : Memref sig .tc .vmem S1x512 .f32) (harg16 : arg16.IsWhole)
  (arg17 : Memref sig .tc .vmem S1x512 .f32) (harg17 : arg17.IsWhole)
  (arg18 : Memref sig .tc .vmem S128x128 .bf16) (harg18 : arg18.IsWhole)
  (arg19 : Memref sig .tc .vmem S1x512x1024 .bf16) (harg19 : arg19.IsWhole)
  (arg20 : Memref sig .tc .vmem S1x512x1024 .f32) (harg20 : arg20.IsWhole)
  (arg21 : Memref sig .tc .vmem S1x512x2176 .f32) (harg21 : arg21.IsWhole)
  (arg22 : Memref sig .tc .vmem S1x512x1024 .bf16) (harg22 : arg22.IsWhole)
  (arg23 : Memref sig .tc .vmem S1x512x1024 .bf16) (harg23 : arg23.IsWhole)
  (arg24 : Memref sig .tc .vmem S1x512x512 .bf16) (harg24 : arg24.IsWhole)
  (arg25 : Memref sig .tc .vmem S1x512x512 .f32) (harg25 : arg25.IsWhole)
  (arg26 : Memref sig .tc .vmem S1x512x512 .f32) (harg26 : arg26.IsWhole)
  (arg27 : Memref sig .tc .vmem S1x512x512 .f32) (harg27 : arg27.IsWhole)
  (arg28 : Memref sig .tc .vmem S1x512x512 .f32) (harg28 : arg28.IsWhole)
  (arg29 : Memref sig .tc .vmem S1x512x512 .f32) (harg29 : arg29.IsWhole)
  (arg30 : Memref sig .tc .vmem S1x512x512 .f32) (harg30 : arg30.IsWhole)
  (arg31 : Memref sig .tc .vmem S8x1792 .f32) (harg31 : arg31.IsWhole)

set_option maxHeartbeats 16000000 in
/-- The pieces that the body leaves in its results and in the row it carries, with its run from any contents of them. -/
def runA (c : Dev nD) (i : grid0.Coords) (hc0 : cond0_0 i)
    (x0 : Vec F S1x512x1024 .f32) (x1 : Vec F S1x512x1 .f32) (x2 : Vec F S1x128 .f32) (x3 : Vec F S1x1024 .f32) (x4 : Vec F S1024x3200 .bf16) (x5 : Vec F S1x256 .f32) (x6 : Vec F S256x1024 .bf16) (x7 : Vec F S1x128 .f32) (x8 : Vec F S128x1024 .bf16) (x9 : Vec F S1x1792 .f32) (x10 : Vec F S1x512 .f32) (x11 : Vec F S256x512 .bf16) (x12 : Vec F S1x512 .f32) (x13 : Vec F S256x512 .bf16) (x14 : Vec F S1x512 .f32) (x15 : Vec F S1x512 .f32) (x16 : Vec F S128x128 .bf16) :
    Pieces F fun L17 L18 L19 L20 L21 L22 L23 L24 L25 L26 L27 L28 LS0 =>
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f LS0)) -∗ K ⟨⟩))
          ⊢ wp frame (wpE (defs₀ (F := F)) Variants.none c none) E (cc0_pre_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  refine ⟨?_, ?_, ?_, ?_, ?_, ?_, ?_, ?_, ?_, ?_, ?_, ?_, ?_, fun E K => ?run⟩
  case run =>
    simp only [cc0_pre_fwd_eq_skeleton]; unfold cc0_pre_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0)
    sl_step
    iapply Hk
    sl_close

end Cert.Kernel4Ideal.Fwd

end
-- ==== Proof.FwdB.lean ====
module

public import proofs.«01_k».proof.Proof.FwdRun

/-! The forward projection's body, run where its branch is not taken. -/

@[expose] public section

set_option maxRecDepth 16384

noncomputable section

namespace Cert.Kernel4Ideal.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (arg2 : Memref sig .tc .vmem S1x512x1024 .f32) (harg2 : arg2.IsWhole)
  (arg3 : Memref sig .tc .vmem S1x512x1 .f32) (harg3 : arg3.IsWhole)
  (arg4 : Memref sig .tc .vmem S1x128 .f32) (harg4 : arg4.IsWhole)
  (arg5 : Memref sig .tc .vmem S1x1024 .f32) (harg5 : arg5.IsWhole)
  (arg6 : Memref sig .tc .vmem S1024x3200 .bf16) (harg6 : arg6.IsWhole)
  (arg7 : Memref sig .tc .vmem S1x256 .f32) (harg7 : arg7.IsWhole)
  (arg8 : Memref sig .tc .vmem S256x1024 .bf16) (harg8 : arg8.IsWhole)
  (arg9 : Memref sig .tc .vmem S1x128 .f32) (harg9 : arg9.IsWhole)
  (arg10 : Memref sig .tc .vmem S128x1024 .bf16) (harg10 : arg10.IsWhole)
  (arg11 : Memref sig .tc .vmem S1x1792 .f32) (harg11 : arg11.IsWhole)
  (arg12 : Memref sig .tc .vmem S1x512 .f32) (harg12 : arg12.IsWhole)
  (arg13 : Memref sig .tc .vmem S256x512 .bf16) (harg13 : arg13.IsWhole)
  (arg14 : Memref sig .tc .vmem S1x512 .f32) (harg14 : arg14.IsWhole)
  (arg15 : Memref sig .tc .vmem S256x512 .bf16) (harg15 : arg15.IsWhole)
  (arg16 : Memref sig .tc .vmem S1x512 .f32) (harg16 : arg16.IsWhole)
  (arg17 : Memref sig .tc .vmem S1x512 .f32) (harg17 : arg17.IsWhole)
  (arg18 : Memref sig .tc .vmem S128x128 .bf16) (harg18 : arg18.IsWhole)
  (arg19 : Memref sig .tc .vmem S1x512x1024 .bf16) (harg19 : arg19.IsWhole)
  (arg20 : Memref sig .tc .vmem S1x512x1024 .f32) (harg20 : arg20.IsWhole)
  (arg21 : Memref sig .tc .vmem S1x512x2176 .f32) (harg21 : arg21.IsWhole)
  (arg22 : Memref sig .tc .vmem S1x512x1024 .bf16) (harg22 : arg22.IsWhole)
  (arg23 : Memref sig .tc .vmem S1x512x1024 .bf16) (harg23 : arg23.IsWhole)
  (arg24 : Memref sig .tc .vmem S1x512x512 .bf16) (harg24 : arg24.IsWhole)
  (arg25 : Memref sig .tc .vmem S1x512x512 .f32) (harg25 : arg25.IsWhole)
  (arg26 : Memref sig .tc .vmem S1x512x512 .f32) (harg26 : arg26.IsWhole)
  (arg27 : Memref sig .tc .vmem S1x512x512 .f32) (harg27 : arg27.IsWhole)
  (arg28 : Memref sig .tc .vmem S1x512x512 .f32) (harg28 : arg28.IsWhole)
  (arg29 : Memref sig .tc .vmem S1x512x512 .f32) (harg29 : arg29.IsWhole)
  (arg30 : Memref sig .tc .vmem S1x512x512 .f32) (harg30 : arg30.IsWhole)
  (arg31 : Memref sig .tc .vmem S8x1792 .f32) (harg31 : arg31.IsWhole)

set_option maxHeartbeats 16000000 in
/-- The pieces that the body leaves in its results and in the row it carries, with its run from any contents of them. -/
def runB (c : Dev nD) (i : grid0.Coords) (hc0 : ¬cond0_0 i)
    (x0 : Vec F S1x512x1024 .f32) (x1 : Vec F S1x512x1 .f32) (x2 : Vec F S1x128 .f32) (x3 : Vec F S1x1024 .f32) (x4 : Vec F S1024x3200 .bf16) (x5 : Vec F S1x256 .f32) (x6 : Vec F S256x1024 .bf16) (x7 : Vec F S1x128 .f32) (x8 : Vec F S128x1024 .bf16) (x9 : Vec F S1x1792 .f32) (x10 : Vec F S1x512 .f32) (x11 : Vec F S256x512 .bf16) (x12 : Vec F S1x512 .f32) (x13 : Vec F S256x512 .bf16) (x14 : Vec F S1x512 .f32) (x15 : Vec F S1x512 .f32) (x16 : Vec F S128x128 .bf16) (xs0 : Vec F S8x1792 .f32) :
    Pieces F fun L17 L18 L19 L20 L21 L22 L23 L24 L25 L26 L27 L28 LS0 =>
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ owns (c : Thread nD τ) arg31 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f LS0)) -∗ K ⟨⟩))
          ⊢ wp frame (wpE (defs₀ (F := F)) Variants.none c none) E (cc0_pre_fwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K := by
  refine ⟨?_, ?_, ?_, ?_, ?_, ?_, ?_, ?_, ?_, ?_, ?_, ?_, ?_, fun E K => ?run⟩
  case run =>
    simp only [cc0_pre_fwd_eq_skeleton]; unfold cc0_pre_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg31.eq_unread hfs0
    sl_exec (disch := first | sl_exact hc0)
    sl_step
    iapply Hk
    sl_close

end Cert.Kernel4Ideal.Fwd

end
-- ==== Proof.Fwd.lean ====
module

public import proofs.«01_k».proof.Proof.FwdA
public import proofs.«01_k».proof.Proof.FwdB

/-! The launch of the forward projection: what its buffers hold after each grid point, the body's obligation there, and the
    run of the whole program. -/

@[expose] public section

set_option maxRecDepth 16384

noncomputable section

namespace Cert.Kernel4Ideal.Fwd

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-! ### What a point leaves -/

/-- The blocks that a point leaves, in the order of the results, and the row that it hands to the next point. -/
structure Left (F : FTy → Type) where
  u : Vec F S1x512x1024 .bf16
  z : Vec F S1x512x1024 .f32
  r : Vec F S1x512x2176 .f32
  q : Vec F S1x512x1024 .bf16
  k : Vec F S1x512x1024 .bf16
  v : Vec F S1x512x512 .bf16
  rw : Vec F S1x512x512 .f32
  ww : Vec F S1x512x512 .f32
  kw : Vec F S1x512x512 .f32
  vw : Vec F S1x512x512 .f32
  al : Vec F S1x512x512 .f32
  be : Vec F S1x512x512 .f32
  carry : Vec F S8x1792 .f32

/-- The run at a first tile of a sequence, on the point's buffers and blocks. -/
def atA (t : Fin cfg0.N) (h : cond0_0 (grid0.coords t)) :=
  runA (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t)
    scM0_0 (Memref.isWhole_whole _) c (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The run at another tile, over the row carried to it. -/
def atB (t : Fin cfg0.N) (h : ¬cond0_0 (grid0.coords t)) (y : Vec F S8x1792 .f32) :=
  runB (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t)
    scM0_0 (Memref.isWhole_whole _) c (grid0.coords t) h (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) y

theorem coverA_17 (t : Fin cfg0.N) (h : cond0_0 (grid0.coords t)) (x : S1x512x1024.Idx) : ∃ pc ∈ (atA m c t h).u, x ∈ pc.1.set :=
  View.cover_of_tiledL (atA m c t h).u S1x512x1024.size (by unfold atA; sl_kernel_rfl) x
theorem coverA_18 (t : Fin cfg0.N) (h : cond0_0 (grid0.coords t)) (x : S1x512x1024.Idx) : ∃ pc ∈ (atA m c t h).z, x ∈ pc.1.set :=
  View.cover_of_tiledL (atA m c t h).z S1x512x1024.size (by unfold atA; sl_kernel_rfl) x
theorem coverA_19 (t : Fin cfg0.N) (h : cond0_0 (grid0.coords t)) (x : S1x512x2176.Idx) : ∃ pc ∈ (atA m c t h).r, x ∈ pc.1.set :=
  View.cover_of_tiledL (atA m c t h).r S1x512x2176.size (by unfold atA; sl_kernel_rfl) x
theorem coverA_20 (t : Fin cfg0.N) (h : cond0_0 (grid0.coords t)) (x : S1x512x1024.Idx) : ∃ pc ∈ (atA m c t h).q, x ∈ pc.1.set :=
  View.cover_of_tiledL (atA m c t h).q S1x512x128.size (by unfold atA; sl_kernel_rfl) x
theorem coverA_21 (t : Fin cfg0.N) (h : cond0_0 (grid0.coords t)) (x : S1x512x1024.Idx) : ∃ pc ∈ (atA m c t h).k, x ∈ pc.1.set :=
  View.cover_of_tiledL (atA m c t h).k S1x512x128.size (by unfold atA; sl_kernel_rfl) x
theorem coverA_22 (t : Fin cfg0.N) (h : cond0_0 (grid0.coords t)) (x : S1x512x512.Idx) : ∃ pc ∈ (atA m c t h).v, x ∈ pc.1.set :=
  View.cover_of_tiledL (atA m c t h).v S1x512x512.size (by unfold atA; sl_kernel_rfl) x
theorem coverA_23 (t : Fin cfg0.N) (h : cond0_0 (grid0.coords t)) (x : S1x512x512.Idx) : ∃ pc ∈ (atA m c t h).rw, x ∈ pc.1.set :=
  View.cover_of_tiledL (atA m c t h).rw S1x512x512.size (by unfold atA; sl_kernel_rfl) x
theorem coverA_24 (t : Fin cfg0.N) (h : cond0_0 (grid0.coords t)) (x : S1x512x512.Idx) : ∃ pc ∈ (atA m c t h).ww, x ∈ pc.1.set :=
  View.cover_of_tiledL (atA m c t h).ww S1x512x512.size (by unfold atA; sl_kernel_rfl) x
theorem coverA_25 (t : Fin cfg0.N) (h : cond0_0 (grid0.coords t)) (x : S1x512x512.Idx) : ∃ pc ∈ (atA m c t h).kw, x ∈ pc.1.set :=
  View.cover_of_tiledL (atA m c t h).kw S1x512x512.size (by unfold atA; sl_kernel_rfl) x
theorem coverA_26 (t : Fin cfg0.N) (h : cond0_0 (grid0.coords t)) (x : S1x512x512.Idx) : ∃ pc ∈ (atA m c t h).vw, x ∈ pc.1.set :=
  View.cover_of_tiledL (atA m c t h).vw S1x512x512.size (by unfold atA; sl_kernel_rfl) x
theorem coverA_27 (t : Fin cfg0.N) (h : cond0_0 (grid0.coords t)) (x : S1x512x512.Idx) : ∃ pc ∈ (atA m c t h).al, x ∈ pc.1.set :=
  View.cover_of_tiledL (atA m c t h).al S1x512x512.size (by unfold atA; sl_kernel_rfl) x
theorem coverA_28 (t : Fin cfg0.N) (h : cond0_0 (grid0.coords t)) (x : S1x512x512.Idx) : ∃ pc ∈ (atA m c t h).be, x ∈ pc.1.set :=
  View.cover_of_tiledL (atA m c t h).be S1x512x512.size (by unfold atA; sl_kernel_rfl) x
theorem coverA_29 (t : Fin cfg0.N) (h : cond0_0 (grid0.coords t)) (x : S8x1792.Idx) : ∃ pc ∈ (atA m c t h).carry, x ∈ pc.1.set :=
  View.cover_of_tiledL (atA m c t h).carry S8x1792.size (by unfold atA; sl_kernel_rfl) x

theorem coverB_17 (t : Fin cfg0.N) (h : ¬cond0_0 (grid0.coords t)) (y : Vec F S8x1792 .f32) (x : S1x512x1024.Idx) : ∃ pc ∈ (atB m c t h y).u, x ∈ pc.1.set :=
  View.cover_of_tiledL (atB m c t h y).u S1x512x1024.size (by unfold atB; sl_kernel_rfl) x
theorem coverB_18 (t : Fin cfg0.N) (h : ¬cond0_0 (grid0.coords t)) (y : Vec F S8x1792 .f32) (x : S1x512x1024.Idx) : ∃ pc ∈ (atB m c t h y).z, x ∈ pc.1.set :=
  View.cover_of_tiledL (atB m c t h y).z S1x512x1024.size (by unfold atB; sl_kernel_rfl) x
theorem coverB_19 (t : Fin cfg0.N) (h : ¬cond0_0 (grid0.coords t)) (y : Vec F S8x1792 .f32) (x : S1x512x2176.Idx) : ∃ pc ∈ (atB m c t h y).r, x ∈ pc.1.set :=
  View.cover_of_tiledL (atB m c t h y).r S1x512x2176.size (by unfold atB; sl_kernel_rfl) x
theorem coverB_20 (t : Fin cfg0.N) (h : ¬cond0_0 (grid0.coords t)) (y : Vec F S8x1792 .f32) (x : S1x512x1024.Idx) : ∃ pc ∈ (atB m c t h y).q, x ∈ pc.1.set :=
  View.cover_of_tiledL (atB m c t h y).q S1x512x128.size (by unfold atB; sl_kernel_rfl) x
theorem coverB_21 (t : Fin cfg0.N) (h : ¬cond0_0 (grid0.coords t)) (y : Vec F S8x1792 .f32) (x : S1x512x1024.Idx) : ∃ pc ∈ (atB m c t h y).k, x ∈ pc.1.set :=
  View.cover_of_tiledL (atB m c t h y).k S1x512x128.size (by unfold atB; sl_kernel_rfl) x
theorem coverB_22 (t : Fin cfg0.N) (h : ¬cond0_0 (grid0.coords t)) (y : Vec F S8x1792 .f32) (x : S1x512x512.Idx) : ∃ pc ∈ (atB m c t h y).v, x ∈ pc.1.set :=
  View.cover_of_tiledL (atB m c t h y).v S1x512x512.size (by unfold atB; sl_kernel_rfl) x
theorem coverB_23 (t : Fin cfg0.N) (h : ¬cond0_0 (grid0.coords t)) (y : Vec F S8x1792 .f32) (x : S1x512x512.Idx) : ∃ pc ∈ (atB m c t h y).rw, x ∈ pc.1.set :=
  View.cover_of_tiledL (atB m c t h y).rw S1x512x512.size (by unfold atB; sl_kernel_rfl) x
theorem coverB_24 (t : Fin cfg0.N) (h : ¬cond0_0 (grid0.coords t)) (y : Vec F S8x1792 .f32) (x : S1x512x512.Idx) : ∃ pc ∈ (atB m c t h y).ww, x ∈ pc.1.set :=
  View.cover_of_tiledL (atB m c t h y).ww S1x512x512.size (by unfold atB; sl_kernel_rfl) x
theorem coverB_25 (t : Fin cfg0.N) (h : ¬cond0_0 (grid0.coords t)) (y : Vec F S8x1792 .f32) (x : S1x512x512.Idx) : ∃ pc ∈ (atB m c t h y).kw, x ∈ pc.1.set :=
  View.cover_of_tiledL (atB m c t h y).kw S1x512x512.size (by unfold atB; sl_kernel_rfl) x
theorem coverB_26 (t : Fin cfg0.N) (h : ¬cond0_0 (grid0.coords t)) (y : Vec F S8x1792 .f32) (x : S1x512x512.Idx) : ∃ pc ∈ (atB m c t h y).vw, x ∈ pc.1.set :=
  View.cover_of_tiledL (atB m c t h y).vw S1x512x512.size (by unfold atB; sl_kernel_rfl) x
theorem coverB_27 (t : Fin cfg0.N) (h : ¬cond0_0 (grid0.coords t)) (y : Vec F S8x1792 .f32) (x : S1x512x512.Idx) : ∃ pc ∈ (atB m c t h y).al, x ∈ pc.1.set :=
  View.cover_of_tiledL (atB m c t h y).al S1x512x512.size (by unfold atB; sl_kernel_rfl) x
theorem coverB_28 (t : Fin cfg0.N) (h : ¬cond0_0 (grid0.coords t)) (y : Vec F S8x1792 .f32) (x : S1x512x512.Idx) : ∃ pc ∈ (atB m c t h y).be, x ∈ pc.1.set :=
  View.cover_of_tiledL (atB m c t h y).be S1x512x512.size (by unfold atB; sl_kernel_rfl) x
theorem coverB_29 (t : Fin cfg0.N) (h : ¬cond0_0 (grid0.coords t)) (y : Vec F S8x1792 .f32) (x : S8x1792.Idx) : ∃ pc ∈ (atB m c t h y).carry, x ∈ pc.1.set :=
  View.cover_of_tiledL (atB m c t h y).carry S8x1792.size (by unfold atB; sl_kernel_rfl) x

/-- What the run leaves, read from its pieces. -/
def leftA (t : Fin cfg0.N) (h : cond0_0 (grid0.coords t)) : Left F where
  u := VO0_17.read (Elt F) (VO0_17.writes (Elt F) VO0_17.junk (atA m c t h).u)
  z := VO0_18.read (Elt F) (VO0_18.writes (Elt F) VO0_18.junk (atA m c t h).z)
  r := VO0_19.read (Elt F) (VO0_19.writes (Elt F) VO0_19.junk (atA m c t h).r)
  q := VO0_20.read (Elt F) (VO0_20.writes (Elt F) VO0_20.junk (atA m c t h).q)
  k := VO0_21.read (Elt F) (VO0_21.writes (Elt F) VO0_21.junk (atA m c t h).k)
  v := VO0_22.read (Elt F) (VO0_22.writes (Elt F) VO0_22.junk (atA m c t h).v)
  rw := VO0_23.read (Elt F) (VO0_23.writes (Elt F) VO0_23.junk (atA m c t h).rw)
  ww := VO0_24.read (Elt F) (VO0_24.writes (Elt F) VO0_24.junk (atA m c t h).ww)
  kw := VO0_25.read (Elt F) (VO0_25.writes (Elt F) VO0_25.junk (atA m c t h).kw)
  vw := VO0_26.read (Elt F) (VO0_26.writes (Elt F) VO0_26.junk (atA m c t h).vw)
  al := VO0_27.read (Elt F) (VO0_27.writes (Elt F) VO0_27.junk (atA m c t h).al)
  be := VO0_28.read (Elt F) (VO0_28.writes (Elt F) VO0_28.junk (atA m c t h).be)
  carry := VS0_0.read (Elt F) (VS0_0.writes (Elt F) VS0_0.junk (atA m c t h).carry)

/-- What the run leaves, read from its pieces. -/
def leftB (t : Fin cfg0.N) (h : ¬cond0_0 (grid0.coords t)) (y : Vec F S8x1792 .f32) : Left F where
  u := VO0_17.read (Elt F) (VO0_17.writes (Elt F) VO0_17.junk (atB m c t h y).u)
  z := VO0_18.read (Elt F) (VO0_18.writes (Elt F) VO0_18.junk (atB m c t h y).z)
  r := VO0_19.read (Elt F) (VO0_19.writes (Elt F) VO0_19.junk (atB m c t h y).r)
  q := VO0_20.read (Elt F) (VO0_20.writes (Elt F) VO0_20.junk (atB m c t h y).q)
  k := VO0_21.read (Elt F) (VO0_21.writes (Elt F) VO0_21.junk (atB m c t h y).k)
  v := VO0_22.read (Elt F) (VO0_22.writes (Elt F) VO0_22.junk (atB m c t h y).v)
  rw := VO0_23.read (Elt F) (VO0_23.writes (Elt F) VO0_23.junk (atB m c t h y).rw)
  ww := VO0_24.read (Elt F) (VO0_24.writes (Elt F) VO0_24.junk (atB m c t h y).ww)
  kw := VO0_25.read (Elt F) (VO0_25.writes (Elt F) VO0_25.junk (atB m c t h y).kw)
  vw := VO0_26.read (Elt F) (VO0_26.writes (Elt F) VO0_26.junk (atB m c t h y).vw)
  al := VO0_27.read (Elt F) (VO0_27.writes (Elt F) VO0_27.junk (atB m c t h y).al)
  be := VO0_28.read (Elt F) (VO0_28.writes (Elt F) VO0_28.junk (atB m c t h y).be)
  carry := VS0_0.read (Elt F) (VS0_0.writes (Elt F) VS0_0.junk (atB m c t h y).carry)

/-- What the points leave, one after another. -/
def left : (n : ℕ) → n < cfg0.N → Left F
  | 0, hn => leftA m c ⟨0, hn⟩ ((hcond0_0 ⟨0, hn⟩).mpr (Nat.zero_mod _))
  | n + 1, hn => if h : (n + 1) % 4 = 0 then leftA m c ⟨n + 1, hn⟩ ((hcond0_0 ⟨n + 1, hn⟩).mpr h)
      else leftB m c ⟨n + 1, hn⟩ (fun h' => h ((hcond0_0 ⟨n + 1, hn⟩).mp h')) (left n (Nat.lt_of_succ_lt hn)).carry

theorem left_first (t : Fin cfg0.N) (h : t.val % 4 = 0) : left m c t.val t.isLt = leftA m c t ((hcond0_0 t).mpr h) := by
  obtain ⟨n, hn⟩ := t
  cases n with
  | zero => rfl
  | succ n => exact dif_pos h

theorem left_next (t : Fin cfg0.N) (h : ¬t.val % 4 = 0) : left m c t.val t.isLt
    = leftB m c t (fun h' => h ((hcond0_0 t).mp h')) (left m c (t.val - 1) (Nat.lt_of_le_of_lt (Nat.sub_le _ _) t.isLt)).carry := by
  obtain ⟨n, hn⟩ := t
  cases n with
  | zero => exact absurd (Nat.zero_mod _) h
  | succ n => exact dif_neg h

/-- Before a point: the carried row at what the point before left. -/
def inv (c : Dev nD) : (n : ℕ) → n ≤ cfg0.N → sProp 𝕄
  | 0, _ => Pipeline.ΦA spec0 c
  | n + 1, hn => iprop(iprop(owns (c : Thread nD τ) scM0_0 fullShare (left m c n hn).carry) ∗ (∃ r, prngReg c r))

theorem inv_zero (n : ℕ) (h : n ≤ cfg0.N) (hz : n = 0) : inv m c n h = Pipeline.ΦA spec0 c := by
  subst hz; rfl

theorem inv_pos (n : ℕ) (h : n ≤ cfg0.N) (hz : n ≠ 0) :
    inv m c n h = iprop(iprop(owns (c : Thread nD τ) scM0_0 fullShare (left m c (n - 1) (by omega)).carry) ∗ (∃ r, prngReg c r)) := by
  cases n with
  | zero => exact absurd rfl hz
  | succ n => rfl

/-- Whatever the point, the carried row holds something. -/
theorem inv_any (n : ℕ) (h : n ≤ cfg0.N) : inv m c n h ⊢ Pipeline.ΦA spec0 c := by
  by_cases hz : n = 0
  · rw [inv_zero m c n h hz]
  · rw [inv_pos m c n h hz, PhiA0_eq]
    iintro ⟨HS, Hg⟩
    isplitl [HS]
    · iexists _; iexact HS
    iexact Hg

/-! ### The pipeline's data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (left m c t.val t.isLt).u
    | ⟨18, _⟩ => (left m c t.val t.isLt).z
    | ⟨19, _⟩ => (left m c t.val t.isLt).r
    | ⟨20, _⟩ => (left m c t.val t.isLt).q
    | ⟨21, _⟩ => (left m c t.val t.isLt).k
    | ⟨22, _⟩ => (left m c t.val t.isLt).v
    | ⟨23, _⟩ => (left m c t.val t.isLt).rw
    | ⟨24, _⟩ => (left m c t.val t.isLt).ww
    | ⟨25, _⟩ => (left m c t.val t.isLt).kw
    | ⟨26, _⟩ => (left m c t.val t.isLt).vw
    | ⟨27, _⟩ => (left m c t.val t.isLt).al
    | ⟨28, _⟩ => (left m c t.val t.isLt).be
    | ⟨_ + 29, h⟩ => absurd h (Nat.not_lt.2 (Nat.le_add_left _ _))
  Φ t := inv m c t.val (Nat.le_of_lt_succ t.isLt)
  q _ := fullShare
  owed _ := 0

theorem arr_entry (c : Dev nD) (w : Fin cfg0.W) : (dats m 0 c).A w = V m c (Pipeline.arrRef spec0 w) := by
  dsimp only [dats]

theorem inv_at (t : Fin cfg0.N) : (dats m 0 c).Φ t.castSucc = inv m c t.val (Nat.le_of_lt t.isLt) := by
  dsimp only [dats]; exact Pipeline.Dat.Φ_castSucc (inv m c) t

theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = iblk m c 10 t := by dsimp only [dats]
theorem after_11 (t : Fin cfg0.N) : (dats m 0 c).after 11 t = iblk m c 11 t := by dsimp only [dats]
theorem after_12 (t : Fin cfg0.N) : (dats m 0 c).after 12 t = iblk m c 12 t := by dsimp only [dats]
theorem after_13 (t : Fin cfg0.N) : (dats m 0 c).after 13 t = iblk m c 13 t := by dsimp only [dats]
theorem after_14 (t : Fin cfg0.N) : (dats m 0 c).after 14 t = iblk m c 14 t := by dsimp only [dats]
theorem after_15 (t : Fin cfg0.N) : (dats m 0 c).after 15 t = iblk m c 15 t := by dsimp only [dats]
theorem after_16 (t : Fin cfg0.N) : (dats m 0 c).after 16 t = iblk m c 16 t := by dsimp only [dats]
theorem after_17 (t : Fin cfg0.N) : (dats m 0 c).after 17 t = (left m c t.val t.isLt).u := by dsimp only [dats]
theorem after_18 (t : Fin cfg0.N) : (dats m 0 c).after 18 t = (left m c t.val t.isLt).z := by dsimp only [dats]
theorem after_19 (t : Fin cfg0.N) : (dats m 0 c).after 19 t = (left m c t.val t.isLt).r := by dsimp only [dats]
theorem after_20 (t : Fin cfg0.N) : (dats m 0 c).after 20 t = (left m c t.val t.isLt).q := by dsimp only [dats]
theorem after_21 (t : Fin cfg0.N) : (dats m 0 c).after 21 t = (left m c t.val t.isLt).k := by dsimp only [dats]
theorem after_22 (t : Fin cfg0.N) : (dats m 0 c).after 22 t = (left m c t.val t.isLt).v := by dsimp only [dats]
theorem after_23 (t : Fin cfg0.N) : (dats m 0 c).after 23 t = (left m c t.val t.isLt).rw := by dsimp only [dats]
theorem after_24 (t : Fin cfg0.N) : (dats m 0 c).after 24 t = (left m c t.val t.isLt).ww := by dsimp only [dats]
theorem after_25 (t : Fin cfg0.N) : (dats m 0 c).after 25 t = (left m c t.val t.isLt).kw := by dsimp only [dats]
theorem after_26 (t : Fin cfg0.N) : (dats m 0 c).after 26 t = (left m c t.val t.isLt).vw := by dsimp only [dats]
theorem after_27 (t : Fin cfg0.N) : (dats m 0 c).after 27 t = (left m c t.val t.isLt).al := by dsimp only [dats]
theorem after_28 (t : Fin cfg0.N) : (dats m 0 c).after 28 t = (left m c t.val t.isLt).be := by dsimp only [dats]

theorem before_0 (t : Fin cfg0.N) (d) : (dats m 0 c).before 0 t d = iblk m c 0 t :=
  before0_0_of m (dats m 0 c) (arr_entry m c 0) (after_0 m c) t d
theorem before_1 (t : Fin cfg0.N) (d) : (dats m 0 c).before 1 t d = iblk m c 1 t :=
  before0_1_of m (dats m 0 c) (arr_entry m c 1) (after_1 m c) t d
theorem before_2 (t : Fin cfg0.N) (d) : (dats m 0 c).before 2 t d = iblk m c 2 t :=
  before0_2_of m (dats m 0 c) (arr_entry m c 2) (after_2 m c) t d
theorem before_3 (t : Fin cfg0.N) (d) : (dats m 0 c).before 3 t d = iblk m c 3 t :=
  before0_3_of m (dats m 0 c) (arr_entry m c 3) (after_3 m c) t d
theorem before_4 (t : Fin cfg0.N) (d) : (dats m 0 c).before 4 t d = iblk m c 4 t :=
  before0_4_of m (dats m 0 c) (arr_entry m c 4) (after_4 m c) t d
theorem before_5 (t : Fin cfg0.N) (d) : (dats m 0 c).before 5 t d = iblk m c 5 t :=
  before0_5_of m (dats m 0 c) (arr_entry m c 5) (after_5 m c) t d
theorem before_6 (t : Fin cfg0.N) (d) : (dats m 0 c).before 6 t d = iblk m c 6 t :=
  before0_6_of m (dats m 0 c) (arr_entry m c 6) (after_6 m c) t d
theorem before_7 (t : Fin cfg0.N) (d) : (dats m 0 c).before 7 t d = iblk m c 7 t :=
  before0_7_of m (dats m 0 c) (arr_entry m c 7) (after_7 m c) t d
theorem before_8 (t : Fin cfg0.N) (d) : (dats m 0 c).before 8 t d = iblk m c 8 t :=
  before0_8_of m (dats m 0 c) (arr_entry m c 8) (after_8 m c) t d
theorem before_9 (t : Fin cfg0.N) (d) : (dats m 0 c).before 9 t d = iblk m c 9 t :=
  before0_9_of m (dats m 0 c) (arr_entry m c 9) (after_9 m c) t d
theorem before_10 (t : Fin cfg0.N) (d) : (dats m 0 c).before 10 t d = iblk m c 10 t :=
  before0_10_of m (dats m 0 c) (arr_entry m c 10) (after_10 m c) t d
theorem before_11 (t : Fin cfg0.N) (d) : (dats m 0 c).before 11 t d = iblk m c 11 t :=
  before0_11_of m (dats m 0 c) (arr_entry m c 11) (after_11 m c) t d
theorem before_12 (t : Fin cfg0.N) (d) : (dats m 0 c).before 12 t d = iblk m c 12 t :=
  before0_12_of m (dats m 0 c) (arr_entry m c 12) (after_12 m c) t d
theorem before_13 (t : Fin cfg0.N) (d) : (dats m 0 c).before 13 t d = iblk m c 13 t :=
  before0_13_of m (dats m 0 c) (arr_entry m c 13) (after_13 m c) t d
theorem before_14 (t : Fin cfg0.N) (d) : (dats m 0 c).before 14 t d = iblk m c 14 t :=
  before0_14_of m (dats m 0 c) (arr_entry m c 14) (after_14 m c) t d
theorem before_15 (t : Fin cfg0.N) (d) : (dats m 0 c).before 15 t d = iblk m c 15 t :=
  before0_15_of m (dats m 0 c) (arr_entry m c 15) (after_15 m c) t d
theorem before_16 (t : Fin cfg0.N) (d) : (dats m 0 c).before 16 t d = iblk m c 16 t :=
  before0_16_of m (dats m 0 c) (arr_entry m c 16) (after_16 m c) t d

/-! ### The body's obligation -/

def pre (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d)))

def post (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t))

set_option maxHeartbeats 22400000 in
/-- The body meets what is stated of it at every point. -/
theorem body_sound (t : Fin cfg0.N) :
    pre m c t ⊢ wp frame (wpE (defs₀ (F := F)) Variants.none c none) Set.univ (bodyAt0 t) (fun _ => post m c t) := by
  unfold pre post bodyAt0
  simp only [before_0, before_1, before_2, before_3, before_4, before_5, before_6, before_7, before_8, before_9, before_10, before_11, before_12, before_13, before_14, before_15, before_16]
  rw [show (dats m 0 c).owesAt () t.succ = (dats m 0 c).owesAt () t.castSucc from rfl,
    after_0, after_1, after_2, after_3, after_4, after_5, after_6, after_7, after_8, after_9, after_10, after_11, after_12, after_13, after_14, after_15, after_16, after_17, after_18, after_19, after_20, after_21, after_22, after_23, after_24, after_25, after_26, after_27, after_28]
  rw [show (dats m 0 c).Φ t.succ = iprop(iprop(owns (c : Thread nD τ) scM0_0 fullShare (left m c t.val t.isLt).carry) ∗ (∃ r, prngReg c r)) from rfl, inv_at m c t]
  by_cases h0 : t.val % 4 = 0
  · rw [left_first m c t h0]
    unfold leftA; dsimp only
    refine (sep_mono_left (inv_any m c _ _)).trans ?_
    rw [PhiA0_eq]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atA m c t ((hcond0_0 t).mpr h0)).sound Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS]; · iexact HS
    iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es, HS⟩⟩
    isplitl [HS Hg]
    · isplitl [HS]
      · unfold owns; iexists _; isplitr
        swap; · iexact HS
        ipureintro; exact View.read_writes_of_cover _ _ _ _ _ (coverA_29 m c t _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr
      swap; · iexact H17
      ipureintro; exact View.read_writes_of_cover _ _ _ _ _ (coverA_17 m c t _)
    isplitl [H18]
    · unfold owns; iexists _; isplitr
      swap; · iexact H18
      ipureintro; exact View.read_writes_of_cover _ _ _ _ _ (coverA_18 m c t _)
    isplitl [H19]
    · unfold owns; iexists _; isplitr
      swap; · iexact H19
      ipureintro; exact View.read_writes_of_cover _ _ _ _ _ (coverA_19 m c t _)
    isplitl [H20]
    · unfold owns; iexists _; isplitr
      swap; · iexact H20
      ipureintro; exact View.read_writes_of_cover _ _ _ _ _ (coverA_20 m c t _)
    isplitl [H21]
    · unfold owns; iexists _; isplitr
      swap; · iexact H21
      ipureintro; exact View.read_writes_of_cover _ _ _ _ _ (coverA_21 m c t _)
    isplitl [H22]
    · unfold owns; iexists _; isplitr
      swap; · iexact H22
      ipureintro; exact View.read_writes_of_cover _ _ _ _ _ (coverA_22 m c t _)
    isplitl [H23]
    · unfold owns; iexists _; isplitr
      swap; · iexact H23
      ipureintro; exact View.read_writes_of_cover _ _ _ _ _ (coverA_23 m c t _)
    isplitl [H24]
    · unfold owns; iexists _; isplitr
      swap; · iexact H24
      ipureintro; exact View.read_writes_of_cover _ _ _ _ _ (coverA_24 m c t _)
    isplitl [H25]
    · unfold owns; iexists _; isplitr
      swap; · iexact H25
      ipureintro; exact View.read_writes_of_cover _ _ _ _ _ (coverA_25 m c t _)
    isplitl [H26]
    · unfold owns; iexists _; isplitr
      swap; · iexact H26
      ipureintro; exact View.read_writes_of_cover _ _ _ _ _ (coverA_26 m c t _)
    isplitl [H27]
    · unfold owns; iexists _; isplitr
      swap; · iexact H27
      ipureintro; exact View.read_writes_of_cover _ _ _ _ _ (coverA_27 m c t _)
    unfold owns; iexists _; isplitr
    swap; · iexact H28
    ipureintro; exact View.read_writes_of_cover _ _ _ _ _ (coverA_28 m c t _)
  · rw [left_next m c t h0, inv_pos m c _ _ (fun hz => h0 (by rw [hz]))]
    unfold leftB; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩⟩
    iapply ((atB m c t (fun h => h0 ((hcond0_0 t).mp h)) _).sound Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [HS]; · iexact HS
    iintro ⟨H0, H1, H2, H3, H4, H5, H6, H7, H8, H9, H10, H11, H12, H13, H14, H15, H16, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%es, HS⟩⟩
    isplitl [HS Hg]
    · isplitl [HS]
      · unfold owns; iexists _; isplitr
        swap; · iexact HS
        ipureintro; exact View.read_writes_of_cover _ _ _ _ _ (coverB_29 m c t _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]
    · unfold owns; iexists _; isplitr
      swap; · iexact H17
      ipureintro; exact View.read_writes_of_cover _ _ _ _ _ (coverB_17 m c t _ _)
    isplitl [H18]
    · unfold owns; iexists _; isplitr
      swap; · iexact H18
      ipureintro; exact View.read_writes_of_cover _ _ _ _ _ (coverB_18 m c t _ _)
    isplitl [H19]
    · unfold owns; iexists _; isplitr
      swap; · iexact H19
      ipureintro; exact View.read_writes_of_cover _ _ _ _ _ (coverB_19 m c t _ _)
    isplitl [H20]
    · unfold owns; iexists _; isplitr
      swap; · iexact H20
      ipureintro; exact View.read_writes_of_cover _ _ _ _ _ (coverB_20 m c t _ _)
    isplitl [H21]
    · unfold owns; iexists _; isplitr
      swap; · iexact H21
      ipureintro; exact View.read_writes_of_cover _ _ _ _ _ (coverB_21 m c t _ _)
    isplitl [H22]
    · unfold owns; iexists _; isplitr
      swap; · iexact H22
      ipureintro; exact View.read_writes_of_cover _ _ _ _ _ (coverB_22 m c t _ _)
    isplitl [H23]
    · unfold owns; iexists _; isplitr
      swap; · iexact H23
      ipureintro; exact View.read_writes_of_cover _ _ _ _ _ (coverB_23 m c t _ _)
    isplitl [H24]
    · unfold owns; iexists _; isplitr
      swap; · iexact H24
      ipureintro; exact View.read_writes_of_cover _ _ _ _ _ (coverB_24 m c t _ _)
    isplitl [H25]
    · unfold owns; iexists _; isplitr
      swap; · iexact H25
      ipureintro; exact View.read_writes_of_cover _ _ _ _ _ (coverB_25 m c t _ _)
    isplitl [H26]
    · unfold owns; iexists _; isplitr
      swap; · iexact H26
      ipureintro; exact View.read_writes_of_cover _ _ _ _ _ (coverB_26 m c t _ _)
    isplitl [H27]
    · unfold owns; iexists _; isplitr
      swap; · iexact H27
      ipureintro; exact View.read_writes_of_cover _ _ _ _ _ (coverB_27 m c t _ _)
    unfold owns; iexists _; isplitr
    swap; · iexact H28
    ipureintro; exact View.read_writes_of_cover _ _ _ _ _ (coverB_28 m c t _ _)

theorem row (t : Fin cfg0.N) : defs₀ (F := F) .tc cfg0.body (cfg0.bodyArgs t (cfg0.slots t)) = bodyAt0 t := by
  unfold defs₀; rw [Defs.onTc_tc]

set_option maxHeartbeats 4000000 in
theorem obligation : BodyObligation (dats m 0 c) (defs₀ (F := F)) Variants.none () Set.univ := fun t => by
  rw [bigSep_W0, bigSep_W0, row]
  exact triple_restated (body_sound m c t) rfl .rfl fun _ => .rfl

theorem enter : Pipeline.ΦA spec0 c ⊢ (dats m 0 c).Φ 0 := by
  rw [show (dats m 0 c).Φ 0 = inv m c 0 (Nat.zero_le _) from rfl, inv_zero m c 0 _ rfl]

theorem leave : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl]
  exact inv_any m c _ _

-- the launch theorem's implicit arguments are found in this statement through plain definitions
set_option backward.isDefEq.respectTransparency.types false in
set_option maxHeartbeats 800000 in
/-- The run of the program: the arrays at what the pipeline's data say and the host's lines leave, every counter at zero. -/
theorem run_all : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := arr_entry m) (hin := enter m) (hout := leave m)

end Cert.Kernel4Ideal.Fwd

end
-- ==== Proof.FwdPay.lean ====
module

public import proofs.«01_k».proof.Proof.MixHost
public import proofs.«01_k».proof.Proof.Gen.Kernel4Ideal.Frame.Runs
public import proofs.«01_k».proof.Proof.Gen.Reference4Ideal.Read

/-! The forward projection: what a grid point computes of its blocks, what the host hands it and makes of its results, and the
    plain projection read at an index. -/

@[expose] public section

set_option maxRecDepth 65536

noncomputable section

namespace Cert.Kernel4Ideal.Fwd

open Cert.Kernel4Ideal Cert.Kernel4Ideal.Gen
open Idealize.ShloMosaic Idealize.ShloMosaic.TcCoe Idealize.ShloMosaic.Tactic Idealize.SL.Sem
open Cert.Kernel2Ideal.Weight (place place_val)
open Cert.Kernel3Ideal.Mix (weight weight_at)

/-! ### One grid point -/

theorem pay5_at (x : Vec Ideal S1x512x1024 .f32) (g : Vec Ideal S1x1024 .f32) (r : Fin 512) (n : Fin 1024) :
    k0_pay5 (F := Ideal) x g (ix2 r n) = x (ix3 0 r n) * (Cert.Norm.scale fun n : Fin 1024 => x (ix3 0 r n)) * g (ix2 0 n) := by
  pointwise [k0_pay5]
  rfl

theorem pay6_at (x : Vec Ideal S1x512x1024 .f32) (g : Vec Ideal S1x1024 .f32) (r : Fin 512) (n : Fin 1024) :
    k0_pay6 (F := Ideal) x g (ix3 0 r n) = x (ix3 0 r n) * (Cert.Norm.scale fun n : Fin 1024 => x (ix3 0 r n)) * g (ix2 0 n) := by
  rw [← pay5_at]
  unfold k0_pay6
  generalize k0_pay5 (F := Ideal) x g = y
  pointwise []

theorem pay7_at (x : Vec Ideal S1x512x1024 .f32) (g : Vec Ideal S1x1024 .f32) (w : Vec Ideal S1024x3200 .bf16) (r : Fin 512) (j : Fin 3200) :
    k0_pay7 (F := Ideal) x g w (ix2 r j)
      = ∑ k : Fin 1024, x (ix3 0 r k) * (Cert.Norm.scale fun n : Fin 1024 => x (ix3 0 r n)) * g (ix2 0 k) * w (ix2 k j) := by
  have h := pay5_at x g r
  unfold k0_pay7
  generalize k0_pay5 (F := Ideal) x g = y at h
  pointwise []
  simp only [h]

theorem pay8_at (x : Vec Ideal S1x512x1024 .f32) (g : Vec Ideal S1x1024 .f32) (w : Vec Ideal S1024x3200 .bf16) (r : Fin 512) (j : Fin 1024) :
    k0_pay8 (F := Ideal) x g w (ix3 0 r j) = k0_pay7 (F := Ideal) x g w (ix2 r ⟨j.val, by omega⟩) := by
  unfold k0_pay8
  generalize k0_pay7 (F := Ideal) x g w = y
  pointwise []

theorem pay9_at (x : Vec Ideal S1x512x1024 .f32) (g : Vec Ideal S1x1024 .f32) (w : Vec Ideal S1024x3200 .bf16) (r : Fin 512) (j : Fin 2176) :
    k0_pay9 (F := Ideal) x g w (ix3 0 r j) = k0_pay7 (F := Ideal) x g w (ix2 r ⟨1024 + j.val, by omega⟩) := by
  unfold k0_pay9
  generalize k0_pay7 (F := Ideal) x g w = y
  pointwise []

/-- A normalised row, at an index. -/
def rows (X : Vec Ideal S4x2048x1024 .f32) (G : Vec Ideal S1x1024 .f32) (b : Fin 4) (s : Fin 2048) (n : Fin 1024) : EReal :=
  X (ix3 b s n) * (Cert.Norm.scale fun n : Fin 1024 => X (ix3 b s n)) * G (ix2 0 n)

/-- Its product with a weight, at a column of the weight. -/
def prods {N : ℕ} (X : Vec Ideal S4x2048x1024 .f32) (G : Vec Ideal S1x1024 .f32) (W : (⟨2, ![1024, N]⟩ : Shape).Idx → EReal)
    (b : Fin 4) (s : Fin 2048) (j : Fin N) : EReal := ∑ k : Fin 1024, rows X G b s k * W (ix2 k j)

/-! ### The blocks -/

section Blocks

theorem idx0 : ∀ t : Fin grid0.N, win0_0.index t = ![t.val / 4, t.val % 4, 0] := by decide +kernel
theorem idx3 : ∀ t : Fin grid0.N, win0_3.index t = ![0, 0] := by decide +kernel
theorem idx4 : ∀ t : Fin grid0.N, win0_4.index t = ![0, 0] := by decide +kernel
theorem idx17 : ∀ t : Fin grid0.N, win0_17.index t = ![t.val / 4, t.val % 4, 0] := by decide +kernel
theorem idx18 : ∀ t : Fin grid0.N, win0_18.index t = ![t.val / 4, t.val % 4, 0] := by decide +kernel
theorem idx19 : ∀ t : Fin grid0.N, win0_19.index t = ![t.val / 4, t.val % 4, 0] := by decide +kernel

variable (m : (ℓ : Loc nD τ sig) → Buf (Elt Ideal) ℓ) (c : Dev nD) (t : Fin cfg0.N)

theorem lt16 : t.val < 16 := Nat.lt_of_lt_of_eq t.isLt N_0

/-- The point's batch. -/
abbrev bt : Fin 4 := ⟨t.val / 4, by have := lt16 t; omega⟩
/-- The position of a row of the point's block. -/
abbrev ps (r : Fin 512) : Fin 2048 := ⟨t.val % 4 * 512 + r.val, by have := r.isLt; omega⟩

theorem blk0 (r : Fin 512) (n : Fin 1024) : iblk m c 0 t (ix3 0 r n) = V m c main_arg0 (ix3 (bt t) (ps t r) n) := by
  blk_ext [iblk, idx0 t]
theorem blk3 (n : Fin 1024) : iblk m c 3 t (ix2 0 n) = V m c main_arg3 (ix2 0 n) := by
  blk_ext [iblk, idx3 t]
theorem blk4 (k : Fin 1024) (j : Fin 3200) : iblk m c 4 t (ix2 k j) = V m c main_v17 (ix2 k j) := by
  blk_ext [iblk, idx4 t]

end Blocks

/-! ### The host before and after -/

theorem weight_place (P : Vec Ideal S1024x3136 .f32) (j : Fin 3136) (n : Fin 1024) :
    weight P (ix2 n (place j)) = P (ix2 n j) := by
  rw [← Cert.Kernel3Ideal.Mix.weightT_at]
  exact Cert.Kernel3Ideal.Mix.weightT_place P j n

section Host

variable (m : (ℓ : Loc nD τ sig) → Buf (Elt Ideal) ℓ) (c : Dev nD)

/-- The weight's columns are put in the program's order. -/
theorem mid_v16 (W : Valuation τ sig (Elt Ideal)) :
    StableHlo.after (hostOps0_2.take 17) W (Proc.devRef .tc main_v16) = weight (W (Proc.devRef .tc main_arg4)) := by
  have e : StableHlo.after (hostOps0_2.take 17) W = ((hostOps0_2 (F := Ideal))[16]).result (StableHlo.after (hostOps0_2.take 16) W) := rfl
  have h0 : StableHlo.after (hostOps0_2.take 16) W (Proc.devRef .tc main_v10) = extractStridedSlice S1024x1024 ![0, 2112] (W (Proc.devRef .tc main_arg4) : Vec Ideal S1024x3136 .f32) slices_S1024x3136_S1024x1024_0_2112 := by
    simp only [List.take_succ_cons, List.take_zero]; after_results_simp
  have h1 : StableHlo.after (hostOps0_2.take 16) W (Proc.devRef .tc main_v11) = extractStridedSlice S1024x384 ![0, 0] (W (Proc.devRef .tc main_arg4) : Vec Ideal S1024x3136 .f32) slices_S1024x3136_S1024x384_0_0 := by
    simp only [List.take_succ_cons, List.take_zero]; after_results_simp
  have h2 : StableHlo.after (hostOps0_2.take 16) W (Proc.devRef .tc main_v12) = extractStridedSlice S1024x1536 ![0, 448] (W (Proc.devRef .tc main_arg4) : Vec Ideal S1024x3136 .f32) slices_S1024x3136_S1024x1536_0_448 := by
    simp only [List.take_succ_cons, List.take_zero]; after_results_simp
  have h3 : StableHlo.after (hostOps0_2.take 16) W (Proc.devRef .tc main_v13) = extractStridedSlice S1024x64 ![0, 384] (W (Proc.devRef .tc main_arg4) : Vec Ideal S1024x3136 .f32) slices_S1024x3136_S1024x64_0_384 := by
    simp only [List.take_succ_cons, List.take_zero]; after_results_simp
  have h4 : StableHlo.after (hostOps0_2.take 16) W (Proc.devRef .tc main_v14) = extractStridedSlice S1024x128 ![0, 1984] (W (Proc.devRef .tc main_arg4) : Vec Ideal S1024x3136 .f32) slices_S1024x3136_S1024x128_0_1984 := by
    simp only [List.take_succ_cons, List.take_zero]; after_results_simp
  have h5 : StableHlo.after (hostOps0_2.take 16) W (Proc.devRef .tc main_v15) = broadcastInDim S1024x64 ![] bcast_S_S1024x64 (constant (F := Ideal) S_ .f32 0x00000000#32) := by
    simp only [List.take_succ_cons, List.take_zero]; after_results_simp
  rw [e]
  generalize StableHlo.after (hostOps0_2.take 16) W = Y at h0 h1 h2 h3 h4 h5
  simp only [List.getElem_cons_succ, List.getElem_cons_zero]
  refine (StableHlo.nary_result ..).trans ?_
  unfold weight
  show concatenate S1024x3200 1
    [⟨S1024x1024, (Y (Proc.devRef .tc main_v10) : Vec Ideal S1024x1024 .f32)⟩, ⟨S1024x384, (Y (Proc.devRef .tc main_v11) : Vec Ideal S1024x384 .f32)⟩,
      ⟨S1024x1536, (Y (Proc.devRef .tc main_v12) : Vec Ideal S1024x1536 .f32)⟩, ⟨S1024x64, (Y (Proc.devRef .tc main_v13) : Vec Ideal S1024x64 .f32)⟩,
      ⟨S1024x128, (Y (Proc.devRef .tc main_v14) : Vec Ideal S1024x128 .f32)⟩, ⟨S1024x64, (Y (Proc.devRef .tc main_v15) : Vec Ideal S1024x64 .f32)⟩]
    concatenates_S1024x1024_S1024x384_S1024x1536_S1024x64_S1024x128_S1024x64_S1024x3200_d1 = _
  rw [h0, h1, h2, h3, h4, h5]

/-- The lines before the weight's. -/
abbrev early : Valuation τ sig (Elt Ideal) := StableHlo.after (hostOps0 ++ hostOps0_1) fun b => m (c, b)

theorem V_late (b : Ref sig .tc) : V m c b = StableHlo.after (hostOps0_2.drop 18 ++ hostOps0_3 ++ hostOps0_4 ++ hostOps0_5 ++ hostOps0_6 ++ hostOps0_7 ++ hostOps0_8)
    (StableHlo.after ((hostOps0_2.take 18).drop 17) (StableHlo.after (hostOps0_2.take 17) (early m c))) (Proc.devRef .tc b) := rfl

theorem early_arg4 : early m c (Proc.devRef .tc main_arg4) = m (c, Proc.devRef .tc main_arg4) :=
  StableHlo.after_of_forall_not_mem (b := Proc.devRef .tc main_arg4) _ _ (List.forall_iff_forall_mem.mp (by
    simp only [hostOps0, hostOps0_1, List.cons_append, List.nil_append, List.Forall, StableHlo.nullary_writes, StableHlo.unary_writes, StableHlo.binary_writes, StableHlo.ternary_writes, Finset.mem_singleton]
    repeat' apply And.intro
    all_goals exact StableHlo.devRef_ne_of_ne (by decide)))

theorem late_v17 (W : Valuation τ sig (Elt Ideal)) :
    StableHlo.after (hostOps0_2.drop 18 ++ hostOps0_3 ++ hostOps0_4 ++ hostOps0_5 ++ hostOps0_6 ++ hostOps0_7 ++ hostOps0_8) W (Proc.devRef .tc main_v17)
      = W (Proc.devRef .tc main_v17) :=
  StableHlo.after_of_forall_not_mem (b := Proc.devRef .tc main_v17) _ _ (List.forall_iff_forall_mem.mp (by
    simp only [hostOps0_2, hostOps0_3, hostOps0_4, hostOps0_5, hostOps0_6, hostOps0_7, hostOps0_8, List.drop_succ_cons, List.drop_zero, List.cons_append, List.nil_append, List.Forall, StableHlo.nullary_writes, StableHlo.unary_writes, StableHlo.binary_writes, StableHlo.ternary_writes, StableHlo.reshape_writes, StableHlo.nary_writes, Finset.mem_singleton]
    repeat' apply And.intro
    all_goals exact StableHlo.devRef_ne_of_ne (by decide)))

theorem V_main_v17 (k : Fin 1024) (j : Fin 3200) : V m c main_v17 (ix2 k j) = weight (m ((c.tc : Thread nD τ).loc main_arg4)) (ix2 k j) := by
  have h := mid_v16 (early m c)
  rw [early_arg4] at h
  refine (congrFun ((V_late m c main_v17).trans (late_v17 _)) _).trans ?_
  generalize StableHlo.after (hostOps0_2.take 17) (early m c) = Y at h
  have h2 : StableHlo.after ((hostOps0_2.take 18).drop 17) Y (Proc.devRef .tc main_v17)
      = (truncf .bf16 (Y (Proc.devRef .tc main_v16) : FVec Ideal S1024x3200 .f32) bitsLt_bf16_f32 : FVec Ideal S1024x3200 .bf16) := by
    simp only [List.take_succ_cons, List.take_zero, List.drop_succ_cons, List.drop_zero]
    after_results_simp
  rw [h2, h]
  generalize weight (m (c, Proc.devRef .tc main_arg4)) = Z
  pointwise []

/-- The columns of the projection put back into the projection's order. -/
def joined (R : Vec Ideal S4x2048x2176 .f32) (Z : Vec Ideal S4x2048x1024 .f32) : Vec Ideal S4x2048x3136 .f32 :=
  concatenate S4x2048x3136 2
    [⟨S4x2048x384, extractStridedSlice S4x2048x384 ![0, 0, 0] R slices_S4x2048x2176_S4x2048x384_0_0_0⟩,
      ⟨S4x2048x64, extractStridedSlice S4x2048x64 ![0, 0, 1920] R slices_S4x2048x2176_S4x2048x64_0_0_1920⟩,
      ⟨S4x2048x1536, extractStridedSlice S4x2048x1536 ![0, 0, 384] R slices_S4x2048x2176_S4x2048x1536_0_0_384⟩,
      ⟨S4x2048x128, extractStridedSlice S4x2048x128 ![0, 0, 1984] R slices_S4x2048x2176_S4x2048x128_0_0_1984⟩,
      ⟨S4x2048x1024, Z⟩]
    concatenates_S4x2048x384_S4x2048x64_S4x2048x1536_S4x2048x128_S4x2048x1024_S4x2048x3136_d2

theorem joined_at (f : Fin 4 → Fin 2048 → Fin 3200 → EReal) (R : Vec Ideal S4x2048x2176 .f32) (Z : Vec Ideal S4x2048x1024 .f32)
    (hR : ∀ b s (j : Fin 2176), R (ix3 b s j) = f b s ⟨1024 + j.val, by omega⟩)
    (hZ : ∀ b s (j : Fin 1024), Z (ix3 b s j) = f b s ⟨j.val, by omega⟩) (b : Fin 4) (s : Fin 2048) (n : Fin 3136) :
    joined R Z (ix3 b s n) = f b s (place n) := by
  have hn := n.isLt
  have hp := place_val n
  generalize place n = q at hp
  pointwise [joined]
  simp only [hR, hZ]
  split_ifs at hp <;> split_ifs <;> first | omega | exact congrArg (f b s) (Fin.ext (by simp only; omega))

theorem last_v42 (W : Valuation τ sig (Elt Ideal)) :
    StableHlo.after hostOps1 W (Proc.devRef .tc main_v42) = joined (W (Proc.devRef .tc main_v37_2)) (W (Proc.devRef .tc main_v37_1)) := by
  have e : StableHlo.after hostOps1 W = ((hostOps1 (F := Ideal))[4]).result (StableHlo.after (hostOps1.take 4) W) := rfl
  have h0 : StableHlo.after (hostOps1.take 4) W (Proc.devRef .tc main_v38) = extractStridedSlice S4x2048x384 ![0, 0, 0] (W (Proc.devRef .tc main_v37_2) : Vec Ideal S4x2048x2176 .f32) slices_S4x2048x2176_S4x2048x384_0_0_0 := by
    simp only [List.take_succ_cons, List.take_zero]; after_results_simp
  have h1 : StableHlo.after (hostOps1.take 4) W (Proc.devRef .tc main_v39) = extractStridedSlice S4x2048x64 ![0, 0, 1920] (W (Proc.devRef .tc main_v37_2) : Vec Ideal S4x2048x2176 .f32) slices_S4x2048x2176_S4x2048x64_0_0_1920 := by
    simp only [List.take_succ_cons, List.take_zero]; after_results_simp
  have h2 : StableHlo.after (hostOps1.take 4) W (Proc.devRef .tc main_v40) = extractStridedSlice S4x2048x1536 ![0, 0, 384] (W (Proc.devRef .tc main_v37_2) : Vec Ideal S4x2048x2176 .f32) slices_S4x2048x2176_S4x2048x1536_0_0_384 := by
    simp only [List.take_succ_cons, List.take_zero]; after_results_simp
  have h3 : StableHlo.after (hostOps1.take 4) W (Proc.devRef .tc main_v41) = extractStridedSlice S4x2048x128 ![0, 0, 1984] (W (Proc.devRef .tc main_v37_2) : Vec Ideal S4x2048x2176 .f32) slices_S4x2048x2176_S4x2048x128_0_0_1984 := by
    simp only [List.take_succ_cons, List.take_zero]; after_results_simp
  have h4 : StableHlo.after (hostOps1.take 4) W (Proc.devRef .tc main_v37_1) = W (Proc.devRef .tc main_v37_1) := by
    simp only [List.take_succ_cons, List.take_zero]; after_results_simp
  rw [e]
  generalize StableHlo.after (hostOps1.take 4) W = Y at h0 h1 h2 h3 h4
  simp only [List.getElem_cons_succ, List.getElem_cons_zero]
  refine (StableHlo.nary_result ..).trans ?_
  unfold joined
  rw [← h0, ← h1, ← h2, ← h3, ← h4]
  rfl

end Host

end Cert.Kernel4Ideal.Fwd

namespace Cert.Reference4Ideal.Fwd

open Cert.Reference4Ideal Cert.Reference4Ideal.Gen Cert.Reference4Ideal.Read
open Idealize.ShloMosaic Idealize.ShloMosaic.TcCoe Idealize.ShloMosaic.Tactic Idealize.SL.Sem
open Cert.Kernel4Ideal.Fwd (rows prods)

variable (X : Vec Ideal S4x2048x1024 .f32) (G : Vec Ideal S1x1024 .f32) (W : Vec Ideal S1024x3136 .f32) (b : Fin 4) (s : Fin 2048)

theorem v6_at : val_main_v6 (F := Ideal) X (ix3 b s 0) = Cert.Norm.var fun n : Fin 1024 => X (ix3 b s n) := by
  rw [← Cert.Norm.var_div]
  pointwise [val_main_v6, val_main_v5, val_main_v4, val_main_v3, val_main_v2, val_main_v1, val_main_v0, val_main_cst, val_main_cst_0, val_main_cst_1]
  rfl

theorem v7_at : val_main_v7 (F := Ideal) X (ix3 b s 0) = Cert.Norm.scale fun n : Fin 1024 => X (ix3 b s n) := by
  unfold Cert.Norm.scale
  rw [← v6_at]
  unfold val_main_v7
  generalize val_main_v6 (F := Ideal) X = Y
  pointwise []

theorem v12_at (n : Fin 1024) : val_main_v12 (F := Ideal) X G (ix3 b s n) = rows X G b s n := by
  unfold rows
  rw [← v7_at]
  unfold val_main_v12 val_main_v9 val_main_v8
  generalize val_main_v7 (F := Ideal) X = Y
  pointwise [val_main_v11, val_main_v10]

theorem v13_at (n : Fin 1024) : val_main_v13 (F := Ideal) X G (ix3 b s n) = rows X G b s n := by
  rw [← v12_at]
  unfold val_main_v13
  generalize val_main_v12 (F := Ideal) X G = Y
  pointwise []

theorem v14_at (n : Fin 3136) : val_main_v14 (F := Ideal) X G W (ix3 b s n) = prods X G W b s n := by
  unfold prods
  simp only [← v12_at]
  unfold val_main_v14
  generalize val_main_v12 (F := Ideal) X G = Y
  pointwise []

end Cert.Reference4Ideal.Fwd

end
-- ==== Proof.FwdEqual.lean ====
module

public import proofs.«01_k».proof.Proof.Fwd
public import proofs.«01_k».proof.Proof.FwdPay
public import proofs.«01_k».proof.Proof.Gen.Kernel4.Launch
public import proofs.«01_k».proof.Proof.Gen.Reference4Ideal.Run
public import proofs.«01_k».proof.Defs
public import Idealize.ShloMosaic.Lib.KernelVsHost

/-! The forward projection: the arrays the launch leaves, and the claims. -/

@[expose] public section

set_option maxRecDepth 65536

noncomputable section

namespace Cert.Kernel4Ideal.Fwd

open Cert.Kernel4Ideal Cert.Kernel4Ideal.Gen
open Idealize.ShloMosaic Idealize.ShloMosaic.TcCoe Idealize.ShloMosaic.Tactic Idealize.SL.Sem
open Cert.Kernel2Ideal.Weight (place)
open Cert.Kernel3Ideal.Mix (hz2 hz3 arr3 weight)
open Idealize.ShloMosaic.Pipeline (Dat Cfg Window)

/-! ### The blocks a point leaves -/

section Left

variable {F : FTy → Type} [FloatOps F] (m : (ℓ : Loc nD τ sig) → Buf (Elt F) ℓ) (ρ : Dev nD → PrngReg) (c : Dev nD) (t : Fin cfg0.N)

theorem leftA_u (h : cond0_0 (grid0.coords t)) : (leftA m c t h).u = k0_pay6 (iblk m c 0 t) (iblk m c 3 t) := by
  unfold leftA
  dsimp only
  rw [View.read_writes_eq_canon _ _ _ (coverA_17 m c t h)]
  unfold atA runA
  dsimp only
  sl_unfold_words
  rw [View.canon_unit_zero hz3]
  simp only [View.readAt_eq_ld, (hs0_0 t).read_unread, (hs0_3 t).read_unread, View.ld_unit_zero (S := S1x512x1024) hz3,
    View.ld_unit_zero (S := S1x1024) hz2]

theorem leftA_z (h : cond0_0 (grid0.coords t)) : (leftA m c t h).z = k0_pay8 (iblk m c 0 t) (iblk m c 3 t) (iblk m c 4 t) := by
  unfold leftA
  dsimp only
  rw [View.read_writes_eq_canon _ _ _ (coverA_18 m c t h)]
  unfold atA runA
  dsimp only
  sl_unfold_words
  rw [View.canon_unit_zero hz3]
  simp only [View.readAt_eq_ld, (hs0_0 t).read_unread, (hs0_3 t).read_unread, (hs0_4 t).read_unread, View.ld_unit_zero (S := S1x512x1024) hz3,
    View.ld_unit_zero (S := S1x1024) hz2, View.ld_unit_zero (S := S1024x3200) hz2]

theorem leftA_r (h : cond0_0 (grid0.coords t)) : (leftA m c t h).r = k0_pay9 (iblk m c 0 t) (iblk m c 3 t) (iblk m c 4 t) := by
  unfold leftA
  dsimp only
  rw [View.read_writes_eq_canon _ _ _ (coverA_19 m c t h)]
  unfold atA runA
  dsimp only
  sl_unfold_words
  rw [View.canon_unit_zero hz3]
  simp only [View.readAt_eq_ld, (hs0_0 t).read_unread, (hs0_3 t).read_unread, (hs0_4 t).read_unread, View.ld_unit_zero (S := S1x512x1024) hz3,
    View.ld_unit_zero (S := S1x1024) hz2, View.ld_unit_zero (S := S1024x3200) hz2]

theorem leftB_u (h : ¬cond0_0 (grid0.coords t)) (y : Vec F S8x1792 .f32) : (leftB m c t h y).u = k0_pay6 (iblk m c 0 t) (iblk m c 3 t) := by
  unfold leftB
  dsimp only
  rw [View.read_writes_eq_canon _ _ _ (coverB_17 m c t h y)]
  unfold atB runB
  dsimp only
  sl_unfold_words
  rw [View.canon_unit_zero hz3]
  simp only [View.readAt_eq_ld, (hs0_0 t).read_unread, (hs0_3 t).read_unread, View.ld_unit_zero (S := S1x512x1024) hz3,
    View.ld_unit_zero (S := S1x1024) hz2]

theorem leftB_z (h : ¬cond0_0 (grid0.coords t)) (y : Vec F S8x1792 .f32) : (leftB m c t h y).z = k0_pay8 (iblk m c 0 t) (iblk m c 3 t) (iblk m c 4 t) := by
  unfold leftB
  dsimp only
  rw [View.read_writes_eq_canon _ _ _ (coverB_18 m c t h y)]
  unfold atB runB
  dsimp only
  sl_unfold_words
  rw [View.canon_unit_zero hz3]
  simp only [View.readAt_eq_ld, (hs0_0 t).read_unread, (hs0_3 t).read_unread, (hs0_4 t).read_unread, View.ld_unit_zero (S := S1x512x1024) hz3,
    View.ld_unit_zero (S := S1x1024) hz2, View.ld_unit_zero (S := S1024x3200) hz2]

theorem leftB_r (h : ¬cond0_0 (grid0.coords t)) (y : Vec F S8x1792 .f32) : (leftB m c t h y).r = k0_pay9 (iblk m c 0 t) (iblk m c 3 t) (iblk m c 4 t) := by
  unfold leftB
  dsimp only
  rw [View.read_writes_eq_canon _ _ _ (coverB_19 m c t h y)]
  unfold atB runB
  dsimp only
  sl_unfold_words
  rw [View.canon_unit_zero hz3]
  simp only [View.readAt_eq_ld, (hs0_0 t).read_unread, (hs0_3 t).read_unread, (hs0_4 t).read_unread, View.ld_unit_zero (S := S1x512x1024) hz3,
    View.ld_unit_zero (S := S1x1024) hz2, View.ld_unit_zero (S := S1024x3200) hz2]

theorem left_u : (left m c t.val t.isLt).u = k0_pay6 (iblk m c 0 t) (iblk m c 3 t) := by
  by_cases h : t.val % 4 = 0
  · exact (congrArg Left.u (left_first m c t h)).trans (leftA_u m c t _)
  · exact (congrArg Left.u (left_next m c t h)).trans (leftB_u m c t _ _)

theorem left_z : (left m c t.val t.isLt).z = k0_pay8 (iblk m c 0 t) (iblk m c 3 t) (iblk m c 4 t) := by
  by_cases h : t.val % 4 = 0
  · exact (congrArg Left.z (left_first m c t h)).trans (leftA_z m c t _)
  · exact (congrArg Left.z (left_next m c t h)).trans (leftB_z m c t _ _)

theorem left_r : (left m c t.val t.isLt).r = k0_pay9 (iblk m c 0 t) (iblk m c 3 t) (iblk m c 4 t) := by
  by_cases h : t.val % 4 = 0
  · exact (congrArg Left.r (left_first m c t h)).trans (leftA_r m c t _)
  · exact (congrArg Left.r (left_next m c t h)).trans (leftB_r m c t _ _)

end Left

/-- From any memory the arguments end unchanged, and no semaphore holds anything; nothing is asked of the memory. -/
def Quiet (F : FTy → Type) [FloatOps F] : Prop := ∀ (m : (ℓ : Loc nD τ sig) → Buf (Elt F) ℓ) (ρ : Dev nD → PrngReg), True →
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) ∧ r.2.sem = fun _ => 0)

theorem quiet {F : FTy → Type} [FloatOps F] : Quiet F := fun m ρ _ =>
  θ_run_and (frame_of m ρ (dats m) (arr_entry m) ((θ_run _ _ _).mono (fun _ h => h.1) (run_all m ρ)))
    ((θ_run _ _ _).mono (fun _ h => h.2) (run_all m ρ))

/-! ### The arrays -/

section Arrays

variable (m : (ℓ : Loc nD τ sig) → Buf (Elt Ideal) ℓ) (c : Dev nD)

/-- The normalised rows, of the arrays at the region's entry. -/
abbrev gU : Fin 4 → Fin 2048 → Fin 1024 → EReal := rows (V m c main_arg0) (V m c main_arg3)
/-- The projection in the program's column order. -/
abbrev gP : Fin 4 → Fin 2048 → Fin 3200 → EReal := prods (N := 3200) (V m c main_arg0) (V m c main_arg3) (V m c main_v17)
/-- Its first columns. -/
abbrev gZ : Fin 4 → Fin 2048 → Fin 1024 → EReal := fun b s j => gP m c b s ⟨j.val, by omega⟩
/-- The rest. -/
abbrev gR : Fin 4 → Fin 2048 → Fin 2176 → EReal := fun b s j => gP m c b s ⟨1024 + j.val, by omega⟩

theorem out_u (t : Fin cfg0.N) (r : Fin 512) (n : Fin 1024) : (left m c t.val t.isLt).u (ix3 0 r n) = gU m c (bt t) (ps t r) n := by
  rw [left_u, pay6_at]
  simp only [blk0, blk3]
  rfl

theorem pay7_blk (t : Fin cfg0.N) (r : Fin 512) (j : Fin 3200) :
    k0_pay7 (F := Ideal) (iblk m c 0 t) (iblk m c 3 t) (iblk m c 4 t) (ix2 r j) = gP m c (bt t) (ps t r) j := by
  rw [pay7_at]
  simp only [blk0, blk3, blk4]
  rfl

theorem out_z (t : Fin cfg0.N) (r : Fin 512) (j : Fin 1024) : (left m c t.val t.isLt).z (ix3 0 r j) = gZ m c (bt t) (ps t r) j := by
  rw [left_z, pay8_at, pay7_blk]

theorem out_r (t : Fin cfg0.N) (r : Fin 512) (j : Fin 2176) : (left m c t.val t.isLt).r (ix3 0 r j) = gR m c (bt t) (ps t r) j := by
  rw [left_r, pay9_at, pay7_blk]

theorem final17 : (dats m 0 c).arrAt 17 cfg0.N = arr3 (gU m c) := by
  refine (dats m 0 c).arrAt_eq_of_covers 17 _ (by decide +kernel) fun t hf y => ?_
  blk_simp
  rw [after_17]
  have hy : y = ix3 0 (y 1) (y 2) := by funext u; fin_cases u <;> first | rfl | exact Subsingleton.elim (α := Fin 1) _ _
  refine (congrArg _ hy).trans ((show _ = arr3 (gU m c) (ix3 (bt t) (ps t (y 1)) (y 2)) from out_u m c t (y 1) (y 2)).trans ?_)
  generalize arr3 (gU m c) = f
  blk_ext [idx17 t]

theorem final18 : (dats m 0 c).arrAt 18 cfg0.N = arr3 (gZ m c) := by
  refine (dats m 0 c).arrAt_eq_of_covers 18 _ (by decide +kernel) fun t hf y => ?_
  blk_simp
  rw [after_18]
  have hy : y = ix3 0 (y 1) (y 2) := by funext u; fin_cases u <;> first | rfl | exact Subsingleton.elim (α := Fin 1) _ _
  refine (congrArg _ hy).trans ((show _ = arr3 (gZ m c) (ix3 (bt t) (ps t (y 1)) (y 2)) from out_z m c t (y 1) (y 2)).trans ?_)
  generalize arr3 (gZ m c) = f
  blk_ext [idx18 t]

theorem final19 : (dats m 0 c).arrAt 19 cfg0.N = arr3 (gR m c) := by
  refine (dats m 0 c).arrAt_eq_of_covers 19 _ (by decide +kernel) fun t hf y => ?_
  blk_simp
  rw [after_19]
  have hy : y = ix3 0 (y 1) (y 2) := by funext u; fin_cases u <;> first | rfl | exact Subsingleton.elim (α := Fin 1) _ _
  refine (congrArg _ hy).trans ((show _ = arr3 (gR m c) (ix3 (bt t) (ps t (y 1)) (y 2)) from out_r m c t (y 1) (y 2)).trans ?_)
  generalize arr3 (gR m c) = f
  blk_ext [idx19 t]

theorem tail : Pipeline.afterTail₀ cfgs (dats m) 0 (V0 m) [hostOps1] c main_v42 = joined (arr3 (gR m c)) (arr3 (gZ m c)) := by
  unfold Pipeline.afterTail₀
  rw [show ([hostOps1] : List (List (HloOp τ sig (Elt Ideal)))).flatten = hostOps1 from rfl, last_v42]
  refine congrArg₂ joined (Eq.trans ?_ (final19 m c)) (Eq.trans ?_ (final18 m c))
  · exact (dats m 0 c).withArrays_arrAt (Pipeline.SharedIn.of_injective launch0.win.arr_inj) (V0 m c) (arr_entry m c) 19
  · exact (dats m 0 c).withArrays_arrAt (Pipeline.SharedIn.of_injective launch0.win.arr_inj) (V0 m c) (arr_entry m c) 18

theorem gP_place (b : Fin 4) (s : Fin 2048) (n : Fin 3136) : gP m c b s (place n)
    = prods (N := 3136) (m ((c.tc : Thread nD τ).loc main_arg0)) (m ((c.tc : Thread nD τ).loc main_arg3)) (m ((c.tc : Thread nD τ).loc main_arg4)) b s n := by
  unfold gP prods
  rw [V_main_arg0, V_main_arg3]
  refine Finset.sum_congr rfl fun k _ => congrArg _ ?_
  exact (V_main_v17 m c k (place n)).trans (weight_place _ n k)

theorem value_u : arr3 (gU m c) = Cert.Reference4Ideal.Read.val_main_v13 (F := Ideal) (m ((c.tc : Thread nD τ).loc main_arg0)) (m ((c.tc : Thread nD τ).loc main_arg3)) := by
  funext y
  have hy : y = ix3 (y 0) (y 1) (y 2) := by funext u; fin_cases u <;> rfl
  unfold gU
  rw [V_main_arg0, V_main_arg3]
  exact (Cert.Reference4Ideal.Fwd.v13_at _ _ (y 0) (y 1) (y 2)).symm.trans (congrArg _ hy.symm)

theorem value_p : joined (arr3 (gR m c)) (arr3 (gZ m c)) = Cert.Reference4Ideal.Read.val_main_v14 (F := Ideal)
    (m ((c.tc : Thread nD τ).loc main_arg0)) (m ((c.tc : Thread nD τ).loc main_arg3)) (m ((c.tc : Thread nD τ).loc main_arg4)) := by
  funext y
  have hy : y = ix3 (y 0) (y 1) (y 2) := by funext u; fin_cases u <;> rfl
  rw [hy]
  refine (joined_at (gP m c) _ _ (fun _ _ _ => rfl) (fun _ _ _ => rfl) (y 0) (y 1) (y 2)).trans ?_
  exact (gP_place m c (y 0) (y 1) (y 2)).trans (Cert.Reference4Ideal.Fwd.v14_at _ _ _ (y 0) (y 1) (y 2)).symm

end Arrays

end Cert.Kernel4Ideal.Fwd

namespace Cert.Proof

open Idealize.ShloMosaic Idealize.ShloMosaic.Tactic Idealize.SL.Sem

/-- The idealization has the kernel's text: read over words, it makes the kernel's claim. -/
theorem words4 : Cert.quiescent_Kernel4 = Cert.Kernel4Ideal.Fwd.Quiet Bits := by
  sl_kernel_rfl

theorem kernel4_quiet : Cert.quiescent_Kernel4 := words4.symm ▸ Cert.Kernel4Ideal.Fwd.quiet

theorem ideal4_quiet : Cert.quiescent_Kernel4Ideal := Cert.Kernel4Ideal.Fwd.quiet (F := Ideal)

theorem reference4_quiet : Cert.quiescent_Reference4Ideal := fun m g _ =>
  (θ_run _ _ _).mono (fun r h => ⟨fun c => (h c).2.2, sem_eq_zero_of_no_sems rfl r.2⟩) (Cert.Reference4Ideal.Value.run (F := Ideal) m g)

open Cert.Kernel4Ideal Cert.Kernel4Ideal.Gen Cert.Kernel4Ideal.Fwd in
theorem equal4 : Cert.algebraic_Kernel4Ideal_Reference4Ideal := fun m g m' g' _ ha => by
  refine ⟨fun c => (dats m 0 c).arrAt 17 cfg0.N, fun c => joined (Cert.Kernel3Ideal.Mix.arr3 (gR m c)) (Cert.Kernel3Ideal.Mix.arr3 (gZ m c)), ?_, ?_⟩
  · refine (θ_run _ _ _).mono (fun r h c => ?_) (θ_run_and (run_all m g) (quiet m g trivial))
    exact ⟨(h.1.1 c).1 17, ((h.1.1 c).2 main_v42 (Pipeline.mem_restRefs_of main_v42 (by decide) (by decide))).trans (tail m c), h.2.1 c⟩
  · refine (θ_run _ _ _).mono (fun r h c => ?_) (Cert.Reference4Ideal.Value.run (F := Ideal) m' g')
    obtain ⟨e0, e1, e2, e3, e4, e5⟩ := ha c
    refine ⟨(h c).1.trans ?_, (h c).2.1.trans ?_, (h c).2.2⟩
    · refine (Cert.Reference4Ideal.Read.val_main_v13_eq _ _).trans ?_
      rw [e0, e3]
      exact ((final17 m c).trans (value_u m c)).symm
    · refine (Cert.Reference4Ideal.Read.val_main_v14_eq _ _ _).trans ?_
      rw [e0, e3, e4]
      exact (value_p m c).symm

end Cert.Proof

end
-- ==== Proof.lean ====
module

public import proofs.«01_k».proof.Defs
public import proofs.«01_k».proof.Proof.Claims
public import proofs.«01_k».proof.Proof.WeightHost
public import proofs.«01_k».proof.Proof.MixEqual
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Reference3Ideal.Run
public import proofs.«01_k».proof.Proof.FwdEqual
public import proofs.«01_k».proof.Proof.Gen.Kernel4.Launch
public import proofs.«01_k».proof.Proof.Gen.Reference4Ideal.Read
public import proofs.«01_k».proof.Proof.Gen.Reference4Ideal.Run

@[expose] public section

noncomputable section

namespace Cert.Proof

attribute [local instance] Cert.Pre_finite.facts Cert.Pre_finite3.facts

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Pre_finite.facts, Cert.Pre_finite3.facts,
    kernel_quiet, ideal_quiet, fun m g _ => ideal_quiet m g trivial, reference_quiet, fun m g _ => reference_quiet m g trivial,
    fun m g _ => Cert.Kernel2.Gen.frame m g, fun m g _ => Cert.Kernel2Ideal.Gen.frame m g, reference2_quiet,
    fun m g _ => Cert.Kernel3.Gen.frame m g, fun m g _ => Cert.Kernel3Ideal.Gen.frame m g, fun m g _ => Cert.Kernel3Ideal.Gen.frame m g,
    reference3_quiet, fun m g _ => reference3_quiet m g trivial,
    kernel4_quiet, ideal4_quiet, reference4_quiet,
    preserved, equal, trivial, equal2, trivial, equal3, trivial, equal4⟩

end Cert.Proof

end
